-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 8192, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = Layout.block ⟨3, ![2, 256, 512]⟩ ⟨3, ![2, 8192, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v77) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S2x256x512 1 × IVec S512x256 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  (main_v2, main_v5)
-- ==== Pre_finite_ReferenceIdeal.lean ====
abbrev S2x8192x512 : Shape := ⟨3, ![2, 8192, 512]⟩
abbrev S512x256 : Shape := ⟨2, ![512, 256]⟩
abbrev S2x8192x4x64 : Shape := ⟨4, ![2, 8192, 4, 64]⟩
abbrev S256x512 : Shape := ⟨2, ![256, 512]⟩
abbrev S_ : Shape := ⟨0, ![]⟩

class Facts : Prop where
  bcast_S_S2x8192x512 : S_.BroadcastsInDim S2x8192x512 (![] : Fin 0 → Fin S2x8192x512.rank)
  bcast_S_S512x256 : S_.BroadcastsInDim S512x256 (![] : Fin 0 → Fin S512x256.rank)

variable [Facts]

def fn {F : FTy → Type} [FloatOps F] (main_arg0 : FVec F S2x8192x512 .f32) (main_arg1 : FVec F S512x256 .f32) (main_arg2 : FVec F S2x8192x4x64 .f32) (main_arg3 : FVec F S2x8192x4x64 .f32) (main_arg4 : FVec F S256x512 .f32) : IVec S2x8192x512 1 × IVec S512x256 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  (main_v2, main_v5)
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x256x256 : Shape := ⟨3, ![2, 256, 256]⟩
abbrev S_ : Shape := ⟨0, ![]⟩
abbrev S2x256 : Shape := ⟨2, ![2, 256]⟩
abbrev S2x256x1 : Shape := ⟨3, ![2, 256, 1]⟩
abbrev S2x1x256 : Shape := ⟨3, ![2, 1, 256]⟩
abbrev S2x2x256 : Shape := ⟨3, ![2, 2, 256]⟩
abbrev S2x4x256x1 : Shape := ⟨4, ![2, 4, 256, 1]⟩
abbrev S17x2x256x256 : Shape := ⟨4, ![17, 2, 256, 256]⟩
abbrev S17x2x2x256 : Shape := ⟨4, ![17, 2, 2, 256]⟩
abbrev S16x2x256x256 : Shape := ⟨4, ![16, 2, 256, 256]⟩
abbrev S16x2x2x256 : Shape := ⟨4, ![16, 2, 2, 256]⟩
abbrev S16 : Shape := ⟨1, ![16]⟩
abbrev S15 : Shape := ⟨1, ![15]⟩
abbrev S1x256x512 : Shape := ⟨3, ![1, 256, 512]⟩
abbrev S256x256 : Shape := ⟨2, ![256, 256]⟩
abbrev S1x256x256 : Shape := ⟨3, ![1, 256, 256]⟩
abbrev S1x2x256x256 : Shape := ⟨4, ![1, 2, 256, 256]⟩
abbrev S1x2x2x256 : Shape := ⟨4, ![1, 2, 2, 256]⟩
abbrev S1 : Shape := ⟨1, ![1]⟩
abbrev S1x1x256 : Shape := ⟨3, ![1, 1, 256]⟩
abbrev S1x256 : Shape := ⟨2, ![1, 256]⟩
abbrev S1x256x64 : Shape := ⟨3, ![1, 256, 64]⟩
abbrev S256x64 : Shape := ⟨2, ![256, 64]⟩
abbrev S1x1x256x1 : Shape := ⟨4, ![1, 1, 256, 1]⟩
abbrev S256x1 : Shape := ⟨2, ![256, 1]⟩
abbrev S256 : Shape := ⟨1, ![256]⟩
abbrev S1x1x256x256 : Shape := ⟨4, ![1, 1, 256, 256]⟩
abbrev S1x1x1x256 : Shape := ⟨4, ![1, 1, 1, 256]⟩

abbrev nBuf : Space → Nat
  | .hbm => 57
  | .vmem => 16
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S_, .f32⟩
  | .hbm, ⟨9, _⟩ => ⟨S2x256, .f32⟩
  | .hbm, ⟨10, _⟩ => ⟨S_, .f32⟩
  | .hbm, ⟨11, _⟩ => ⟨S2x256, .f32⟩
  | .hbm, ⟨12, _⟩ => ⟨S2x256, .f32⟩
  | .hbm, ⟨13, _⟩ => ⟨S_, .f32⟩
  | .hbm, ⟨14, _⟩ => ⟨S2x256, .f32⟩
  | .hbm, ⟨15, _⟩ => ⟨S2x256, .f32⟩
  | .hbm, ⟨16, _⟩ => ⟨S2x256x1, .f32⟩
  | .hbm, ⟨17, _⟩ => ⟨S2x256x256, .f32⟩
  | .hbm, ⟨18, _⟩ => ⟨S2x256x256, .f32⟩
  | .hbm, ⟨19, _⟩ => ⟨S2x256x256, .f32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S_, .f32⟩
  | .hbm, ⟨26, _⟩ => ⟨S2x256x256, .f32⟩
  | .hbm, ⟨27, _⟩ => ⟨S2x256x256, .f32⟩
  | .hbm, ⟨28, _⟩ => ⟨S2x256x256, .i32⟩
  | .hbm, ⟨29, _⟩ => ⟨S2x256x256, .i8⟩
  | .hbm, ⟨30, _⟩ => ⟨S2x256x256, .f32⟩
  | .hbm, ⟨31, _⟩ => ⟨S_, .f32⟩
  | .hbm, ⟨32, _⟩ => ⟨S2x256, .f32⟩
  | .hbm, ⟨33, _⟩ => ⟨S_, .f32⟩
  | .hbm, ⟨34, _⟩ => ⟨S2x256, .f32⟩
  | .hbm, ⟨35, _⟩ => ⟨S2x256, .f32⟩
  | .hbm, ⟨36, _⟩ => ⟨S_, .f32⟩
  | .hbm, ⟨37, _⟩ => ⟨S2x256, .f32⟩
  | .hbm, ⟨38, _⟩ => ⟨S2x256, .f32⟩
  | .hbm, ⟨39, _⟩ => ⟨S2x256x1, .f32⟩
  | .hbm, ⟨40, _⟩ => ⟨S2x256x256, .f32⟩
  | .hbm, ⟨41, _⟩ => ⟨S2x256x256, .f32⟩
  | .hbm, ⟨42, _⟩ => ⟨S2x256x256, .f32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S2x256x256, .f32⟩
  | .hbm, ⟨47, _⟩ => ⟨S2x256x256, .f32⟩
  | .hbm, ⟨48, _⟩ => ⟨S_, .f32⟩
  | .hbm, ⟨49, _⟩ => ⟨S2x256x256, .f32⟩
  | .hbm, ⟨50, _⟩ => ⟨S2x256x256, .f32⟩
  | .hbm, ⟨51, _⟩ => ⟨S2x256x256, .i32⟩
  | .hbm, ⟨52, _⟩ => ⟨S2x256x256, .i8⟩
  | .hbm, ⟨53, _⟩ => ⟨S2x1x256, .f32⟩
  | .hbm, ⟨54, _⟩ => ⟨S2x1x256, .f32⟩
  | .hbm, ⟨55, _⟩ => ⟨S2x2x256, .f32⟩
  | .hbm, ⟨56, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x256, .i8⟩
  | .local _ .vmem, ⟨3, _⟩ => ⟨S2x256x256, .i8⟩
  | .local _ .vmem, ⟨4, _⟩ => ⟨S2x2x256, .f32⟩
  | .local _ .vmem, ⟨5, _⟩ => ⟨S256x512, .f32⟩
  | .local _ .vmem, ⟨6, _⟩ => ⟨S2x256x512, .f32⟩
  | .local _ .vmem, ⟨7, _⟩ => ⟨S2x256x256, .bf16⟩
  | .local _ .vmem, ⟨8, _⟩ => ⟨S2x256x256, .f32⟩
  | .local _ .vmem, ⟨9, _⟩ => ⟨S2x4x256x1, .f32⟩
  | .local _ .vmem, ⟨10, _⟩ => ⟨S17x2x256x256, .i8⟩
  | .local _ .vmem, ⟨11, _⟩ => ⟨S17x2x256x256, .i8⟩
  | .local _ .vmem, ⟨12, _⟩ => ⟨S17x2x2x256, .f32⟩
  | .local _ .vmem, ⟨13, _⟩ => ⟨S16x2x256x256, .i8⟩
  | .local _ .vmem, ⟨14, _⟩ => ⟨S16x2x256x256, .i8⟩
  | .local _ .vmem, ⟨15, _⟩ => ⟨S16x2x2x256, .f32⟩
  | _, _ => ⟨S2x256x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 193 → Bool
  | ⟨i, _⟩ => dmaSemScopedAt i

abbrev sig : RefSig :=
  (ofTc nBuf bufTy 1 193 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_c_7 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_96 : BitVec 32 := 1#32
  let v128 : BitVec 32 := Scalar.muli v7 c1_i32_96
  let v129 : BitVec 32 := Scalar.addi c0_i32_97 v128
  v129.toNat
def k0_dev4 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_108 : BitVec 32 := 1#32
  let v138 : BitVec 32 := Scalar.muli v7 c1_i32_108
  let v139 : BitVec 32 := Scalar.addi c0_i32_109 v138
  v139.toNat
def k0_dev5 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_120 : BitVec 32 := 1#32
  let v148 : BitVec 32 := Scalar.muli v7 c1_i32_120
  let v149 : BitVec 32 := Scalar.addi c0_i32_121 v148
  v149.toNat
def k0_dev6 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_131 : BitVec 32 := 1#32
  let v158 : BitVec 32 := Scalar.muli v5 c1_i32_131
  let v159 : BitVec 32 := Scalar.addi c0_i32_132 v158
  v159.toNat
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_143 : BitVec 32 := 1#32
  let v168 : BitVec 32 := Scalar.muli v5 c1_i32_143
  let v169 : BitVec 32 := Scalar.addi c0_i32_144 v168
  v169.toNat
def k0_dev8 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_155 : BitVec 32 := 1#32
  let v178 : BitVec 32 := Scalar.muli v5 c1_i32_155
  let v179 : BitVec 32 := Scalar.addi c0_i32_156 v178
  v179.toNat
@[reducible] def k0_t1_loop : Scf.Loop 32 :=
  let c1_i32_488 : BitVec 32 := 1#32
  let c14_i32 : BitVec 32 := 14#32
  let v508 : BitVec 32 := Scalar.addi c1_i32_488 c14_i32
  let c1_i32_489 : BitVec 32 := 1#32
  ⟨c1_i32_488, v508, c1_i32_489⟩
def k0_off1 (k0_t1 : Fin k0_t1_loop.trips) : Fin 1 → Nat :=
  let c1_i32_488 : BitVec 32 := 1#32
  let c1_i32_489 : BitVec 32 := 1#32
  let arg28 : BitVec 32 := Scf.iv c1_i32_488 c1_i32_489 k0_t1
  ![arg28.toNat]
def k0_off2 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c0_i32_1296 : BitVec 32 := 0#32
  let c0_i32_1297 : BitVec 32 := 0#32
  let c0_i32_1298 : BitVec 32 := 0#32
  ![arg28.toNat, 0, 0, 0]
def k0_off3 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1293 : BitVec 32 := 1#32
  let v1377 : BitVec 32 := Scalar.subi arg28 c1_i32_1293
  let c0_i32_1299 : BitVec 32 := 0#32
  let c0_i32_1300 : BitVec 32 := 0#32
  let c0_i32_1301 : BitVec 32 := 0#32
  ![v1377.toNat, 0, 0, 0]
def k0_dev9 (d0 : Dev nD) : Nat :=
  let c0_i32_1295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1294 : BitVec 32 := 1#32
  let v1378 : BitVec 32 := Scalar.muli v7 c1_i32_1294
  let v1379 : BitVec 32 := Scalar.addi c0_i32_1295 v1378
  v1379.toNat
def k0_dev10 (d0 : Dev nD) : Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1302 : BitVec 32 := 1#32
  let v1388 : BitVec 32 := Scalar.muli v7 c1_i32_1302
  let v1389 : BitVec 32 := Scalar.addi c0_i32_1303 v1388
  v1389.toNat
def k0_off4 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c0_i32_1312 : BitVec 32 := 0#32
  let c0_i32_1313 : BitVec 32 := 0#32
  let c0_i32_1314 : BitVec 32 := 0#32
  ![arg28.toNat, 0, 0, 0]
def k0_off5 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1293 : BitVec 32 := 1#32
  let v1377 : BitVec 32 := Scalar.subi arg28 c1_i32_1293
  let c0_i32_1315 : BitVec 32 := 0#32
  let c0_i32_1316 : BitVec 32 := 0#32
  let c0_i32_1317 : BitVec 32 := 0#32
  ![v1377.toNat, 0, 0, 0]
def k0_dev11 (d0 : Dev nD) : Nat :=
  let c0_i32_1311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1310 : BitVec 32 := 1#32
  let v1398 : BitVec 32 := Scalar.muli v7 c1_i32_1310
  let v1399 : BitVec 32 := Scalar.addi c0_i32_1311 v1398
  v1399.toNat
def k0_off6 (k0_t1 : Fin k0_t1_loop.trips) : Fin 1 → Nat :=
  let c1_i32_488 : BitVec 32 := 1#32
  let c1_i32_489 : BitVec 32 := 1#32
  let arg28 : BitVec 32 := Scf.iv c1_i32_488 c1_i32_489 k0_t1
  ![arg28.toNat]
def k0_off7 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c0_i32_1321 : BitVec 32 := 0#32
  let c0_i32_1322 : BitVec 32 := 0#32
  let c0_i32_1323 : BitVec 32 := 0#32
  ![arg28.toNat, 0, 0, 0]
def k0_off8 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1318 : BitVec 32 := 1#32
  let v1408 : BitVec 32 := Scalar.subi arg28 c1_i32_1318
  let c0_i32_1324 : BitVec 32 := 0#32
  let c0_i32_1325 : BitVec 32 := 0#32
  let c0_i32_1326 : BitVec 32 := 0#32
  ![v1408.toNat, 0, 0, 0]
def k0_dev12 (d0 : Dev nD) : Nat :=
  let c0_i32_1320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1319 : BitVec 32 := 1#32
  let v1409 : BitVec 32 := Scalar.muli v5 c1_i32_1319
  let v1410 : BitVec 32 := Scalar.addi c0_i32_1320 v1409
  v1410.toNat
def k0_dev13 (d0 : Dev nD) : Nat :=
  let c0_i32_1328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1327 : BitVec 32 := 1#32
  let v1419 : BitVec 32 := Scalar.muli v5 c1_i32_1327
  let v1420 : BitVec 32 := Scalar.addi c0_i32_1328 v1419
  v1420.toNat
def k0_off9 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c0_i32_1337 : BitVec 32 := 0#32
  let c0_i32_1338 : BitVec 32 := 0#32
  let c0_i32_1339 : BitVec 32 := 0#32
  ![arg28.toNat, 0, 0, 0]
def k0_off10 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1318 : BitVec 32 := 1#32
  let v1408 : BitVec 32 := Scalar.subi arg28 c1_i32_1318
  let c0_i32_1340 : BitVec 32 := 0#32
  let c0_i32_1341 : BitVec 32 := 0#32
  let c0_i32_1342 : BitVec 32 := 0#32
  ![v1408.toNat, 0, 0, 0]
def k0_dev14 (d0 : Dev nD) : Nat :=
  let c0_i32_1336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1335 : BitVec 32 := 1#32
  let v1429 : BitVec 32 := Scalar.muli v5 c1_i32_1335
  let v1430 : BitVec 32 := Scalar.addi c0_i32_1336 v1429
  v1430.toNat
def k0_off11 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1343 : BitVec 32 := 1#32
  let v1439 : BitVec 32 := Scalar.subi arg28 c1_i32_1343
  let v1440 : Index := Scalar.indexCast v1439
  let c0_1344 : Index := 0#32
  let c0_1345 : Index := 0#32
  let c0_1346 : Index := 0#32
  ![v1440.toNat, 0, 0, 0]
def k0_off12 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1343 : BitVec 32 := 1#32
  let v1439 : BitVec 32 := Scalar.subi arg28 c1_i32_1343
  let v1448 : Index := Scalar.indexCast v1439
  let c0_1350 : Index := 0#32
  let c0_1351 : Index := 0#32
  let c0_1352 : Index := 0#32
  ![v1448.toNat, 0, 0, 0]
def k0_off13 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1343 : BitVec 32 := 1#32
  let v1439 : BitVec 32 := Scalar.subi arg28 c1_i32_1343
  let v1451 : Index := Scalar.indexCast v1439
  let c0_1353 : Index := 0#32
  let c1_1354 : Index := 1#32
  let c0_1355 : Index := 0#32
  ![v1451.toNat, 0, 1, 0]
def k0_off14 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1343 : BitVec 32 := 1#32
  let v1439 : BitVec 32 := Scalar.subi arg28 c1_i32_1343
  let v1454 : Index := Scalar.indexCast v1439
  let c1_1356 : Index := 1#32
  let c0_1357 : Index := 0#32
  let c0_1358 : Index := 0#32
  ![v1454.toNat, 1, 0, 0]
def k0_off15 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1343 : BitVec 32 := 1#32
  let v1439 : BitVec 32 := Scalar.subi arg28 c1_i32_1343
  let v1462 : Index := Scalar.indexCast v1439
  let c1_1362 : Index := 1#32
  let c0_1363 : Index := 0#32
  let c0_1364 : Index := 0#32
  ![v1462.toNat, 1, 0, 0]
def k0_off16 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1343 : BitVec 32 := 1#32
  let v1439 : BitVec 32 := Scalar.subi arg28 c1_i32_1343
  let v1465 : Index := Scalar.indexCast v1439
  let c1_1365 : Index := 1#32
  let c1_1366 : Index := 1#32
  let c0_1367 : Index := 0#32
  ![v1465.toNat, 1, 1, 0]
def k0_off17 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1536 : BitVec 32 := 1#32
  let v1684 : BitVec 32 := Scalar.subi arg28 c1_i32_1536
  let v1685 : Index := Scalar.indexCast v1684
  let c0_1537 : Index := 0#32
  let c0_1538 : Index := 0#32
  let c0_1539 : Index := 0#32
  ![v1685.toNat, 0, 0, 0]
def k0_off18 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1536 : BitVec 32 := 1#32
  let v1684 : BitVec 32 := Scalar.subi arg28 c1_i32_1536
  let v1693 : Index := Scalar.indexCast v1684
  let c0_1543 : Index := 0#32
  let c0_1544 : Index := 0#32
  let c0_1545 : Index := 0#32
  ![v1693.toNat, 0, 0, 0]
def k0_off19 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1536 : BitVec 32 := 1#32
  let v1684 : BitVec 32 := Scalar.subi arg28 c1_i32_1536
  let v1696 : Index := Scalar.indexCast v1684
  let c0_1546 : Index := 0#32
  let c1_1547 : Index := 1#32
  let c0_1548 : Index := 0#32
  ![v1696.toNat, 0, 1, 0]
def k0_off20 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1536 : BitVec 32 := 1#32
  let v1684 : BitVec 32 := Scalar.subi arg28 c1_i32_1536
  let v1699 : Index := Scalar.indexCast v1684
  let c1_1549 : Index := 1#32
  let c0_1550 : Index := 0#32
  let c0_1551 : Index := 0#32
  ![v1699.toNat, 1, 0, 0]
def k0_off21 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1536 : BitVec 32 := 1#32
  let v1684 : BitVec 32 := Scalar.subi arg28 c1_i32_1536
  let v1707 : Index := Scalar.indexCast v1684
  let c1_1555 : Index := 1#32
  let c0_1556 : Index := 0#32
  let c0_1557 : Index := 0#32
  ![v1707.toNat, 1, 0, 0]
def k0_off22 (k0_t1 : Fin k0_t1_loop.trips) : Fin 4 → Nat :=
  let c1_i32_488 : BitVec 32 := 1#32
  let c1_i32_489 : BitVec 32 := 1#32
  let arg28 : BitVec 32 := Scf.iv c1_i32_488 c1_i32_489 k0_t1
  let c1_i32_1536 : BitVec 32 := 1#32
  let v1684 : BitVec 32 := Scalar.subi arg28 c1_i32_1536
  let v1710 : Index := Scalar.indexCast v1684
  let c1_1558 : Index := 1#32
  let c1_1559 : Index := 1#32
  let c0_1560 : Index := 0#32
  ![v1710.toNat, 1, 1, 0]
def k0_dev15 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_495 : BitVec 32 := 1#32
  let v509 : BitVec 32 := Scalar.muli v7 c1_i32_495
  let v510 : BitVec 32 := Scalar.addi c0_i32_496 v509
  v510.toNat
def k0_dev16 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_507 : BitVec 32 := 1#32
  let v519 : BitVec 32 := Scalar.muli v7 c1_i32_507
  let v520 : BitVec 32 := Scalar.addi c0_i32_508 v519
  v520.toNat
def k0_dev17 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_519 : BitVec 32 := 1#32
  let v529 : BitVec 32 := Scalar.muli v7 c1_i32_519
  let v530 : BitVec 32 := Scalar.addi c0_i32_520 v529
  v530.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S2x8192x512 : Shape := ⟨3, ![2, 8192, 512]⟩
abbrev S512x256 : Shape := ⟨2, ![512, 256]⟩
abbrev S2x8192x4x64 : Shape := ⟨4, ![2, 8192, 4, 64]⟩
abbrev S256x512 : Shape := ⟨2, ![256, 512]⟩
abbrev S2x8192x256 : Shape := ⟨3, ![2, 8192, 256]⟩
abbrev S_ : Shape := ⟨0, ![]⟩
abbrev S2x8192 : Shape := ⟨2, ![2, 8192]⟩
abbrev S2x8192x1 : Shape := ⟨3, ![2, 8192, 1]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x4x8192x8192 : Shape := ⟨4, ![2, 4, 8192, 8192]⟩
abbrev S1x1x8192x8192 : Shape := ⟨4, ![1, 1, 8192, 8192]⟩
abbrev S2x4x8192 : Shape := ⟨3, ![2, 4, 8192]⟩
abbrev S2x4x8192x1 : Shape := ⟨4, ![2, 4, 8192, 1]⟩
abbrev S1x1x8192x1 : Shape := ⟨4, ![1, 1, 8192, 1]⟩
abbrev S2x4x64x8192 : Shape := ⟨4, ![2, 4, 64, 8192]⟩

abbrev nBuf : Space → Nat
  | .hbm => 195
  | .vmem => 0
  | .smem => 0
  | _ => 0

abbrev hbmTy0_0 (i : Nat) : BufTy := match i % 128 with
  | 0 => ⟨S2x8192x512, .f32⟩
  | 1 => ⟨S512x256, .f32⟩
  | 2 => ⟨S2x8192x4x64, .f32⟩
  | 3 => ⟨S2x8192x4x64, .f32⟩
  | 4 => ⟨S256x512, .f32⟩
  | 5 => ⟨S2x8192x256, .f32⟩
  | 6 => ⟨S2x8192x256, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x256, .f32⟩
  | 17 => ⟨S2x8192x256, .f32⟩
  | 18 => ⟨S2x8192x256, .f32⟩
  | 19 => ⟨S_, .i32⟩
  | 20 => ⟨S_, .i32⟩
  | 21 => ⟨S_, .f32⟩
  | 22 => ⟨S2x8192x256, .f32⟩
  | 23 => ⟨S2x8192x256, .f32⟩
  | 24 => ⟨S_, .f32⟩
  | 25 => ⟨S2x8192x256, .f32⟩
  | 26 => ⟨S2x8192x256, .f32⟩
  | 27 => ⟨S2x8192x256, .i32⟩
  | 28 => ⟨S2x8192x256, .i8⟩
  | 29 => ⟨S2x8192x256, .i32⟩
  | 30 => ⟨S2x8192x256, .f32⟩
  | 31 => ⟨S2x8192x256, .f32⟩
  | 32 => ⟨S2x8192x256, .f32⟩
  | 33 => ⟨S2x8192x4x64, .f32⟩
  | 34 => ⟨S2x8192x256, .f32⟩
  | 35 => ⟨S2x8192x256, .f32⟩
  | 36 => ⟨S_, .f32⟩
  | 37 => ⟨S2x8192, .f32⟩
  | 38 => ⟨S2x8192x1, .f32⟩
  | 39 => ⟨S_, .f32⟩
  | 40 => ⟨S2x8192x1, .f32⟩
  | 41 => ⟨S2x8192x1, .f32⟩
  | 42 => ⟨S_, .f32⟩
  | 43 => ⟨S2x8192x1, .f32⟩
  | 44 => ⟨S2x8192x1, .f32⟩
  | 45 => ⟨S2x8192x256, .f32⟩
  | 46 => ⟨S2x8192x256, .f32⟩
  | 47 => ⟨S2x8192x256, .f32⟩
  | 48 => ⟨S_, .i32⟩
  | 49 => ⟨S_, .i32⟩
  | 50 => ⟨S_, .f32⟩
  | 51 => ⟨S2x8192x256, .f32⟩
  | 52 => ⟨S2x8192x256, .f32⟩
  | 53 => ⟨S_, .f32⟩
  | 54 => ⟨S2x8192x256, .f32⟩
  | 55 => ⟨S2x8192x256, .f32⟩
  | 56 => ⟨S2x8192x256, .i32⟩
  | 57 => ⟨S2x8192x256, .i8⟩
  | 58 => ⟨S2x8192x256, .i32⟩
  | 59 => ⟨S2x8192x256, .f32⟩
  | 60 => ⟨S2x8192x256, .f32⟩
  | 61 => ⟨S2x8192x256, .f32⟩
  | 62 => ⟨S2x8192x4x64, .f32⟩
  | 63 => ⟨S2x8192x256, .f32⟩
  | 64 => ⟨S2x8192x4x64, .f32⟩
  | 65 => ⟨S8192, .i32⟩
  | 66 => ⟨S_, .i32⟩
  | 67 => ⟨S_, .i32⟩
  | 68 => ⟨S8192, .i32⟩
  | 69 => ⟨S8192, .i32⟩
  | 70 => ⟨S8192, .i32⟩
  | 71 => ⟨S_, .i32⟩
  | 72 => ⟨S8192, .i32⟩
  | 73 => ⟨S8192, .i1⟩
  | 74 => ⟨S8192, .i32⟩
  | 75 => ⟨S8192, .i32⟩
  | 76 => ⟨S_, .i32⟩
  | 77 => ⟨S8192, .i32⟩
  | 78 => ⟨S8192, .i1⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S8192, .i32⟩
  | 86 => ⟨S_, .i32⟩
  | 87 => ⟨S_, .i32⟩
  | 88 => ⟨S8192, .i32⟩
  | 89 => ⟨S8192, .i32⟩
  | 90 => ⟨S8192, .i32⟩
  | 91 => ⟨S_, .i32⟩
  | 92 => ⟨S8192, .i32⟩
  | 93 => ⟨S8192, .i1⟩
  | 94 => ⟨S8192, .i32⟩
  | 95 => ⟨S8192, .i32⟩
  | 96 => ⟨S_, .i32⟩
  | 97 => ⟨S8192, .i32⟩
  | 98 => ⟨S8192, .i1⟩
  | 99 => ⟨S8192, .i1⟩
  | 100 => ⟨S_, .i32⟩
  | 101 => ⟨S8192, .i32⟩
  | 102 => ⟨S8192, .i32⟩
  | 103 => ⟨S8192, .i32⟩
  | 104 => ⟨S1x8192, .i32⟩
  | 105 => ⟨S8192x8192, .i32⟩
  | 106 => ⟨S8192x8192, .i32⟩
  | 107 => ⟨S8192x8192, .i1⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S1x8192, .i32⟩
  | 115 => ⟨S1x8192, .i32⟩
  | 116 => ⟨S_, .i32⟩
  | 117 => ⟨S1x8192, .i32⟩
  | 118 => ⟨S1x8192, .i1⟩
  | 119 => ⟨S_, .i32⟩
  | 120 => ⟨S1x8192, .i32⟩
  | 121 => ⟨S1x8192, .i1⟩
  | 122 => ⟨S_, .i32⟩
  | 123 => ⟨S_, .i1⟩
  | 124 => ⟨S1x8192, .i1⟩
  | 125 => ⟨S1x8192, .i1⟩
  | 126 => ⟨S1x8192, .i1⟩
  | 127 => ⟨S1x8192, .i32⟩
  | _ => ⟨S2x8192x512, .f32⟩

abbrev hbmTy0_1 (i : Nat) : BufTy := match i % 128 with
  | 0 => ⟨S1x8192, .i32⟩
  | 1 => ⟨S1x8192, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S8192x1, .i32⟩
  | 9 => ⟨S8192x1, .i32⟩
  | 10 => ⟨S_, .i32⟩
  | 11 => ⟨S8192x1, .i32⟩
  | 12 => ⟨S8192x1, .i1⟩
  | 13 => ⟨S_, .i32⟩
  | 14 => ⟨S8192x1, .i32⟩
  | 15 => ⟨S8192x1, .i1⟩
  | 16 => ⟨S_, .i32⟩
  | 17 => ⟨S_, .i1⟩
  | 18 => ⟨S8192x1, .i1⟩
  | 19 => ⟨S8192x1, .i1⟩
  | 20 => ⟨S8192x1, .i1⟩
  | 21 => ⟨S8192x1, .i32⟩
  | 22 => ⟨S8192x1, .i32⟩
  | 23 => ⟨S8192x1, .i32⟩
  | 24 => ⟨S8192x8192, .i32⟩
  | 25 => ⟨S8192x8192, .i32⟩
  | 26 => ⟨S8192x8192, .i1⟩
  | 27 => ⟨S8192x8192, .i1⟩
  | 28 => ⟨S2x4x8192x8192, .f32⟩
  | 29 => ⟨S_, .f32⟩
  | 30 => ⟨S2x4x8192x8192, .f32⟩
  | 31 => ⟨S2x4x8192x8192, .f32⟩
  | 32 => ⟨S1x1x8192x8192, .i1⟩
  | 33 => ⟨S_, .f32⟩
  | 34 => ⟨S_, .f32⟩
  | 35 => ⟨S2x4x8192x8192, .i1⟩
  | 36 => ⟨S2x4x8192x8192, .f32⟩
  | 37 => ⟨S2x4x8192x8192, .f32⟩
  | 38 => ⟨S_, .f32⟩
  | 39 => ⟨S2x4x8192, .f32⟩
  | 40 => ⟨S2x4x8192x1, .f32⟩
  | 41 => ⟨S2x4x8192x8192, .f32⟩
  | 42 => ⟨S2x4x8192x8192, .f32⟩
  | 43 => ⟨S2x4x8192x8192, .f32⟩
  | 44 => ⟨S_, .i1⟩
  | 45 => ⟨S8192, .i1⟩
  | 46 => ⟨S1x1x8192x1, .i1⟩
  | 47 => ⟨S_, .f32⟩
  | 48 => ⟨S2x4x8192, .f32⟩
  | 49 => ⟨S2x4x8192x1, .f32⟩
  | 50 => ⟨S_, .f32⟩
  | 51 => ⟨S_, .f32⟩
  | 52 => ⟨S2x4x8192x1, .i1⟩
  | 53 => ⟨S2x4x8192x1, .f32⟩
  | 54 => ⟨S2x4x8192x1, .f32⟩
  | 55 => ⟨S2x4x8192x8192, .f32⟩
  | 56 => ⟨S2x4x8192x8192, .f32⟩
  | 57 => ⟨S1x1x8192x1, .i1⟩
  | 58 => ⟨S_, .f32⟩
  | 59 => ⟨S_, .f32⟩
  | 60 => ⟨S2x4x8192x8192, .i1⟩
  | 61 => ⟨S2x4x8192x8192, .f32⟩
  | 62 => ⟨S2x4x8192x8192, .f32⟩
  | 63 => ⟨S2x4x64x8192, .f32⟩
  | 64 => ⟨S2x8192x4x64, .f32⟩
  | 65 => ⟨S2x8192x256, .f32⟩
  | 66 => ⟨S2x8192x512, .f32⟩
  | _ => ⟨S2x8192x512, .f32⟩

abbrev hbmTy (i : Nat) : BufTy := match i / 128 with
  | 0 => hbmTy0_0 i
  | 1 => hbmTy0_1 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_c_7 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_8 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_v5 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_c : Ref sig .tc := ⟨.hbm, 76, rfl⟩
abbrev main_call4_v9 : Ref sig .tc := ⟨.hbm, 77, rfl⟩
abbrev main_call4_v10 : Ref sig .tc := ⟨.hbm, 78, rfl⟩
abbrev main_call4_v11 : Ref sig .tc := ⟨.hbm, 79, rfl⟩
abbrev main_call4_c_0 : Ref sig .tc := ⟨.hbm, 80, rfl⟩
abbrev main_call4_v12 : Ref sig .tc := ⟨.hbm, 81, rfl⟩
abbrev main_call4_v13 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_9 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_v5 : Ref sig .tc := ⟨.hbm, 92, rfl⟩
abbrev main_call5_v6 : Ref sig .tc := ⟨.hbm, 93, rfl⟩
abbrev main_call5_v7 : Ref sig .tc := ⟨.hbm, 94, rfl⟩
abbrev main_call5_v8 : Ref sig .tc := ⟨.hbm, 95, rfl⟩
abbrev main_call5_c : Ref sig .tc := ⟨.hbm, 96, rfl⟩
abbrev main_call5_v9 : Ref sig .tc := ⟨.hbm, 97, rfl⟩
abbrev main_call5_v10 : Ref sig .tc := ⟨.hbm, 98, rfl⟩
abbrev main_call5_v11 : Ref sig .tc := ⟨.hbm, 99, rfl⟩
abbrev main_call5_c_0 : Ref sig .tc := ⟨.hbm, 100, rfl⟩
abbrev main_call5_v12 : Ref sig .tc := ⟨.hbm, 101, rfl⟩
abbrev main_call5_v13 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_c_10 : Ref sig .tc := ⟨.hbm, 108, rfl⟩
abbrev main_call6_v0 : Ref sig .tc := ⟨.hbm, 109, rfl⟩
abbrev main_call6_c : Ref sig .tc := ⟨.hbm, 110, rfl⟩
abbrev main_call6_v1 : Ref sig .tc := ⟨.hbm, 111, rfl⟩
abbrev main_call6_c_0 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_call6_c_1 : Ref sig .tc := ⟨.hbm, 116, rfl⟩
abbrev main_call6_v5 : Ref sig .tc := ⟨.hbm, 117, rfl⟩
abbrev main_call6_v6 : Ref sig .tc := ⟨.hbm, 118, rfl⟩
abbrev main_call6_c_2 : Ref sig .tc := ⟨.hbm, 119, rfl⟩
abbrev main_call6_v7 : Ref sig .tc := ⟨.hbm, 120, rfl⟩
abbrev main_call6_v8 : Ref sig .tc := ⟨.hbm, 121, rfl⟩
abbrev main_call6_c_3 : Ref sig .tc := ⟨.hbm, 122, rfl⟩
abbrev main_call6_v9 : Ref sig .tc := ⟨.hbm, 123, rfl⟩
abbrev main_call6_v10 : Ref sig .tc := ⟨.hbm, 124, rfl⟩
abbrev main_call6_v11 : Ref sig .tc := ⟨.hbm, 125, rfl⟩
abbrev main_call6_v12 : Ref sig .tc := ⟨.hbm, 126, rfl⟩
abbrev main_call6_v13 : Ref sig .tc := ⟨.hbm, 127, rfl⟩
abbrev main_call6_v14 : Ref sig .tc := ⟨.hbm, 128, rfl⟩
abbrev main_v49 : Ref sig .tc := ⟨.hbm, 129, rfl⟩
abbrev main_c_11 : Ref sig .tc := ⟨.hbm, 130, rfl⟩
abbrev main_call7_v0 : Ref sig .tc := ⟨.hbm, 131, rfl⟩
abbrev main_call7_c : Ref sig .tc := ⟨.hbm, 132, rfl⟩
abbrev main_call7_v1 : Ref sig .tc := ⟨.hbm, 133, rfl⟩
abbrev main_call7_c_0 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_call7_c_1 : Ref sig .tc := ⟨.hbm, 138, rfl⟩
abbrev main_call7_v5 : Ref sig .tc := ⟨.hbm, 139, rfl⟩
abbrev main_call7_v6 : Ref sig .tc := ⟨.hbm, 140, rfl⟩
abbrev main_call7_c_2 : Ref sig .tc := ⟨.hbm, 141, rfl⟩
abbrev main_call7_v7 : Ref sig .tc := ⟨.hbm, 142, rfl⟩
abbrev main_call7_v8 : Ref sig .tc := ⟨.hbm, 143, rfl⟩
abbrev main_call7_c_3 : Ref sig .tc := ⟨.hbm, 144, rfl⟩
abbrev main_call7_v9 : Ref sig .tc := ⟨.hbm, 145, rfl⟩
abbrev main_call7_v10 : Ref sig .tc := ⟨.hbm, 146, rfl⟩
abbrev main_call7_v11 : Ref sig .tc := ⟨.hbm, 147, rfl⟩
abbrev main_call7_v12 : Ref sig .tc := ⟨.hbm, 148, rfl⟩
abbrev main_call7_v13 : Ref sig .tc := ⟨.hbm, 149, rfl⟩
abbrev main_call7_v14 : Ref sig .tc := ⟨.hbm, 150, rfl⟩
abbrev main_v50 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_cst_12 : Ref sig .tc := ⟨.hbm, 157, rfl⟩
abbrev main_v56 : Ref sig .tc := ⟨.hbm, 158, rfl⟩
abbrev main_v57 : Ref sig .tc := ⟨.hbm, 159, rfl⟩
abbrev main_v58 : Ref sig .tc := ⟨.hbm, 160, rfl⟩
abbrev main_cst_13 : Ref sig .tc := ⟨.hbm, 161, rfl⟩
abbrev main_call8_v0 : Ref sig .tc := ⟨.hbm, 162, rfl⟩
abbrev main_call8_v1 : Ref sig .tc := ⟨.hbm, 163, rfl⟩
abbrev main_call8_v2 : Ref sig .tc := ⟨.hbm, 164, rfl⟩
abbrev main_v59 : Ref sig .tc := ⟨.hbm, 165, rfl⟩
abbrev main_cst_14 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_c_15 : Ref sig .tc := ⟨.hbm, 172, rfl⟩
abbrev main_v65 : Ref sig .tc := ⟨.hbm, 173, rfl⟩
abbrev main_v66 : Ref sig .tc := ⟨.hbm, 174, rfl⟩
abbrev main_cst_16 : Ref sig .tc := ⟨.hbm, 175, rfl⟩
abbrev main_v67 : Ref sig .tc := ⟨.hbm, 176, rfl⟩
abbrev main_v68 : Ref sig .tc := ⟨.hbm, 177, rfl⟩
abbrev main_cst_17 : Ref sig .tc := ⟨.hbm, 178, rfl⟩
abbrev main_call9_v0 : Ref sig .tc := ⟨.hbm, 179, rfl⟩
abbrev main_call9_v1 : Ref sig .tc := ⟨.hbm, 180, rfl⟩
abbrev main_call9_v2 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_cst_18 : Ref sig .tc := ⟨.hbm, 186, rfl⟩
abbrev main_call10_v0 : Ref sig .tc := ⟨.hbm, 187, rfl⟩
abbrev main_call10_v1 : Ref sig .tc := ⟨.hbm, 188, rfl⟩
abbrev main_call10_v2 : Ref sig .tc := ⟨.hbm, 189, rfl⟩
abbrev main_v73 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_v77 : Ref sig .tc := ⟨.hbm, 194, rfl⟩

abbrev nD : Nat := 1
abbrev τ : Topo := Topo.v7x

variable {F : FTy → Type} [FloatOps F]
-- ==== Proof.KernelIdeal.Steps.lean ====
/-
  The pieces the kernel is made of, named: one block of a ring buffer (`slotAt`), one start and one
  wait of a transfer, one head's step of the attention over one source, and a source's whole
  attention. Everything is stated once for the two directions and the three arrays that travel; the
  modules after this one state the printed kernel as a sequence of these.
-/
module

public import proofs.«01_k».proof.Proof.Gen.KernelIdeal
public import proofs.«01_k».proof.Proof.Gen.KernelIdeal.Skeleton
public import proofs.«01_k».proof.Proof.Gen.KernelIdeal.Launch

@[expose] public section

set_option maxRecDepth 65536

noncomputable section

namespace Cert.KernelIdeal.Talk

open Cert.KernelIdeal.Gen
open Idealize.ShloMosaic Idealize.ShloMosaic.TcCoe Idealize.SL.Sem

variable {F : FTy → Type} [FloatOps F]

/-- The programs of the kernel's function. -/
abbrev Pg (F : FTy → Type) [FloatOps F] (α : Type) := Prog (TpuEff nD τ sig (Elt F) Λ₀ .tc) α

/-! ### What travels -/

/-- The three arrays that travel: the codes of the keys, those of the values, and their scales. -/
inductive Kind | k | v | s
  deriving DecidableEq

instance : Fintype Kind := ⟨{.k, .v, .s}, fun j => by cases j <;> decide⟩

/-- The last block of a direction's ring buffer, which holds the device's own array; the blocks
    before it are the ones received. -/
abbrev n : Bool → ℕ
  | true => 16
  | false => 15

/-- The third axis of an array that travels. -/
abbrev wid : Kind → ℕ
  | .k => 256
  | .v => 256
  | .s => 2

/-- The element type of an array that travels. -/
abbrev elt : Kind → EltTy
  | .k => .i8
  | .v => .i8
  | .s => .f32

/-- The shape of a ring buffer. -/
abbrev bshp (d : Bool) (j : Kind) : Shape := ⟨4, ![n d + 1, 2, wid j, 256]⟩

/-- The shape of one of its blocks, and the same with the leading axis dropped. -/
abbrev oshp (j : Kind) : Shape := ⟨4, ![1, 2, wid j, 256]⟩
abbrev shp (j : Kind) : Shape := ⟨3, ![2, wid j, 256]⟩

/-- The ring buffer of direction `d` for the array `j`. -/
def bufM : (d : Bool) → (j : Kind) → Memref sig .tc .vmem (bshp d j) (elt j)
  | true, .k => Memref.whole cc0_scratch3
  | true, .v => Memref.whole cc0_scratch4
  | true, .s => Memref.whole cc0_scratch5
  | false, .k => Memref.whole cc0_scratch6
  | false, .v => Memref.whole cc0_scratch7
  | false, .s => Memref.whole cc0_scratch8

theorem bufM_isWhole (d : Bool) (j : Kind) : (bufM d j).IsWhole := by
  cases d <;> cases j <;> exact Memref.isWhole_whole _

theorem squeezes (j : Kind) : (oshp j).Squeezes (shp j) := by cases j <;> decide

/-- The block of a ring buffer at an offset. -/
def slotAt (d : Bool) (j : Kind) (off : Fin 4 → ℕ) (h : ∀ a, off a + (oshp j).size a ≤ (bshp d j).size a) :
    Memref sig .tc .vmem (shp j) (elt j) :=
  ((bufM d j).slice (Rect.unit (s := bshp d j) off (oshp j).size h) (fun _ => rfl)).squeeze (shp j) (squeezes j)

/-- The semaphores of the sends and of the receives. -/
abbrev semShp (d : Bool) : Shape := ⟨1, ![n d]⟩

def sendA : (d : Bool) → (j : Kind) → DmaSems sig (semShp d)
  | true, .k => cc0_scratch9
  | true, .v => cc0_scratch11
  | true, .s => cc0_scratch13
  | false, .k => cc0_scratch15
  | false, .v => cc0_scratch17
  | false, .s => cc0_scratch19

def recvA : (d : Bool) → (j : Kind) → DmaSems sig (semShp d)
  | true, .k => cc0_scratch10
  | true, .v => cc0_scratch12
  | true, .s => cc0_scratch14
  | false, .k => cc0_scratch16
  | false, .v => cc0_scratch18
  | false, .s => cc0_scratch20

/-- One semaphore of such an array. -/
def semAt {d : Bool} (a : DmaSems sig (semShp d)) (off : Fin 1 → ℕ) (h : ∀ i, off i + S1.size i ≤ (semShp d).size i) :
    DmaSem sig :=
  ((a.slice (Rect.unit (s := semShp d) off S1.size h)).squeeze S_ squeezes_S1_S_).sem

/-- The start of one transfer. -/
def start {s : Shape} {e : EltTy} (src dst : Memref sig .tc .vmem s e) (peer : Dev nD) (ss rs : DmaSem sig)
    (hs : src.view.WordExact) (hd : dst.view.WordExact) : Pg F PUnit :=
  Prog.lift (.enqueueDma src (.remote (Dev.tc peer) dst (.dma ss)) (.dma rs) hs hd ⟨⟨rfl, Or.inl rfl⟩, trivial⟩)

/-- The wait on one transfer's semaphore. -/
def await {s : Shape} {e : EltTy} (sem : DmaSem sig) (src dst : Memref sig .tc .vmem s e)
    (hs : src.view.WordExact) (hd : dst.view.WordExact) : Pg F PUnit :=
  Prog.lift (.waitDma2 sem src dst hs hd)

/-! ### The attention over one source -/

/-- The scratch buffers of the queries, the accumulator and the denominators. -/
abbrev qM : Memref sig .tc .vmem S2x256x256 .bf16 := Memref.whole cc0_scratch0
abbrev aM : Memref sig .tc .vmem S2x256x256 .f32 := Memref.whole cc0_scratch1
abbrev lM : Memref sig .tc .vmem S2x4x256x1 .f32 := Memref.whole cc0_scratch2

theorem inb_qa (b : Fin 2) (h : Fin 4) (a : Fin 3) :
    (![b.val, 0, 64 * h.val] : Fin 3 → ℕ) a + S1x256x64.size a ≤ S2x256x256.size a := by
  revert a h b; decide

theorem inb_l (b : Fin 2) (h : Fin 4) (a : Fin 4) :
    (![b.val, h.val, 0, 0] : Fin 4 → ℕ) a + S1x1x256x1.size a ≤ S2x4x256x1.size a := by
  revert a h b; decide

theorem slices_head (h : Fin 4) : S256x256.Slices ![0, 64 * h.val] S256x64 := by revert h; decide

/-- The columns of head `h` of batch `b`. -/
abbrev qaR (b : Fin 2) (h : Fin 4) : Rect S2x256x256 := Rect.unit (s := S2x256x256) ![b.val, 0, 64 * h.val] S1x256x64.size (inb_qa b h)
abbrev lR (b : Fin 2) (h : Fin 4) : Rect S2x4x256x1 := Rect.unit (s := S2x4x256x1) ![b.val, h.val, 0, 0] S1x1x256x1.size (inb_l b h)

/-- The weights of one head over one source, before the denominator: the exponential of the scaled
    scores where the mask admits, else zero. -/
def wts (mask : IVec S256x256 1) (h : Fin 4) (k8 : IVec S256x256 8) (ks : FVec F S1x256 .f32)
    (q : FVec F S1x256x64 .bf16) : FVec F S256x256 .f32 :=
  select mask (exp (mulf (matmul dot_S256x64_S256x64_S256x256_1_1_0_0_n_n none (shapeCast S256x64 q shapeCasts_S1x256x64_S256x64)
    (extractStridedSlice S256x64 ![0, 64 * h.val] (sitofp .bf16 k8 : FVec F S256x256 .bf16) (slices_head h)) (constant S256x256 .f32 0x00000000#32))
    (broadcastTo S256x256 ks broadcasts_S1x256_S256x256)))
    (broadcast S256x256 (Scalar.ofBits .f32 0x00000000#32 : F .f32))

/-- The denominators after one source. -/
def newL (w : FVec F S256x256 .f32) (l : FVec F S1x1x256x1 .f32) : FVec F S1x1x256x1 .f32 :=
  shapeCast S1x1x256x1 (addf (shapeCast S256x1 l shapeCasts_S1x1x256x1_S256x1)
    (shapeCast S256x1 (multiReduction .add [1] S256 w 0x00000000#32 reduces_S256x256_S256 (.inl rfl) rfl) shapeCasts_S256_S256x1))
    shapeCasts_S256x1_S1x1x256x1

/-- The accumulator after one source. -/
def newA (h : Fin 4) (v8 : IVec S256x256 8) (vs : FVec F S1x256 .f32) (w : FVec F S256x256 .f32)
    (a : FVec F S1x256x64 .f32) : FVec F S1x256x64 .f32 :=
  shapeCast S1x256x64 (addf (shapeCast S256x64 a shapeCasts_S1x256x64_S256x64)
    (matmul dot_S256x256_S256x64_S256x64_1_0_0_1_n_n none (mulf w (broadcastTo S256x256 vs broadcasts_S1x256_S256x256))
      (extractStridedSlice S256x64 ![0, 64 * h.val] (sitofp .f32 v8 : FVec F S256x256 .f32) (slices_head h)) (constant S256x64 .f32 0x00000000#32)))
    shapeCasts_S256x64_S1x256x64

/-- One head's step over one source. -/
def headStep (mask : IVec S256x256 1) (b : Fin 2) (h : Fin 4) (k8 v8 : IVec S256x256 8) (ks vs : FVec F S1x256 .f32) :
    Pg F PUnit := do
  let q : Vec F S1x256x64 .bf16 ← Prog.lift (.load qM (qaR b h).toLoadRect (View.loadsAt_vmem h_S1x256x64))
  let l : Vec F S1x1x256x1 .f32 ← Prog.lift (.load lM (lR b h).toLoadRect (View.loadsAt_vmem h_S1x1x256x1))
  let _ : Vec F S1x1x256x1 .f32 ← Prog.lift (.load lM (lR b h).toLoadRect (View.loadsAt_vmem h_S1x1x256x1))
  Prog.lift (.store lM (lR b h) (newL (wts mask h k8 ks q) l) Finset.univ (View.stores_vmem_bits_univ h_S1x1x256x1 rfl) (.inl rfl))
  let a : Vec F S1x256x64 .f32 ← Prog.lift (.load aM (qaR b h).toLoadRect (View.loadsAt_vmem h_S1x256x64))
  let _ : Vec F S1x256x64 .f32 ← Prog.lift (.load aM (qaR b h).toLoadRect (View.loadsAt_vmem h_S1x256x64))
  Prog.lift (.store aM (qaR b h) (newA h v8 vs (wts mask h k8 ks q) a) Finset.univ (View.stores_vmem_bits_univ h_S1x256x64 rfl) (.inl rfl))

/-- A source's attention, from the programs that read its codes and scales, of the first batch entry
    and then of the second. -/
def attend8 (mask : IVec S256x256 1) (ldk0 ldv0 : Pg F (IVec S256x256 8)) (ldks0 ldvs0 : Pg F (FVec F S1x256 .f32))
    (ldk1 ldv1 : Pg F (IVec S256x256 8)) (ldks1 ldvs1 : Pg F (FVec F S1x256 .f32)) : Pg F PUnit := do
  let k0 ← ldk0
  let v0 ← ldv0
  let ks0 ← ldks0
  let vs0 ← ldvs0
  let k1 ← ldk1
  let v1 ← ldv1
  let ks1 ← ldks1
  let vs1 ← ldvs1
  headStep mask 0 0 k0 v0 ks0 vs0
  headStep mask 0 1 k0 v0 ks0 vs0
  headStep mask 0 2 k0 v0 ks0 vs0
  headStep mask 0 3 k0 v0 ks0 vs0
  headStep mask 1 0 k1 v1 ks1 vs1
  headStep mask 1 1 k1 v1 ks1 vs1
  headStep mask 1 2 k1 v1 ks1 vs1
  headStep mask 1 3 k1 v1 ks1 vs1

/-- Reading one batch entry of a block of codes of a ring buffer. -/
def ldCode (d : Bool) (m : Memref sig .tc .vmem ⟨4, ![n d + 1, 2, 256, 256]⟩ .i8) (off : Fin 4 → ℕ)
    (h : ∀ a, off a + S1x1x256x256.size a ≤ (⟨4, ![n d + 1, 2, 256, 256]⟩ : Shape).size a) : Pg F (IVec S256x256 8) := do
  let x : Vec F S1x1x256x256 .i8 ← Prog.lift (.load m (Rect.unit (s := ⟨4, ![n d + 1, 2, 256, 256]⟩) off S1x1x256x256.size h).toLoadRect (View.loadsAt_vmem h_S1x1x256x256))
  pure (shapeCast S256x256 x shapeCasts_S1x1x256x256_S256x256)

/-- Reading one row of scales of a block of a ring buffer. -/
def ldScale (d : Bool) (off : Fin 4 → ℕ) (h : ∀ a, off a + S1x1x1x256.size a ≤ (bshp d .s).size a) : Pg F (FVec F S1x256 .f32) := do
  let x : Vec F S1x1x1x256 .f32 ← Prog.lift (.load (bufM d .s) (Rect.unit (s := bshp d .s) off S1x1x1x256.size h).toLoadRect (View.loadsAt_vmem h_S1x1x1x256))
  pure (shapeCast S1x256 x shapeCasts_S1x1x1x256_S1x256)

/-! ### The same at the blocks of the ring buffers -/

theorem slot_inb (d : Bool) (j : Kind) (t : Fin (n d + 1)) (a : Fin 4) :
    (![t.val, 0, 0, 0] : Fin 4 → ℕ) a + (oshp j).size a ≤ (bshp d j).size a := by
  have := t.isLt
  fin_cases a
  · show t.val + 1 ≤ n d + 1; omega
  all_goals simp

/-- Block `t` of a ring buffer. -/
abbrev slotM (d : Bool) (j : Kind) (t : Fin (n d + 1)) : Memref sig .tc .vmem (shp j) (elt j) :=
  slotAt d j ![t.val, 0, 0, 0] (slot_inb d j t)

/-- A transfer of a block moves whole words. -/
theorem slotAt_wordExact (d : Bool) (j : Kind) (off : Fin 4 → ℕ) (h : ∀ a, off a + (oshp j).size a ≤ (bshp d j).size a)
    (h0 : off 2 = 0) : (slotAt d j off h).view.WordExact :=
  ((bufM_isWhole d j).wordExact_slice rfl _ (Or.inr ⟨by show 2 ≤ 4; omega, rfl, h0, rfl⟩)).reshape _ _

theorem slot_wordExact (d : Bool) (j : Kind) (t : ℕ) (h : ∀ a, (![t, 0, 0, 0] : Fin 4 → ℕ) a + (oshp j).size a ≤ (bshp d j).size a) :
    (slotAt d j ![t, 0, 0, 0] h).view.WordExact := slotAt_wordExact d j _ h rfl

theorem sem_inb (d : Bool) (s : Fin (n d)) (a : Fin 1) : (![s.val] : Fin 1 → ℕ) a + S1.size a ≤ (semShp d).size a := by
  have := s.isLt
  fin_cases a
  show s.val + 1 ≤ n d; omega

/-- The semaphores of a hop's send and receive. -/
abbrev sSem (d : Bool) (j : Kind) (s : Fin (n d)) : DmaSem sig := semAt (sendA d j) ![s.val] (sem_inb d s)
abbrev rSem (d : Bool) (j : Kind) (s : Fin (n d)) : DmaSem sig := semAt (recvA d j) ![s.val] (sem_inb d s)

/-- The two neighbours on the ring of devices. -/
def nxt (c : Dev nD) : Dev nD := ⟨(c.val + 1) % 32, Nat.mod_lt _ (by decide)⟩
def prv (c : Dev nD) : Dev nD := ⟨(c.val + 31) % 32, Nat.mod_lt _ (by decide)⟩

/-- The device direction `d` sends to. -/
def tgt : Bool → Dev nD → Dev nD
  | true => nxt
  | false => prv

/-- The start of a hop's transfer of one array: block `src` here to block `s` of the neighbour. -/
def startM (d : Bool) (j : Kind) (src : Fin (n d + 1)) (s : Fin (n d)) (c : Dev nD) : Pg F PUnit :=
  start (slotM d j src) (slotM d j s.castSucc) (tgt d c) (sSem d j s) (rSem d j s)
    (slot_wordExact d j _ _) (slot_wordExact d j _ _)

/-- The two waits of a hop on one array: that the send has left, that the receive has arrived. -/
def waitM (d : Bool) (j : Kind) (src : Fin (n d + 1)) (s : Fin (n d)) : Pg F PUnit := do
  await (sSem d j s) (slotM d j s.castSucc) (slotM d j src) (slot_wordExact d j _ _) (slot_wordExact d j _ _)
  await (rSem d j s) (slotM d j src) (slotM d j s.castSucc) (slot_wordExact d j _ _) (slot_wordExact d j _ _)

/-- A hop's three starts, -/
def startHop (d : Bool) (src : Fin (n d + 1)) (s : Fin (n d)) (c : Dev nD) : Pg F PUnit := do
  startM d .k src s c
  startM d .v src s c
  startM d .s src s c

/-- and its six waits. -/
def waitHop (d : Bool) (src : Fin (n d + 1)) (s : Fin (n d)) : Pg F PUnit := do
  waitM d .k src s
  waitM d .v src s
  waitM d .s src s

theorem code_inb (d : Bool) (t : Fin (n d + 1)) (b : Fin 2) (a : Fin 4) :
    (![t.val, b.val, 0, 0] : Fin 4 → ℕ) a + S1x1x256x256.size a ≤ (⟨4, ![n d + 1, 2, 256, 256]⟩ : Shape).size a := by
  have := t.isLt; have := b.isLt
  fin_cases a
  · show t.val + 1 ≤ n d + 1; omega
  · show b.val + 1 ≤ 2; omega
  all_goals simp

theorem scale_inb (d : Bool) (t : Fin (n d + 1)) (b r : Fin 2) (a : Fin 4) :
    (![t.val, b.val, r.val, 0] : Fin 4 → ℕ) a + S1x1x1x256.size a ≤ (bshp d .s).size a := by
  have := t.isLt; have := b.isLt; have := r.isLt
  fin_cases a
  · show t.val + 1 ≤ n d + 1; omega
  · show b.val + 1 ≤ 2; omega
  · show r.val + 1 ≤ 2; omega
  · simp

/-- Reading the codes of the keys (`false`) or the values of a batch entry, and a row of scales, of
    block `t`. -/
def ldK (d : Bool) (t : Fin (n d + 1)) (b : Fin 2) : Pg F (IVec S256x256 8) := ldCode d (bufM d .k) ![t.val, b.val, 0, 0] (code_inb d t b)
def ldV (d : Bool) (t : Fin (n d + 1)) (b : Fin 2) : Pg F (IVec S256x256 8) := ldCode d (bufM d .v) ![t.val, b.val, 0, 0] (code_inb d t b)
def ldS (d : Bool) (t : Fin (n d + 1)) (b r : Fin 2) : Pg F (FVec F S1x256 .f32) := ldScale d ![t.val, b.val, r.val, 0] (scale_inb d t b r)

/-- The attention over the source held in block `t` of direction `d`. -/
def attendSlot (mask : IVec S256x256 1) (d : Bool) (t : Fin (n d + 1)) : Pg F PUnit :=
  attend8 mask (ldK d t 0) (ldV d t 0) (ldS d t 0 0) (ldS d t 0 1) (ldK d t 1) (ldV d t 1) (ldS d t 1 0) (ldS d t 1 1)

/-! ### A piece at computed offsets is the piece at the block -/

theorem start_at {d : Bool} {j : Kind} {oS oD : Fin 4 → ℕ} {hS hD dev} {oa ob : Fin 1 → ℕ} {ha hb ws wd}
    (src : Fin (n d + 1)) (s : Fin (n d)) (c : Dev nD) (eS : oS = ![src.val, 0, 0, 0]) (eD : oD = ![s.val, 0, 0, 0])
    (ed : dev = tgt d c) (ea : oa = ![s.val]) (eb : ob = ![s.val]) :
    (start (slotAt d j oS hS) (slotAt d j oD hD) dev (semAt (sendA d j) oa ha) (semAt (recvA d j) ob hb) ws wd : Pg F PUnit)
      = startM d j src s c := by
  subst eS eD ed ea eb; rfl

theorem wait_at {d : Bool} {j : Kind} {oS oD : Fin 4 → ℕ} {hS hD hS' hD'} {oa ob : Fin 1 → ℕ} {ha hb ws wd ws' wd'}
    (src : Fin (n d + 1)) (s : Fin (n d)) (eS : oS = ![src.val, 0, 0, 0]) (eD : oD = ![s.val, 0, 0, 0])
    (ea : oa = ![s.val]) (eb : ob = ![s.val]) :
    (do await (semAt (sendA d j) oa ha) (slotAt d j oD hD) (slotAt d j oS hS) wd ws
        await (semAt (recvA d j) ob hb) (slotAt d j oS hS') (slotAt d j oD hD') ws' wd' : Pg F PUnit)
      = waitM d j src s := by
  subst eS eD ea eb; rfl

theorem ldCode_at {d : Bool} {m : Memref sig .tc .vmem ⟨4, ![n d + 1, 2, 256, 256]⟩ .i8} {off off' : Fin 4 → ℕ} {h h'}
    (e : off = off') : (ldCode d m off h : Pg F _) = ldCode d m off' h' := by subst e; rfl

theorem ldScale_at {d : Bool} {off off' : Fin 4 → ℕ} {h h'} (e : off = off') :
    (ldScale d off h : Pg F _) = ldScale d off' h' := by subst e; rfl

end Cert.KernelIdeal.Talk
-- ==== Proof.KernelIdeal.Protocol.lean ====
/-
  The agreement between the devices: which cells there are, what each payment carries, what each
  device owes, and in which order it may wait.

  Direction `true` sends to the next device, `false` to the one before. Block `t` of a ring buffer is
  filled by hop `t`, once, and keeps what it then holds; so what a ring buffer holds, once filled, is
  one function of all the devices' arrays (`ringC`). A device gives the blocks of its ring buffers to
  the neighbour that fills them when it signals that neighbour's barrier.
-/
module

public import proofs.«01_k».proof.Proof.KernelIdeal.Steps
public import Idealize.ShloMosaic.Lib.Pipeline.Launch
public import Idealize.ShloMosaic.Lib.Pipeline.Kit
public import Idealize.ShloMosaic.Lib.Pipeline.Frame
public import Idealize.ShloMosaic.Lib.WholeRead
public import Idealize.ShloMosaic.Lib.Rounds
public import Idealize.ShloMosaic.Lib.Tactic

@[expose] public section

set_option maxRecDepth 65536

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ### The ring of devices -/

theorem nxt_prv (c : Dev nD) : nxt (prv c) = c := by revert c; decide
theorem prv_nxt (c : Dev nD) : prv (nxt c) = c := by revert c; decide

/-- The device whose direction-`d` transfers arrive at `c`. -/
theorem tgt_not (d : Bool) (c : Dev nD) : tgt d (tgt (!d) c) = c := by
  cases d
  · exact prv_nxt c
  · exact nxt_prv c

/-- The device whose array block `t` of a ring buffer of `c` holds. -/
def dev : (d : Bool) → Dev nD → Fin (n d + 1) → Dev nD
  | true, c, t => ⟨(c.val + 63 - (if t.val = 16 then 31 else t.val)) % 32, Nat.mod_lt _ (by decide)⟩
  | false, c, t => ⟨(c.val + 1 + (if t.val = 15 then 31 else t.val)) % 32, Nat.mod_lt _ (by decide)⟩

theorem dev_last (d : Bool) (c : Dev nD) : dev d c (Fin.last (n d)) = c := by
  cases d <;> revert c <;> decide

/-- The block hop `s` sends on: the own one first, then the one the hop before filled. -/
def srcOf (d : Bool) (s : Fin (n d)) : Fin (n d + 1) := if s.val = 0 then Fin.last (n d) else ⟨s.val - 1, by omega⟩

theorem dev_hop (d : Bool) (s : Fin (n d)) (c : Dev nD) : dev d (tgt d c) s.castSucc = dev d c (srcOf d s) := by
  cases d <;> revert s c <;> decide +kernel

/-! ### What a ring buffer holds -/

variable (A : Dev nD → (j : Kind) → (shp j).Idx → Elt F (elt j))

/-- The contents of a filled ring buffer of device `c`: in block `t` the array of device `dev d c t`. -/
def ringC (d : Bool) (j : Kind) (c : Dev nD) : (bshp d j).Idx → Elt F (elt j) :=
  fun ix => A (dev d c (ix 0)) j (fun a => ix a.succ)

def bufC (d : Bool) (j : Kind) (c : Dev nD) : (bufM d j).view.ty.Contents (Elt F) :=
  (bufM_isWhole d j).unread (ringC A d j c)

/-- Block `t` of a ring buffer of device `c`, held at `f`; the block filled; all of a direction's. -/
def slotP (d : Bool) (j : Kind) (t : Fin (n d + 1)) (c : Dev nD) (q : PosShare TreeShare)
    (f : Buf (Elt F) ((slotM d j t).view.loc (c : Thread nD τ))) : sProp 𝕄 :=
  (slotM d j t).view.loc (c : Thread nD τ) ↦[(slotM d j t).view.set]{q} f

def slotF (d : Bool) (j : Kind) (t : Fin (n d + 1)) (c : Dev nD) (q : PosShare TreeShare) : sProp 𝕄 :=
  slotP d j t c q (bufC A d j c)

theorem casts_os (j : Kind) : (oshp j).ShapeCasts (shp j) := by cases j <;> decide

/-- What a filled block reads. -/
theorem slot_read (d : Bool) (j : Kind) (t : Fin (n d + 1)) (c : Dev nD) (x : (shp j).Idx) :
    (slotM d j t).view.read (Elt F) (bufC A d j c) x = A (dev d c t) j x := by
  refine (congrFun (Memref.read_squeeze_slice (bufM d j) _ (fun _ => rfl) (squeezes j) (casts_os j) _) x).trans ?_
  refine (shapeCast_dropUnit_apply ![2, wid j, 256] _ (casts_os j) x).trans ?_
  refine ((bufM_isWhole d j).readAt_unread (ringC A d j c) _ _).trans ?_
  unfold ringC
  refine (congrArg (fun t' => A (dev d c t') j _) (Fin.ext ?_)).trans (congrArg (A (dev d c t) j) (funext fun a => Fin.ext ?_))
  · show t.val + 1 * 0 = t.val; omega
  · fin_cases a <;> (show 0 + 1 * _ = _; rw [Nat.zero_add, Nat.one_mul]; rfl)

/-- A block is held alike at contents that it reads alike. -/
theorem slotP_congr {d : Bool} {j : Kind} {t : Fin (n d + 1)} {c : Dev nD} {q : PosShare TreeShare}
    {f g : Buf (Elt F) ((slotM d j t).view.loc (c : Thread nD τ))}
    (h : ∀ x, (slotM d j t).view.read (Elt F) f x = (slotM d j t).view.read (Elt F) g x) : slotP d j t c q f = slotP d j t c q g := by
  unfold slotP
  refine pointsTo_congr fun i hi => ?_
  obtain ⟨x, -, rfl⟩ := Finset.mem_map.mp hi
  exact (cast_bijective _).1 (h x)

/-- A block of one array's ring buffer copied over the block of the neighbour's the hop fills makes
    that block what it is to hold. -/
theorem copied (d : Bool) (j : Kind) (s : Fin (n d)) (c : Dev nD)
    (f : Buf (Elt F) ((slotM d j s.castSucc).view.loc (tgt d c : Thread nD τ))) :
    slotP d j s.castSucc (tgt d c) fullShare ((slotM d j s.castSucc).view.write (Elt F) f
        ((slotM d j (srcOf d s)).view.read (Elt F) (bufC A d j c)) Finset.univ)
      = slotF A d j s.castSucc (tgt d c) fullShare :=
  slotP_congr fun x => by
    rw [View.read_write_univ, slot_read, slot_read, dev_hop]

instance slotP_storable (d : Bool) (j : Kind) (t : Fin (n d + 1)) (c : Dev nD) (q : PosShare TreeShare)
    (f : Buf (Elt F) ((slotM d j t).view.loc (c : Thread nD τ))) : BI.Storable (upEmb : UEmb _ 𝕄) (slotP d j t c q f) := by
  unfold slotP; infer_instance

instance slotF_storable (d : Bool) (j : Kind) (t : Fin (n d + 1)) (c : Dev nD) (q : PosShare TreeShare) :
    BI.Storable (upEmb : UEmb _ 𝕄) (slotF A d j t c q) := slotP_storable d j t c q (bufC A d j c)

/-! ### The cells -/

/-- One transfer of one array: the direction, the array, the hop. -/
abbrev Hx : Type := (d : Bool) × (Kind × Fin (n d))

/-- A transfer's two cells, the send's (`true`) and the receive's. -/
abbrev Cx : Type := Hx × Bool

/-- The semaphore of a cell. -/
def osem : Cx → SemLoc sig
  | (x, true) => .dma (sSem x.1 x.2.1 x.2.2)
  | (x, false) => .dma (rSem x.1 x.2.1 x.2.2)

/-- The number of the first semaphore of each array of them. -/
def semBase : Bool → Kind → Bool → ℕ
  | true, .k, true => 7
  | true, .k, false => 23
  | true, .v, true => 39
  | true, .v, false => 55
  | true, .s, true => 71
  | true, .s, false => 87
  | false, .k, true => 103
  | false, .k, false => 118
  | false, .v, true => 133
  | false, .v, false => 148
  | false, .s, true => 163
  | false, .s, false => 178

theorem sSem_val (d : Bool) (j : Kind) (s : Fin (n d)) : (sSem d j s).val = semBase d j true + s.val := by
  cases d <;> cases j <;> revert s <;> decide +kernel
theorem rSem_val (d : Bool) (j : Kind) (s : Fin (n d)) : (rSem d j s).val = semBase d j false + s.val := by
  cases d <;> cases j <;> revert s <;> decide +kernel

/-- The number of a cell's semaphore. -/
def semNo (y : Cx) : ℕ := semBase y.1.1 y.1.2.1 y.2 + y.1.2.2.val

theorem osem_eq (y : Cx) : ∃ q : DmaSem sig, osem y = .dma q ∧ q.val = semNo y := by
  obtain ⟨⟨d, j, s⟩, b⟩ := y
  cases b
  · exact ⟨_, rfl, rSem_val d j s⟩
  · exact ⟨_, rfl, sSem_val d j s⟩

theorem semNo_inj : Function.Injective semNo := by
  rintro ⟨⟨d, j, s, hs⟩, b⟩ ⟨⟨d', j', s', hs'⟩, b'⟩ h
  revert hs hs' h
  cases d <;> cases d' <;> cases j <;> cases j' <;> cases b <;> cases b' <;> intro hs hs' h <;>
    simp only [semNo, semBase, n] at hs hs' h <;>
    first
      | (exfalso; omega)
      | (obtain rfl : s = s' := by omega
         rfl)

theorem osem_inj : Function.Injective osem := fun y y' h => by
  obtain ⟨q, e, v⟩ := osem_eq y
  obtain ⟨q', e', v'⟩ := osem_eq y'
  rw [e, e'] at h
  obtain rfl : q = q' := by injection h
  exact semNo_inj (v.symm.trans v')

theorem semNo_ge (y : Cx) : 7 ≤ semNo y := by
  obtain ⟨⟨d, j, s⟩, b⟩ := y
  cases d <;> cases j <;> cases b <;> simp only [semNo, semBase] <;> omega

/-- The cell of a semaphore, if it is one of a transfer's. -/
def dec (q : SemLoc sig) : Option Cx := by
  classical exact if h : ∃ y, osem y = q then some h.choose else none

theorem dec_osem (y : Cx) : dec (osem y) = some y := by
  unfold dec
  have h : ∃ y', osem y' = osem y := ⟨y, rfl⟩
  rw [dif_pos h]
  exact congrArg some (osem_inj h.choose_spec)

theorem osem_ne_bar (y : Cx) : osem y ≠ .reg barrier0 := fun h => by
  obtain ⟨q, e, -⟩ := osem_eq y
  rw [e] at h; cases h

abbrev barCell (c : Dev nD) : GSem nD τ sig := ((c : Thread nD τ), .reg barrier0)
abbrev cell (y : Cx) (c : Dev nD) : GSem nD τ sig := ((c : Thread nD τ), osem y)
abbrev sCell (d : Bool) (j : Kind) (s : Fin (n d)) (c : Dev nD) : GSem nD τ sig := cell (⟨d, j, s⟩, true) c
abbrev rCell (d : Bool) (j : Kind) (s : Fin (n d)) (c : Dev nD) : GSem nD τ sig := cell (⟨d, j, s⟩, false) c

/-- What one transfer of an array counts for. -/
def N (j : Kind) : ℕ := (slotM true j 0).view.dmaCredit

theorem N_eq (d : Bool) (j : Kind) (t : Fin (n d + 1)) : (slotM d j t).view.dmaCredit = N j := by
  cases d <;> cases j <;> rfl

theorem N_pos (j : Kind) : 0 < N j := View.dmaCredit_pos _ (by cases j <;> decide)

/-! ### The payments -/

/-- To the barrier of `e`, by the device `tgt d e`: the blocks `e`'s transfers fill there, and that
    their receive cells are open. -/
def barPay (d : Bool) (e : Dev nD) : sProp 𝕄 :=
  bigSep Finset.univ fun x : Kind × Fin (n d) =>
    iprop((∃ f, slotP d x.1 x.2.castSucc (tgt d e) fullShare f) ∗ reached ER (rCell d x.1 x.2 (tgt d e)) 0)

/-- To a send's cell, half of the block sent; to a receive's, the block filled. -/
def xferPay (y : Cx) (c : Dev nD) : sProp 𝕄 :=
  if y.2 then slotF A y.1.1 y.1.2.1 (srcOf y.1.1 y.1.2.2) c (PosShare.left fullShare)
  else slotF A y.1.1 y.1.2.1 y.1.2.2.castSucc c fullShare

/-- The payments: to each barrier one from either neighbour, to each transfer's cell one. -/
def sched : Rounds.Schedule (GSem nD τ sig) Bool 𝕄 where
  duties g r := if r = 0 ∧ g.1.2 = .tc then
      (if g.2 = .reg barrier0 then Finset.univ else if (dec g.2).isSome then {false} else ∅) else ∅
  unitless _ := False
  amount g _ _ := match dec g.2 with
    | some y => N y.1.2.1
    | none => 1
  payload g _ d := if g.2 = .reg barrier0 then barPay d g.1.1 else match dec g.2 with
    | some y => xferPay A y g.1.1
    | none => iprop(emp)
  amount_pos g _ _ _ := by
    cases dec g.2 with
    | none => exact Nat.one_pos
    | some y => exact N_pos _

instance sched_storable (g : GSem nD τ sig) (r : ℕ) (d : Bool) :
    BI.Storable (upEmb : UEmb _ 𝕄) ((sched (F := F) A).payload g r d) := by
  show BI.Storable upEmb (if g.2 = .reg barrier0 then barPay d g.1.1 else match dec g.2 with
    | some y => xferPay A y g.1.1
    | none => iprop(emp))
  unfold barPay xferPay
  (repeat' split) <;> infer_instance

/-! ### The schedule at each cell -/

section Sched

variable (y : Cx) (c : Dev nD)

theorem duties_bar : (sched (F := F) A).duties (barCell c) 0 = Finset.univ := by
  dsimp only [sched]; rw [if_pos ⟨rfl, rfl⟩, if_pos rfl]
theorem duties_cell : (sched (F := F) A).duties (cell y c) 0 = {false} := by
  dsimp only [sched]; rw [if_pos ⟨rfl, rfl⟩, if_neg (osem_ne_bar y), dec_osem]; rfl
theorem duties_later (g : GSem nD τ sig) : ∀ r, 1 ≤ r → (sched (F := F) A).duties g r = ∅ :=
  fun r hr => by dsimp only [sched]; exact if_neg (fun h => by omega)

theorem dec_bar : dec (.reg barrier0) = none := by
  unfold dec
  exact dif_neg fun ⟨y, h⟩ => osem_ne_bar y h

theorem amount_bar (d : Bool) : (sched (F := F) A).amount (barCell c) 0 d = 1 := by
  dsimp only [sched]; rw [dec_bar]
theorem amount_cell (d : Bool) : (sched (F := F) A).amount (cell y c) 0 d = N y.1.2.1 := by
  dsimp only [sched]; rw [dec_osem]

theorem expect_bar : (sched (F := F) A).expect (barCell c) 0 = 2 := by
  unfold Schedule.expect Schedule.amountOf
  rw [duties_bar, Finset.sum_congr rfl fun d _ => amount_bar A c d]; rfl
theorem expect_cell : (sched (F := F) A).expect (cell y c) 0 = N y.1.2.1 := by
  unfold Schedule.expect Schedule.amountOf
  rw [duties_cell, Finset.sum_singleton, amount_cell]

theorem payload_bar (d : Bool) : (sched (F := F) A).payload (barCell c) 0 d = barPay d c := by
  dsimp only [sched]; exact if_pos rfl
theorem payload_cell (d : Bool) : (sched (F := F) A).payload (cell y c) 0 d = xferPay A y c := by
  dsimp only [sched]; rw [if_neg (osem_ne_bar y), dec_osem]

theorem rest_bar : bigSep ((sched (F := F) A).duties (barCell c) 0 \ ∅) (fun d => (sched (F := F) A).payload (barCell c) 0 d)
    = iprop(barPay true c ∗ barPay false c) := by
  rw [Finset.sdiff_empty, duties_bar, bigSep_univ_eq_bigSepL [true, false] (by decide) (by decide), bigSepL_cons_cons,
    bigSepL_singleton, payload_bar, payload_bar]
  rfl
theorem rest_cell : bigSep ((sched (F := F) A).duties (cell y c) 0 \ ∅) (fun d => (sched (F := F) A).payload (cell y c) 0 d)
    = xferPay A y c := by
  rw [Finset.sdiff_empty, duties_cell, bigSep_singleton, payload_cell]

end Sched

/-! ### The order of the waits -/

/-- Only a device's one core waits and pays. -/
def L (g : GSem nD τ sig) : Finset Unit := if g.1.2 = .tc then {()} else ∅

/-- Sends' cells first, then the barriers, then the receives' by hop. -/
def lv (g : GSem nD τ sig) (_ : Unit) : ℕ := if g.2 = .reg barrier0 then 1 else match dec g.2 with
  | some y => if y.2 then 0 else y.1.2.2.val + 2
  | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_s (d : Bool) (j : Kind) (s : Fin (n d)) (c : Dev nD) (u : Unit) : lv (sCell d j s c) u = 0 := by
  unfold lv; rw [if_neg (osem_ne_bar _), dec_osem]; rfl
theorem lv_r (d : Bool) (j : Kind) (s : Fin (n d)) (c : Dev nD) (u : Unit) : lv (rCell d j s c) u = s.val + 2 := by
  unfold lv; rw [if_neg (osem_ne_bar _), dec_osem]; rfl

/-- All that is owed is owed to cells later than `m`. -/
def Above (m : ℕ) (O : CellTallies nD τ sig Unit) : Prop := ∀ g u, 0 < O g u → u ∈ L g ∧ m < lv g u

theorem Above.add {m : ℕ} {O O' : CellTallies nD τ sig Unit} (h : Above m O) (h' : Above m O') : Above m (O + O') := fun g u hg => by
  rcases Nat.eq_zero_or_pos (O g u) with h0 | h0
  · refine h' g u ?_
    have : (O + O') g u = O g u + O' g u := rfl
    omega
  · exact h g u h0

theorem Above.zero (m : ℕ) : Above m (0 : CellTallies nD τ sig Unit) := fun g u hg => absurd hg (Nat.lt_irrefl 0)

theorem Above.mono {m m' : ℕ} {O : CellTallies nD τ sig Unit} (h : Above m O) (hm : m' ≤ m) : Above m' O :=
  fun g u hg => ⟨(h g u hg).1, lt_of_le_of_lt hm (h g u hg).2⟩

theorem Above.sum {ι : Type} [DecidableEq ι] {m : ℕ} {S : Finset ι} {O : ι → CellTallies nD τ sig Unit} (h : ∀ i ∈ S, Above m (O i)) :
    Above m (∑ i ∈ S, O i) := by
  induction S using Finset.induction_on with
  | empty => rw [Finset.sum_empty]; exact Above.zero m
  | insert i S hi ih =>
    rw [Finset.sum_insert hi]
    exact (h i (Finset.mem_insert_self i S)).add (ih fun k hk => h k (Finset.mem_insert_of_mem hk))

theorem Above.tally {m k : ℕ} (c : Dev nD) (sm : SemLoc sig) (h : m < lv ((c : Thread nD τ), sm) ()) :
    Above m (tallyAt ((c : Thread nD τ), sm) () k) := fun g u hg => by
  rw [tallyAt_apply] at hg
  by_cases e : g = ((c : Thread nD τ), sm) ∧ u = ()
  · rw [e.1]; exact ⟨by rw [L_tc]; exact Finset.mem_singleton_self _, h⟩
  · rw [if_neg e] at hg; exact absurd hg (Nat.lt_irrefl 0)

theorem mayWait {m : ℕ} {O : CellTallies nD τ sig Unit} (h : Above m O) (c : Dev nD) (sm : SemLoc sig)
    (hm : lv ((c : Thread nD τ), sm) () ≤ m) : (levAts L lv : sProp 𝕄) ⊢ MayWait (c : Thread nD τ) sm () O :=
  MayOwe.of_cut (L := L) (lev := lv) m (fun p hp => by rw [Finset.mem_singleton.mp hp, L_tc]; exact Finset.mem_singleton_self _)
    (fun g u hg => (h g u hg).1) (fun p hp => by rw [Finset.mem_singleton.mp hp]; exact hm) (fun g u hg => (h g u hg).2)

/-- What hop `s` of direction `d` owes the neighbour: its three transfers' receives. -/
def hopT (d : Bool) (s : Fin (n d)) (c : Dev nD) : CellTallies nD τ sig Unit :=
  tallyAt (rCell d .s s (tgt d c)) () (N .s) + tallyAt (rCell d .v s (tgt d c)) () (N .v) + tallyAt (rCell d .k s (tgt d c)) () (N .k)

/-- What the hops from `t` on owe. -/
def oweD (d : Bool) (t : ℕ) (c : Dev nD) : CellTallies nD τ sig Unit :=
  ∑ s ∈ Finset.univ.filter (fun s : Fin (n d) => t ≤ s.val), hopT d s c

theorem from_insert (d : Bool) (s : Fin (n d)) :
    Finset.univ.filter (fun s' : Fin (n d) => s.val ≤ s'.val) = insert s (Finset.univ.filter fun s' : Fin (n d) => s.val + 1 ≤ s'.val) := by
  ext x
  simp only [Finset.mem_filter, Finset.mem_univ, true_and, Finset.mem_insert, Fin.ext_iff]
  omega

theorem from_notMem (d : Bool) (s : Fin (n d)) : s ∉ Finset.univ.filter fun s' : Fin (n d) => s.val + 1 ≤ s'.val := by
  simp

theorem oweD_hop (d : Bool) (s : Fin (n d)) (c : Dev nD) : oweD d s.val c = oweD d (s.val + 1) c + hopT d s c := by
  unfold oweD
  rw [from_insert, Finset.sum_insert (from_notMem d s), add_comm]

theorem oweD_end (d : Bool) (c : Dev nD) : oweD d (n d) c = 0 := by
  unfold oweD
  rw [Finset.filter_false_of_mem fun s _ => by have := s.isLt; omega, Finset.sum_empty]

theorem above_oweD (d : Bool) (t : ℕ) (c : Dev nD) : Above (t + 1) (oweD d t c) :=
  Above.sum fun s hs => by
    have ht : t ≤ s.val := (Finset.mem_filter.mp hs).2
    have hl : ∀ j, t + 1 < lv (rCell d j s (tgt d c)) () := fun j => by rw [lv_r]; omega
    exact ((Above.tally (tgt d c) _ (hl .s)).add (Above.tally (tgt d c) _ (hl .v))).add (Above.tally (tgt d c) _ (hl .k))

/-- What is owed once hops `t` of direction `true` and `t'` of direction `false` have started. -/
def owed (t t' : ℕ) (c : Dev nD) : CellTallies nD τ sig Unit := oweD true t c + oweD false t' c

/-- At launch a device owes every hop's transfers and a unit to either neighbour's barrier. -/
def O₁ (c : Dev nD) : CellTallies nD τ sig Unit := owed 0 0 c + tallyAt (barCell (nxt c)) () 1
def O₀ (c : Dev nD) : CellTallies nD τ sig Unit := O₁ c + tallyAt (barCell (prv c)) () 1

end Cert.KernelIdeal.Talk
-- ==== Proof.KernelIdeal.Transfer.lean ====
/-
  One hop's transfers: the starts, which lend half of the block sent, and the waits, which bring it
  back and with it the block that arrived.
-/
module

public import proofs.«01_k».proof.Proof.KernelIdeal.Protocol

@[expose] public section

set_option maxRecDepth 65536

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → (j : Kind) → (shp j).Idx → Elt F (elt j))

/-- The cells' invariants, at the names `K`. -/
def invs (K : GSem nD τ sig → ℕ) : sProp 𝕄 :=
  iprop((bigSep Finset.univ fun c : Dev nD => cellInv ER (sched A) (K (barCell c)) (barCell c))
    ∗ bigSep Finset.univ fun p : Dev nD × Cx => cellInv ER (sched A) (K (cell p.2 p.1)) (cell p.2 p.1))

instance invs_persistent (K : GSem nD τ sig → ℕ) : BI.Persistent (invs A K) := by unfold invs; infer_instance

theorem invs_bar (K : GSem nD τ sig → ℕ) (c : Dev nD) : invs A K ⊢ cellInv ER (sched A) (K (barCell c)) (barCell c) :=
  sep_elim_left.trans (show _ ⊢ _ from BI.bigSep_elim
    (Φ := fun c : Dev nD => (cellInv ER (sched A) (K (barCell c)) (barCell c) : sProp 𝕄)) (Finset.mem_univ c))

theorem invs_cell (K : GSem nD τ sig → ℕ) (y : Cx) (c : Dev nD) : invs A K ⊢ cellInv ER (sched A) (K (cell y c)) (cell y c) :=
  sep_elim_right.trans (show _ ⊢ _ from BI.bigSep_elim
    (Φ := fun p : Dev nD × Cx => (cellInv ER (sched A) (K (cell p.2 p.1)) (cell p.2 p.1) : sProp 𝕄)) (Finset.mem_univ (c, y)))

/-- One assertion for each of the three arrays. -/
def all3 (P : Kind → sProp 𝕄) : sProp 𝕄 := iprop(P .k ∗ P .v ∗ P .s)

/-- What a device owes, whatever it has waited on. -/
def owesE (c : Dev nD) (O : CellTallies nD τ sig Unit) : sProp 𝕄 := iprop(∃ W, owes (c : Thread nD τ) O W)

/-- A transfer not yet started: both its cells open, the receive's credit, the rights to pay the own
    send's cell and the neighbour's receive's, and the block it fills. -/
def todoJ (d : Bool) (s : Fin (n d)) (c : Dev nD) (j : Kind) : sProp 𝕄 :=
  iprop(atPos ER (sCell d j s c) 0 ∅ 0 ∗ atPos ER (rCell d j s c) 0 ∅ 0 ∗ cred (tallyAt (rCell d j s c) () (N j))
    ∗ dutyTok ER (sCell d j s c) 0 false ∗ reached ER (sCell d j s c) 0
    ∗ dutyTok ER (rCell d j s (tgt d c)) 0 false ∗ reached ER (rCell d j s (tgt d c)) 0
    ∗ ∃ f, slotP d j s.castSucc (tgt d c) fullShare f)

/-- A transfer started: its two cells and the two credits. -/
def flyJ (d : Bool) (s : Fin (n d)) (c : Dev nD) (j : Kind) : sProp 𝕄 :=
  iprop(atPos ER (sCell d j s c) 0 ∅ 0 ∗ atPos ER (rCell d j s c) 0 ∅ 0 ∗ cred (tallyAt (rCell d j s c) () (N j))
    ∗ cred (tallyAt (sCell d j s c) () (N j)))

/-- A transfer over: the block it brought, and both cells' counters at zero. -/
def doneJ (d : Bool) (s : Fin (n d)) (c : Dev nD) (j : Kind) : sProp 𝕄 :=
  iprop(slotF A d j s.castSucc c fullShare ∗ semVal (sCell d j s c) 0 ∗ semVal (rCell d j s c) 0)

/-- A block of a direction, of all three arrays. -/
def slots (d : Bool) (t : Fin (n d + 1)) (c : Dev nD) (q : PosShare TreeShare) : sProp 𝕄 := all3 fun j => slotF A d j t c q
def todo (d : Bool) (s : Fin (n d)) (c : Dev nD) : sProp 𝕄 := all3 (todoJ d s c)
def fly (d : Bool) (s : Fin (n d)) (c : Dev nD) : sProp 𝕄 := all3 (flyJ d s c)
def done (d : Bool) (s : Fin (n d)) (c : Dev nD) : sProp 𝕄 := all3 (doneJ A d s c)

/-- A block in its two halves. -/
theorem slotF_share (d : Bool) (j : Kind) (t : Fin (n d + 1)) (c : Dev nD) :
    (slotF A d j t c fullShare : sProp 𝕄) ⊣⊢ iprop(slotF A d j t c (PosShare.left fullShare) ∗ slotF A d j t c (PosShare.right fullShare)) := by
  unfold slotF slotP
  exact pointsTo_share (PosShare.mem_left_op_right fullShare)

/-! ### The starts -/

theorem startM_wp (K : GSem nD τ sig → ℕ) (d : Bool) (j : Kind) (s : Fin (n d)) (c : Dev nD)
    (O : CellTallies nD τ sig Unit) (Q : PUnit → sProp 𝕄) :
    iprop(invs A K ∗ slotF A d j (srcOf d s) c fullShare ∗ todoJ d s c j ∗ owesE c (O + tallyAt (rCell d j s (tgt d c)) () (N j))
        ∗ ((slotF A d j (srcOf d s) c (PosShare.right fullShare) ∗ flyJ d s c j ∗ owesE c O) -∗ Q ⟨⟩))
      ⊢ wp frame (wpE (defs₀ (F := F)) 𝒱₀ (c : Thread nD τ) none) Set.univ (startM d j (srcOf d s) s c) Q := by
  unfold startM start todoJ flyJ owesE
  iintro ⟨#HI, Hsrc, ⟨HaS, HaR, HcR, HtS, #HrS, HtR, #HrR, ⟨%fn, Hdst⟩⟩, ⟨%W, HO⟩, Hk⟩
  ihave #HIs := (invs_cell A K (⟨d, j, s⟩, true) c) $$ HI
  ihave #HIr := (invs_cell A K (⟨d, j, s⟩, false) (tgt d c)) $$ HI
  ihave Hsrc2 := (slotF_share A d j (srcOf d s) c).1 $$ Hsrc
  icases Hsrc2 with ⟨HsL, HsR⟩
  unfold slotF slotP
  iapply (Rounds.wp_send_pointsTo 𝒱₀ ER (sched A) (c : Thread nD τ) none (c' := (tgt d c : Thread nD τ)) (src := slotM d j (srcOf d s))
      (dst := slotM d j s.castSucc) (sS := osem (⟨d, j, s⟩, true)) (sem := osem (⟨d, j, s⟩, false)) (q := PosShare.left fullShare) (fs := bufC A d j c)
      (κ₁ := K (sCell d j s c)) (κ₂ := K (rCell d j s (tgt d c))) (r₁ := 0) (r₂ := 0) (d₁ := false) (d₂ := false) (fd := fn)
      (by rw [duties_cell]; exact Finset.mem_singleton_self _) (by rw [duties_cell]; exact Finset.mem_singleton_self _)
      () () (N j) (N_eq d j _) (amount_cell A (⟨d, j, s⟩, true) c false) (amount_cell A (⟨d, j, s⟩, false) (tgt d c) false) O rfl (W := W)
      (by rw [payload_cell]; exact BI.Entails.refl _)
      (by rw [payload_cell]; exact Entails.of_eq (copied A d j s c fn))) $$ [HsL Hdst HO HtS HtR]
  · isplitr; · iexact HIs
    isplitr; · iexact HIr
    isplitl [HsL]; · iexact HsL
    isplitl [Hdst]; · iexact Hdst
    isplitl [HO]; · iexact HO
    isplitl [HtS]; · iexact HtS
    isplitr; · iexact HrS
    isplitl [HtR]; · iexact HtR
    iexact HrR
  iintro ⟨HcS, HO⟩
  rw [wp_ret]
  imodintro
  iapply Hk
  isplitl [HsR]; · iexact HsR
  isplitl [HaS HaR HcR HcS]
  · isplitl [HaS]; · iexact HaS
    isplitl [HaR]; · iexact HaR
    isplitl [HcR]; · iexact HcR
    iexact HcS
  iexists W; iexact HO

/-- A hop's three starts. -/
theorem startHop_wp (K : GSem nD τ sig → ℕ) (d : Bool) (src : Fin (n d + 1)) (s : Fin (n d)) (hs : src = srcOf d s) (c : Dev nD)
    (O : CellTallies nD τ sig Unit) (Q : PUnit → sProp 𝕄) :
    iprop(invs A K ∗ slots A d src c fullShare ∗ todo d s c ∗ owesE c (O + hopT d s c)
        ∗ ((slots A d src c (PosShare.right fullShare) ∗ fly d s c ∗ owesE c O) -∗ Q ⟨⟩))
      ⊢ wp frame (wpE (defs₀ (F := F)) 𝒱₀ (c : Thread nD τ) none) Set.univ (startHop d src s c) Q := by
  subst hs
  unfold startHop slots todo fly all3 hopT
  rw [← add_assoc, ← add_assoc, wp_bind]
  iintro ⟨#HI, ⟨Hk0, Hv0, Hs0⟩, ⟨Tk, Tv, Ts⟩, HO, HQ⟩
  iapply (startM_wp A K d .k s c _ _)
  isplitr; · iexact HI
  isplitl [Hk0]; · iexact Hk0
  isplitl [Tk]; · iexact Tk
  isplitl [HO]; · iexact HO
  iintro ⟨Hk0, Tk, HO⟩
  rw [wp_bind]
  iapply (startM_wp A K d .v s c _ _)
  isplitr; · iexact HI
  isplitl [Hv0]; · iexact Hv0
  isplitl [Tv]; · iexact Tv
  isplitl [HO]; · iexact HO
  iintro ⟨Hv0, Tv, HO⟩
  iapply (startM_wp A K d .s s c _ _)
  isplitr; · iexact HI
  isplitl [Hs0]; · iexact Hs0
  isplitl [Ts]; · iexact Ts
  isplitl [HO]; · iexact HO
  iintro ⟨Hs0, Ts, HO⟩
  iapply HQ
  isplitl [Hk0 Hv0 Hs0]
  · isplitl [Hk0]; · iexact Hk0
    isplitl [Hv0]; · iexact Hv0
    iexact Hs0
  isplitl [Tk Tv Ts]
  · isplitl [Tk]; · iexact Tk
    isplitl [Tv]; · iexact Tv
    iexact Ts
  iexact HO

/-! ### The waits -/

/-- A wait on a transfer's cell: the payment comes, and the counter back at zero. -/
theorem await_wp (K : GSem nD τ sig → ℕ) (y : Cx) (c : Dev nD) (q : DmaSem sig) (hq : osem y = .dma q) (m : ℕ)
    {src dst : Memref sig .tc .vmem (shp y.1.2.1) (elt y.1.2.1)} {hs : src.view.WordExact} {hd : dst.view.WordExact}
    (hN : dst.view.dmaCredit = N y.1.2.1) {O : CellTallies nD τ sig Unit} (hO : Above m O) (hm : lv (cell y c) () ≤ m) (Q : PUnit → sProp 𝕄) :
    iprop(invs A K ∗ levAts L lv ∗ cred (tallyAt (cell y c) () (N y.1.2.1)) ∗ owesE c O ∗ atPos ER (cell y c) 0 ∅ 0
        ∗ ((owesE c O ∗ semVal (cell y c) 0 ∗ xferPay A y c) -∗ Q ⟨⟩))
      ⊢ wp frame (wpE (defs₀ (F := F)) 𝒱₀ (c : Thread nD τ) none) Set.univ (await q src dst hs hd) Q := by
  have hg : cell y c = ((c : Thread nD τ), .dma q) := by unfold cell; rw [hq]
  unfold await owesE
  iintro ⟨#HI, #Hlev, Hc, ⟨%W, HO⟩, Hat, Hk⟩
  ihave #HIc := (invs_cell A K y c) $$ HI
  have hexp := expect_cell A y c
  have hrest := rest_cell A y c
  have hmw := mayWait (F := F) hO c (osem y) hm
  have hcl := duties_later (F := F) A (cell y c)
  rw [hq] at hmw
  rw [hg] at hexp hrest hcl ⊢
  iapply (Rounds.wp_wait_rest_token 𝒱₀ ER (sched A) (c : Thread nD τ) none (κ := K ((c : Thread nD τ), .dma q))
      (wpE_waitDma2_eq 𝒱₀ (c : Thread nD τ) none Set.univ) (Set.mem_univ _) () (O := O) (W := W) (R := 0) (m := 0) (T := ∅)
      (by rw [Nat.zero_add, hN, hexp])) $$ [Hc HO Hat]
  · isplitr; · iexact HIc
    isplitl [Hc]; · rw [hN]; iexact Hc
    isplitl [HO]; · iexact HO
    isplitr; · iapply hmw; iexact Hlev
    iexact Hat
  iintro ⟨HO, Hat, -, Hpay⟩
  rw [wp_ret]
  imod (Rounds.cell_close ER (sched A) (Set.mem_univ (K ((c : Thread nD τ), .dma q))) id (R := 0 + 1) hcl) $$ [Hat] with Hz
  · isplitr; · iexact HIc
    iexact Hat
  imodintro
  iapply Hk
  isplitl [HO]; · iexists _; iexact HO
  isplitl [Hz]; · iexact Hz
  iapply (Entails.of_eq hrest); iexact Hpay

theorem xferPay_s (d : Bool) (j : Kind) (s : Fin (n d)) (c : Dev nD) :
    (xferPay A (⟨d, j, s⟩, true) c : sProp 𝕄) = slotF A d j (srcOf d s) c (PosShare.left fullShare) := if_pos rfl
theorem xferPay_r (d : Bool) (j : Kind) (s : Fin (n d)) (c : Dev nD) :
    (xferPay A (⟨d, j, s⟩, false) c : sProp 𝕄) = slotF A d j s.castSucc c fullShare := if_neg Bool.false_ne_true

/-- The two waits on one array's transfer. -/
theorem waitM_wp (K : GSem nD τ sig → ℕ) (d : Bool) (j : Kind) (s : Fin (n d)) (c : Dev nD)
    {O : CellTallies nD τ sig Unit} (hO : Above (s.val + 2) O) (Q : PUnit → sProp 𝕄) :
    iprop(invs A K ∗ levAts L lv ∗ slotF A d j (srcOf d s) c (PosShare.right fullShare) ∗ flyJ d s c j ∗ owesE c O
        ∗ ((slotF A d j (srcOf d s) c fullShare ∗ doneJ A d s c j ∗ owesE c O) -∗ Q ⟨⟩))
      ⊢ wp frame (wpE (defs₀ (F := F)) 𝒱₀ (c : Thread nD τ) none) Set.univ (waitM d j (srcOf d s) s) Q := by
  unfold waitM flyJ doneJ
  rw [wp_bind]
  iintro ⟨#HI, #Hlev, HsR, ⟨HaS, HaR, HcR, HcS⟩, HO, Hk⟩
  iapply (await_wp A K (⟨d, j, s⟩, true) c _ rfl (s.val + 2) (N_eq d j _) hO (by rw [lv_s]; omega) _)
  isplitr; · iexact HI
  isplitr; · iexact Hlev
  isplitl [HcS]; · iexact HcS
  isplitl [HO]; · iexact HO
  isplitl [HaS]; · iexact HaS
  iintro ⟨HO, HzS, HsL⟩
  ihave HsL := (Entails.of_eq (xferPay_s A d j s c)) $$ HsL
  iapply (await_wp A K (⟨d, j, s⟩, false) c _ rfl (s.val + 2) (N_eq d j _) hO (by rw [lv_r]) _)
  isplitr; · iexact HI
  isplitr; · iexact Hlev
  isplitl [HcR]; · iexact HcR
  isplitl [HO]; · iexact HO
  isplitl [HaR]; · iexact HaR
  iintro ⟨HO, HzR, Hv⟩
  ihave Hv := (Entails.of_eq (xferPay_r A d j s c)) $$ Hv
  iapply Hk
  isplitl [HsL HsR]
  · iapply (slotF_share A d j (srcOf d s) c).2
    isplitl [HsL]; · iexact HsL
    iexact HsR
  isplitl [Hv HzS HzR]
  · isplitl [Hv]; · iexact Hv
    isplitl [HzS]; · iexact HzS
    iexact HzR
  iexact HO

/-- A hop's six waits. -/
theorem waitHop_wp (K : GSem nD τ sig → ℕ) (d : Bool) (src : Fin (n d + 1)) (s : Fin (n d)) (hs : src = srcOf d s) (c : Dev nD)
    {O : CellTallies nD τ sig Unit} (hO : Above (s.val + 2) O) (Q : PUnit → sProp 𝕄) :
    iprop(invs A K ∗ levAts L lv ∗ slots A d src c (PosShare.right fullShare) ∗ fly d s c ∗ owesE c O
        ∗ ((slots A d src c fullShare ∗ done A d s c ∗ owesE c O) -∗ Q ⟨⟩))
      ⊢ wp frame (wpE (defs₀ (F := F)) 𝒱₀ (c : Thread nD τ) none) Set.univ (waitHop d src s) Q := by
  subst hs
  unfold waitHop slots fly done all3
  rw [wp_bind]
  iintro ⟨#HI, #Hlev, ⟨Hk0, Hv0, Hs0⟩, ⟨Tk, Tv, Ts⟩, HO, HQ⟩
  iapply (waitM_wp A K d .k s c hO _)
  isplitr; · iexact HI
  isplitr; · iexact Hlev
  isplitl [Hk0]; · iexact Hk0
  isplitl [Tk]; · iexact Tk
  isplitl [HO]; · iexact HO
  iintro ⟨Hk0, Tk, HO⟩
  rw [wp_bind]
  iapply (waitM_wp A K d .v s c hO _)
  isplitr; · iexact HI
  isplitr; · iexact Hlev
  isplitl [Hv0]; · iexact Hv0
  isplitl [Tv]; · iexact Tv
  isplitl [HO]; · iexact HO
  iintro ⟨Hv0, Tv, HO⟩
  iapply (waitM_wp A K d .s s c hO _)
  isplitr; · iexact HI
  isplitr; · iexact Hlev
  isplitl [Hs0]; · iexact Hs0
  isplitl [Ts]; · iexact Ts
  isplitl [HO]; · iexact HO
  iintro ⟨Hs0, Ts, HO⟩
  iapply HQ
  isplitl [Hk0 Hv0 Hs0]
  · isplitl [Hk0]; · iexact Hk0
    isplitl [Hv0]; · iexact Hv0
    iexact Hs0
  isplitl [Tk Tv Ts]
  · isplitl [Tk]; · iexact Tk
    isplitl [Tv]; · iexact Tv
    iexact Ts
  iexact HO

end Cert.KernelIdeal.Talk
-- ==== Proof.KernelIdeal.Hop.lean ====
/-
  One turn of the kernel's loop is a hop of both rings: the six starts, the attention over the two
  blocks that arrived a hop ago, and the twelve waits.
-/
module

public import proofs.«01_k».proof.Proof.KernelIdeal.Steps

@[expose] public section

set_option maxRecDepth 65536

noncomputable section

namespace Cert.KernelIdeal.Talk

open Cert.KernelIdeal.Gen
open Idealize.ShloMosaic Idealize.ShloMosaic.TcCoe Idealize.SL.Sem

variable {F : FTy → Type} [FloatOps F]

theorem trips_eq : k0_t1_loop.trips = 14 := by decide +kernel

theorem trip_lt (k : Fin k0_t1_loop.trips) : k.val < 14 := trips_eq ▸ k.isLt

/-- The block a turn sends on and attends over, and the hop it makes. -/
abbrev kSrc (d : Bool) (k : Fin k0_t1_loop.trips) : Fin (n d + 1) :=
  ⟨k.val, by have := trip_lt k; cases d <;> simp only [n] <;> omega⟩
abbrev kHop (d : Bool) (k : Fin k0_t1_loop.trips) : Fin (n d) :=
  ⟨k.val + 1, by have := trip_lt k; cases d <;> simp only [n] <;> omega⟩

/-- One turn of the loop, in the named pieces. -/
def hop (mask : IVec S256x256 1) (c : Dev nD) (k : Fin k0_t1_loop.trips) : Pg F PUnit := do
  startHop true (kSrc true k) (kHop true k) c
  startHop false (kSrc false k) (kHop false k) c
  attendSlot mask true (kSrc true k)
  attendSlot mask false (kSrc false k)
  waitHop true (kSrc true k) (kHop true k)
  waitHop false (kSrc false k) (kHop false k)

/-- The wait on a transfer of one array at computed offsets. -/
def waitRaw (d : Bool) (j : Kind) (oS oD : Fin 4 → ℕ) (hS : ∀ a, oS a + (oshp j).size a ≤ (bshp d j).size a)
    (hD : ∀ a, oD a + (oshp j).size a ≤ (bshp d j).size a) (o : Fin 1 → ℕ) (ho : ∀ i, o i + S1.size i ≤ (semShp d).size i)
    (ws : (slotAt d j oS hS).view.WordExact) (wd : (slotAt d j oD hD).view.WordExact) : Pg F PUnit := do
  await (semAt (sendA d j) o ho) (slotAt d j oD hD) (slotAt d j oS hS) wd ws
  await (semAt (recvA d j) o ho) (slotAt d j oS hS) (slotAt d j oD hD) ws wd

/-- The start of a transfer of one array at computed offsets. -/
def startRaw (d : Bool) (j : Kind) (oS oD : Fin 4 → ℕ) (hS : ∀ a, oS a + (oshp j).size a ≤ (bshp d j).size a)
    (hD : ∀ a, oD a + (oshp j).size a ≤ (bshp d j).size a) (o : Fin 1 → ℕ) (ho : ∀ i, o i + S1.size i ≤ (semShp d).size i)
    (dev : Dev nD) (ws : (slotAt d j oS hS).view.WordExact) (wd : (slotAt d j oD hD).view.WordExact) : Pg F PUnit :=
  start (slotAt d j oS hS) (slotAt d j oD hD) dev (semAt (sendA d j) o ho) (semAt (recvA d j) o ho) ws wd

theorem startRaw_eq {d : Bool} {j : Kind} {oS oD : Fin 4 → ℕ} {hS hD dev} {o : Fin 1 → ℕ} {ho ws wd}
    (src : Fin (n d + 1)) (s : Fin (n d)) (c : Dev nD) (eS : oS = ![src.val, 0, 0, 0]) (eD : oD = ![s.val, 0, 0, 0])
    (eo : o = ![s.val]) (ed : dev = tgt d c) :
    (startRaw d j oS oD hS hD o ho dev ws wd : Pg F PUnit) = startM d j src s c := by
  subst eS eD ed eo; rfl

theorem waitRaw_eq {d : Bool} {j : Kind} {oS oD : Fin 4 → ℕ} {hS hD} {o : Fin 1 → ℕ} {ho ws wd}
    (src : Fin (n d + 1)) (s : Fin (n d)) (eS : oS = ![src.val, 0, 0, 0]) (eD : oD = ![s.val, 0, 0, 0])
    (eo : o = ![s.val]) :
    (waitRaw d j oS oD hS hD o ho ws wd : Pg F PUnit) = waitM d j src s := by
  subst eS eD eo; rfl

/-- The printed turn over the kernel's own buffers, as it stands: the pieces at the printed offsets
    and devices. -/
theorem body_raw (mask : IVec S256x256 1) (c : Dev nD) (v5 v7 : BitVec 32)
    (m0 : Memref sig .tc .vmem S2x256x512 .f32) (h0 : m0.IsWhole) (m1 : Memref sig .tc .vmem S512x256 .f32) (h1 : m1.IsWhole)
    (m2 : Memref sig .tc .vmem S2x256x256 .i8) (h2 : m2.IsWhole) (m3 : Memref sig .tc .vmem S2x256x256 .i8) (h3 : m3.IsWhole)
    (m4 : Memref sig .tc .vmem S2x2x256 .f32) (h4 : m4.IsWhole) (m5 : Memref sig .tc .vmem S256x512 .f32) (h5 : m5.IsWhole)
    (m6 : Memref sig .tc .vmem S2x256x512 .f32) (h6 : m6.IsWhole)
    (k : Fin k0_t1_loop.trips) :
    k0_t1_body (F := F) m0 h0 m1 h1 m2 h2 m3 h3 m4 h4 m5 h5 m6 h6
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _)
      cc0_scratch9 cc0_scratch10 cc0_scratch11 cc0_scratch12 cc0_scratch13 cc0_scratch14 cc0_scratch15 cc0_scratch16
      cc0_scratch17 cc0_scratch18 cc0_scratch19 cc0_scratch20 c v5 v7 mask k () =
    (do
      startRaw true .k (k0_off3 k) (k0_off2 k) (k0_off3_inb k) (k0_off2_inb k) (k0_off1 k) (k0_off1_inb k) ⟨k0_dev9 c, k0_dev9_lt c⟩
        (slotAt_wordExact true .k _ _ (by rw [k0_off3_eq k]; rfl)) (slotAt_wordExact true .k _ _ (by rw [k0_off2_eq k]; rfl))
      startRaw true .v (k0_off3 k) (k0_off2 k) (k0_off3_inb k) (k0_off2_inb k) (k0_off1 k) (k0_off1_inb k) ⟨k0_dev10 c, k0_dev10_lt c⟩
        (slotAt_wordExact true .v _ _ (by rw [k0_off3_eq k]; rfl)) (slotAt_wordExact true .v _ _ (by rw [k0_off2_eq k]; rfl))
      startRaw true .s (k0_off5 k) (k0_off4 k) (k0_off5_inb k) (k0_off4_inb k) (k0_off1 k) (k0_off1_inb k) ⟨k0_dev11 c, k0_dev11_lt c⟩
        (slotAt_wordExact true .s _ _ (by rw [k0_off5_eq k]; rfl)) (slotAt_wordExact true .s _ _ (by rw [k0_off4_eq k]; rfl))
      startRaw false .k (k0_off8 k) (k0_off7 k) (k0_off8_inb k) (k0_off7_inb k) (k0_off6 k) (k0_off6_inb k) ⟨k0_dev12 c, k0_dev12_lt c⟩
        (slotAt_wordExact false .k _ _ (by rw [k0_off8_eq k]; rfl)) (slotAt_wordExact false .k _ _ (by rw [k0_off7_eq k]; rfl))
      startRaw false .v (k0_off8 k) (k0_off7 k) (k0_off8_inb k) (k0_off7_inb k) (k0_off6 k) (k0_off6_inb k) ⟨k0_dev13 c, k0_dev13_lt c⟩
        (slotAt_wordExact false .v _ _ (by rw [k0_off8_eq k]; rfl)) (slotAt_wordExact false .v _ _ (by rw [k0_off7_eq k]; rfl))
      startRaw false .s (k0_off10 k) (k0_off9 k) (k0_off10_inb k) (k0_off9_inb k) (k0_off6 k) (k0_off6_inb k) ⟨k0_dev14 c, k0_dev14_lt c⟩
        (slotAt_wordExact false .s _ _ (by rw [k0_off10_eq k]; rfl)) (slotAt_wordExact false .s _ _ (by rw [k0_off9_eq k]; rfl))
      attend8 mask (ldCode true (bufM true .k) (k0_off11 k) (k0_off11_inb k)) (ldCode true (bufM true .v) (k0_off11 k) (k0_off11_inb k))
        (ldScale true (k0_off12 k) (k0_off12_inb k)) (ldScale true (k0_off13 k) (k0_off13_inb k))
        (ldCode true (bufM true .k) (k0_off14 k) (k0_off14_inb k)) (ldCode true (bufM true .v) (k0_off14 k) (k0_off14_inb k))
        (ldScale true (k0_off15 k) (k0_off15_inb k)) (ldScale true (k0_off16 k) (k0_off16_inb k))
      attend8 mask (ldCode false (bufM false .k) (k0_off17 k) (k0_off17_inb k)) (ldCode false (bufM false .v) (k0_off17 k) (k0_off17_inb k))
        (ldScale false (k0_off18 k) (k0_off18_inb k)) (ldScale false (k0_off19 k) (k0_off19_inb k))
        (ldCode false (bufM false .k) (k0_off20 k) (k0_off20_inb k)) (ldCode false (bufM false .v) (k0_off20 k) (k0_off20_inb k))
        (ldScale false (k0_off21 k) (k0_off21_inb k)) (ldScale false (k0_off22 k) (k0_off22_inb k))
      waitRaw true .k (k0_off3 k) (k0_off2 k) (k0_off3_inb k) (k0_off2_inb k) (k0_off1 k) (k0_off1_inb k)
        (slotAt_wordExact true .k _ _ (by rw [k0_off3_eq k]; rfl)) (slotAt_wordExact true .k _ _ (by rw [k0_off2_eq k]; rfl))
      waitRaw true .v (k0_off3 k) (k0_off2 k) (k0_off3_inb k) (k0_off2_inb k) (k0_off1 k) (k0_off1_inb k)
        (slotAt_wordExact true .v _ _ (by rw [k0_off3_eq k]; rfl)) (slotAt_wordExact true .v _ _ (by rw [k0_off2_eq k]; rfl))
      waitRaw true .s (k0_off5 k) (k0_off4 k) (k0_off5_inb k) (k0_off4_inb k) (k0_off1 k) (k0_off1_inb k)
        (slotAt_wordExact true .s _ _ (by rw [k0_off5_eq k]; rfl)) (slotAt_wordExact true .s _ _ (by rw [k0_off4_eq k]; rfl))
      waitRaw false .k (k0_off8 k) (k0_off7 k) (k0_off8_inb k) (k0_off7_inb k) (k0_off6 k) (k0_off6_inb k)
        (slotAt_wordExact false .k _ _ (by rw [k0_off8_eq k]; rfl)) (slotAt_wordExact false .k _ _ (by rw [k0_off7_eq k]; rfl))
      waitRaw false .v (k0_off8 k) (k0_off7 k) (k0_off8_inb k) (k0_off7_inb k) (k0_off6 k) (k0_off6_inb k)
        (slotAt_wordExact false .v _ _ (by rw [k0_off8_eq k]; rfl)) (slotAt_wordExact false .v _ _ (by rw [k0_off7_eq k]; rfl))
      waitRaw false .s (k0_off10 k) (k0_off9 k) (k0_off10_inb k) (k0_off9_inb k) (k0_off6 k) (k0_off6_inb k)
        (slotAt_wordExact false .s _ _ (by rw [k0_off10_eq k]; rfl)) (slotAt_wordExact false .s _ _ (by rw [k0_off9_eq k]; rfl))
      pure ⟨⟩) := by
  rfl

/-- The printed turn is the hop. -/
theorem body_eq (mask : IVec S256x256 1) (c : Dev nD) (v5 v7 : BitVec 32)
    (m0 : Memref sig .tc .vmem S2x256x512 .f32) (h0 : m0.IsWhole) (m1 : Memref sig .tc .vmem S512x256 .f32) (h1 : m1.IsWhole)
    (m2 : Memref sig .tc .vmem S2x256x256 .i8) (h2 : m2.IsWhole) (m3 : Memref sig .tc .vmem S2x256x256 .i8) (h3 : m3.IsWhole)
    (m4 : Memref sig .tc .vmem S2x2x256 .f32) (h4 : m4.IsWhole) (m5 : Memref sig .tc .vmem S256x512 .f32) (h5 : m5.IsWhole)
    (m6 : Memref sig .tc .vmem S2x256x512 .f32) (h6 : m6.IsWhole)
    (k : Fin k0_t1_loop.trips) :
    k0_t1_body (F := F) m0 h0 m1 h1 m2 h2 m3 h3 m4 h4 m5 h5 m6 h6
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _)
      cc0_scratch9 cc0_scratch10 cc0_scratch11 cc0_scratch12 cc0_scratch13 cc0_scratch14 cc0_scratch15 cc0_scratch16
      cc0_scratch17 cc0_scratch18 cc0_scratch19 cc0_scratch20 c v5 v7 mask k () = hop mask c k := by
  rw [body_raw]
  rw [startRaw_eq (kSrc true k) (kHop true k) c (k0_off3_eq k) (k0_off2_eq k) (k0_off1_eq k) (Fin.ext (k0_dev9_eq c)),
    startRaw_eq (kSrc true k) (kHop true k) c (k0_off3_eq k) (k0_off2_eq k) (k0_off1_eq k) (Fin.ext (k0_dev10_eq c)),
    startRaw_eq (kSrc true k) (kHop true k) c (k0_off5_eq k) (k0_off4_eq k) (k0_off1_eq k) (Fin.ext (k0_dev11_eq c)),
    startRaw_eq (kSrc false k) (kHop false k) c (k0_off8_eq k) (k0_off7_eq k) (k0_off6_eq k) (Fin.ext (k0_dev12_eq c)),
    startRaw_eq (kSrc false k) (kHop false k) c (k0_off8_eq k) (k0_off7_eq k) (k0_off6_eq k) (Fin.ext (k0_dev13_eq c)),
    startRaw_eq (kSrc false k) (kHop false k) c (k0_off10_eq k) (k0_off9_eq k) (k0_off6_eq k) (Fin.ext (k0_dev14_eq c)),
    waitRaw_eq (kSrc true k) (kHop true k) (k0_off3_eq k) (k0_off2_eq k) (k0_off1_eq k),
    waitRaw_eq (kSrc true k) (kHop true k) (k0_off3_eq k) (k0_off2_eq k) (k0_off1_eq k),
    waitRaw_eq (kSrc true k) (kHop true k) (k0_off5_eq k) (k0_off4_eq k) (k0_off1_eq k),
    waitRaw_eq (kSrc false k) (kHop false k) (k0_off8_eq k) (k0_off7_eq k) (k0_off6_eq k),
    waitRaw_eq (kSrc false k) (kHop false k) (k0_off8_eq k) (k0_off7_eq k) (k0_off6_eq k),
    waitRaw_eq (kSrc false k) (kHop false k) (k0_off10_eq k) (k0_off9_eq k) (k0_off6_eq k),
    ldCode_at (m := bufM true .k) (h' := code_inb true (kSrc true k) 0) (k0_off11_eq k),
    ldCode_at (m := bufM true .v) (h' := code_inb true (kSrc true k) 0) (k0_off11_eq k),
    ldCode_at (m := bufM true .k) (h' := code_inb true (kSrc true k) 1) (k0_off14_eq k),
    ldCode_at (m := bufM true .v) (h' := code_inb true (kSrc true k) 1) (k0_off14_eq k),
    ldCode_at (m := bufM false .k) (h' := code_inb false (kSrc false k) 0) (k0_off17_eq k),
    ldCode_at (m := bufM false .v) (h' := code_inb false (kSrc false k) 0) (k0_off17_eq k),
    ldCode_at (m := bufM false .k) (h' := code_inb false (kSrc false k) 1) (k0_off20_eq k),
    ldCode_at (m := bufM false .v) (h' := code_inb false (kSrc false k) 1) (k0_off20_eq k),
    ldScale_at (h' := scale_inb true (kSrc true k) 0 0) (k0_off12_eq k),
    ldScale_at (h' := scale_inb true (kSrc true k) 0 1) (k0_off13_eq k),
    ldScale_at (h' := scale_inb true (kSrc true k) 1 0) (k0_off15_eq k),
    ldScale_at (h' := scale_inb true (kSrc true k) 1 1) (k0_off16_eq k),
    ldScale_at (h' := scale_inb false (kSrc false k) 0 0) (k0_off18_eq k),
    ldScale_at (h' := scale_inb false (kSrc false k) 0 1) (k0_off19_eq k),
    ldScale_at (h' := scale_inb false (kSrc false k) 1 0) (k0_off21_eq k),
    ldScale_at (h' := scale_inb false (kSrc false k) 1 1) (k0_off22_eq k)]
  rfl

end Cert.KernelIdeal.Talk
-- ==== Proof.KernelIdeal.Whole.lean ====
/-
  The whole kernel in named pieces: the barrier with the two neighbours, the queries and the zeroed
  accumulators, the device's own blocks, the first hop with the attention over the device's own block,
  the loop, the last hop, and the division and the output.
-/
module

public import proofs.«01_k».proof.Proof.KernelIdeal.Hop
public import proofs.«01_k».proof.Proof.Gen.KernelIdeal.Points

@[expose] public section

set_option maxRecDepth 65536

noncomputable section

namespace Cert.KernelIdeal.Talk

open Cert.KernelIdeal.Gen
open Idealize.ShloMosaic Idealize.ShloMosaic.TcCoe Idealize.SL.Sem

variable {F : FTy → Type} [FloatOps F]

/-- The staging buffers of the operands and the result. -/
abbrev xM : Memref sig .tc .vmem S2x256x512 .f32 := Memref.whole cc0_stg0_0
abbrev wqM : Memref sig .tc .vmem S512x256 .f32 := Memref.whole cc0_stg1_0
abbrev k8M : Memref sig .tc .vmem S2x256x256 .i8 := Memref.whole cc0_stg2_0
abbrev v8M : Memref sig .tc .vmem S2x256x256 .i8 := Memref.whole cc0_stg3_0
abbrev scM : Memref sig .tc .vmem S2x2x256 .f32 := Memref.whole cc0_stg4_0
abbrev woM : Memref sig .tc .vmem S256x512 .f32 := Memref.whole cc0_stg5_0
abbrev oM : Memref sig .tc .vmem S2x256x512 .f32 := Memref.whole cc0_stg6_0

/-- The mask of the two blocks of sixty-four rows. -/
def mask : IVec S256x256 1 :=
  k0_pay88 (iota .tc S256x256 32 [0] iota_S256x256_d0_w32) 64#32 k0_pay86 k0_pay87 (Scalar.extui (Scalar.cmpi .sgt 64#32 0#32))

theorem inb_x (b : Fin 2) (a : Fin 3) : (![b.val, 0, 0] : Fin 3 → ℕ) a + S1x256x512.size a ≤ S2x256x512.size a := by
  revert a b; decide
theorem inb_b (b : Fin 2) (a : Fin 3) : (![b.val, 0, 0] : Fin 3 → ℕ) a + S1x256x256.size a ≤ S2x256x256.size a := by
  revert a b; decide
theorem inb_sc (b r : Fin 2) (a : Fin 3) : (![b.val, r.val, 0] : Fin 3 → ℕ) a + S1x1x256.size a ≤ S2x2x256.size a := by
  revert a b r; decide

abbrev xR (b : Fin 2) : Rect S2x256x512 := Rect.unit (s := S2x256x512) ![b.val, 0, 0] S1x256x512.size (inb_x b)
abbrev bR (b : Fin 2) : Rect S2x256x256 := Rect.unit (s := S2x256x256) ![b.val, 0, 0] S1x256x256.size (inb_b b)
abbrev scR (b r : Fin 2) : Rect S2x2x256 := Rect.unit (s := S2x2x256) ![b.val, r.val, 0] S1x1x256.size (inb_sc b r)
abbrev wqR : Rect S512x256 := Rect.unit (s := S512x256) ![0, 0] S512x256.size inb_S512x256_S512x256_0_0
abbrev woR : Rect S256x512 := Rect.unit (s := S256x512) ![0, 0] S256x512.size inb_S256x512_S256x512_0_0
abbrev laR : Rect S2x4x256x1 := Rect.unit (s := S2x4x256x1) ![0, 0, 0, 0] S2x4x256x1.size inb_S2x4x256x1_S2x4x256x1_0_0_0_0

theorem q_packed (b : Fin 2) : (bR b).PackedRows (EltTy.packing .bf16) := by revert b; decide

/-- The queries of a batch entry, scaled, and its accumulator set to zero. -/
def initB (b : Fin 2) : Pg F PUnit := do
  let x : Vec F S1x256x512 .f32 ← Prog.lift (.load xM (xR b).toLoadRect (View.loadsAt_vmem h_S1x256x512))
  let w : Vec F S512x256 .f32 ← Prog.lift (.load wqM wqR.toLoadRect (View.loadsAt_vmem h_S512x256))
  let _ : Vec F S1x256x256 .bf16 ← Prog.lift (.load qM (bR b).toLoadRect (View.loadsAt_vmem h_S1x256x256))
  Prog.lift (.store qM (bR b) (k0_pay80 x w) Finset.univ
    (View.stores_vmem h_S1x256x256 ((Memref.isWhole_whole _).storeExact_slice rfl _ (q_packed b)) (fun _ => rfl)) (.inl rfl))
  let _ : Vec F S1x256x256 .f32 ← Prog.lift (.load aM (bR b).toLoadRect (View.loadsAt_vmem h_S1x256x256))
  Prog.lift (.store aM (bR b) (k0_pay82 k0_pay81) Finset.univ (View.stores_vmem_bits_univ h_S1x256x256 rfl) (.inl rfl))

/-- The denominators set to zero. -/
def initL : Pg F PUnit := do
  let _ : Vec F S2x4x256x1 .f32 ← Prog.lift (.load lM laR.toLoadRect (View.loadsAt_vmem h_S2x4x256x1))
  Prog.lift (.store lM laR (k0_pay85 (F := F)) Finset.univ (View.stores_vmem_bits_univ h_S2x4x256x1 rfl) (.inl rfl))

theorem h_o (j : Kind) : 0 < (oshp j).numel := by cases j <;> decide
theorem h_s (j : Kind) : 0 < (shp j).numel := by cases j <;> decide

theorem src_inb (j : Kind) (a : Fin 3) : (![0, 0, 0] : Fin 3 → ℕ) a + (shp j).size a ≤ (shp j).size a := by
  fin_cases a <;> exact le_of_eq (Nat.zero_add _)

theorem numel_os (j : Kind) : (shp j).ShapeCasts (oshp j) := by cases j <;> decide
theorem numel_ss (j : Kind) : (shp j).ShapeCasts (shp j) := by cases j <;> decide

/-- The device's own block: the last of the ring buffer. -/
abbrev ownR (d : Bool) (j : Kind) : Rect (bshp d j) :=
  Rect.unit (s := bshp d j) ![n d, 0, 0, 0] (oshp j).size (slot_inb d j (Fin.last (n d)))

theorem own_packed (d : Bool) (j : Kind) : (ownR d j).PackedRows (EltTy.packing (elt j)) :=
  Or.inr ⟨by show 2 ≤ 4; omega, rfl, Or.inr ⟨rfl, rfl, rfl, rfl, rfl⟩⟩

/-- Filling the device's own block with its own array. -/
def fill (d : Bool) (j : Kind) (m : Memref sig .tc .vmem (shp j) (elt j)) : Pg F PUnit := do
  let x : Vec F (shp j) (elt j) ← Prog.lift (.load m (Rect.unit (s := shp j) ![0, 0, 0] (shp j).size (src_inb j)).toLoadRect (View.loadsAt_vmem (h_s j)))
  let _ : Vec F (oshp j) (elt j) ← Prog.lift (.load (bufM d j) (ownR d j).toLoadRect (View.loadsAt_vmem (h_o j)))
  Prog.lift (.store (bufM d j) (ownR d j) (shapeCast (oshp j) (shapeCast (shp j) x (numel_ss j)) (numel_os j)) Finset.univ
    (View.stores_vmem (h_o j) ((bufM_isWhole d j).storeExact_slice rfl _ (own_packed d j)) (fun _ => rfl)) (.inl rfl))

/-- The attention over the device's own array. -/
def ldOwn (m : Memref sig .tc .vmem S2x256x256 .i8) (b : Fin 2) : Pg F (IVec S256x256 8) := do
  let x : Vec F S1x256x256 .i8 ← Prog.lift (.load m (bR b).toLoadRect (View.loadsAt_vmem h_S1x256x256))
  pure (shapeCast S256x256 x shapeCasts_S1x256x256_S256x256)
def ldOwnS (b r : Fin 2) : Pg F (FVec F S1x256 .f32) := do
  let x : Vec F S1x1x256 .f32 ← Prog.lift (.load scM (scR b r).toLoadRect (View.loadsAt_vmem h_S1x1x256))
  pure (shapeCast S1x256 x shapeCasts_S1x1x256_S1x256)
def attendOwn : Pg F PUnit :=
  attend8 mask (ldOwn k8M 0) (ldOwn v8M 0) (ldOwnS 0 0) (ldOwnS 0 1) (ldOwn k8M 1) (ldOwn v8M 1) (ldOwnS 1 0) (ldOwnS 1 1)

/-- One head's division by its denominators. -/
def divStep (b : Fin 2) (h : Fin 4) : Pg F PUnit := do
  let a : Vec F S1x256x64 .f32 ← Prog.lift (.load aM (qaR b h).toLoadRect (View.loadsAt_vmem h_S1x256x64))
  let l : Vec F S1x1x256x1 .f32 ← Prog.lift (.load lM (lR b h).toLoadRect (View.loadsAt_vmem h_S1x1x256x1))
  let _ : Vec F S1x256x64 .f32 ← Prog.lift (.load aM (qaR b h).toLoadRect (View.loadsAt_vmem h_S1x256x64))
  Prog.lift (.store aM (qaR b h) (k0_pay253 a l) Finset.univ (View.stores_vmem_bits_univ h_S1x256x64 rfl) (.inl rfl))

/-- A batch entry's output. -/
def outStep (b : Fin 2) : Pg F PUnit := do
  let a : Vec F S1x256x256 .f32 ← Prog.lift (.load aM (bR b).toLoadRect (View.loadsAt_vmem h_S1x256x256))
  let w : Vec F S256x512 .f32 ← Prog.lift (.load woM woR.toLoadRect (View.loadsAt_vmem h_S256x512))
  let _ : Vec F S1x256x512 .f32 ← Prog.lift (.load oM (xR b).toLoadRect (View.loadsAt_vmem h_S1x256x512))
  Prog.lift (.store oM (xR b) (k0_pay2 a w) Finset.univ (View.stores_vmem_bits_univ h_S1x256x512 rfl) (.inl rfl))

/-- The division and output of one batch entry. -/
def finishB (b : Fin 2) : Pg F PUnit := do
  divStep b 0
  divStep b 1
  divStep b 2
  divStep b 3
  outStep b

/-- The kernel on device `c`. -/
def kernelAt (c : Dev nD) : Pg F PUnit := do
  semSignalWord (prv c) barrier0 1#32
  semSignalWord (nxt c) barrier0 1#32
  semWaitWord barrier0 2#32
  initB 0
  initB 1
  initL
  fill true .k k8M
  fill true .v v8M
  fill true .s scM
  fill false .k k8M
  fill false .v v8M
  fill false .s scM
  startHop true 16 0 c
  startHop false 15 0 c
  attendOwn
  waitHop true 16 0
  waitHop false 15 0
  Scf.Loop.for k0_t1_loop k0_t1_ok ⟨⟩ (fun k _ => hop mask c k)
  startHop true 14 15 c
  attendSlot mask true 14
  attendSlot mask false 14
  waitHop true 14 15
  attendSlot mask true 15
  finishB 0
  finishB 1

end Cert.KernelIdeal.Talk
-- ==== Proof.KernelIdeal.Attend.lean ====
/-
  The attention over one source: what it does to the accumulator and the denominators, whichever
  buffer the source's codes and scales are read from.
-/
module

public import proofs.«01_k».proof.Proof.KernelIdeal.Transfer
public import proofs.«01_k».proof.Proof.KernelIdeal.Whole
public import Idealize.ShloMosaic.Lib.ValueLayout

@[expose] public section

set_option maxRecDepth 65536

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (A : Dev nD → (j : Kind) → (shp j).Idx → Elt F (elt j))

/-! ### One source's data -/

/-- A source's codes and scales, by batch entry. -/
structure Src (F : FTy → Type) where
  k : Fin 2 → IVec S256x256 8
  v : Fin 2 → IVec S256x256 8
  ks : Fin 2 → FVec F S1x256 .f32
  vs : Fin 2 → FVec F S1x256 .f32

/-- Those in one device's arrays. -/
def srcAt (X : (j : Kind) → (shp j).Idx → Elt F (elt j)) : Src F where
  k b := fun p => X .k (ix3 b (p 0) (p 1))
  v b := fun p => X .v (ix3 b (p 0) (p 1))
  ks b := fun p => X .s (ix3 b (0 : Fin 2) (p 1))
  vs b := fun p => X .s (ix3 b (1 : Fin 2) (p 1))

/-! ### What it does to the accumulator and the denominators -/

/-- The contents of the queries', the accumulator's and the denominators' buffers. -/
abbrev QC (F : FTy → Type) := (qM).view.ty.Contents (Elt F)
abbrev AC (F : FTy → Type) := (aM).view.ty.Contents (Elt F)
abbrev LC (F : FTy → Type) := (lM).view.ty.Contents (Elt F)

/-- One head's weights over a source. -/
def wtsAt (mask : IVec S256x256 1) (S : Src F) (q : QC F) (b : Fin 2) (h : Fin 4) : FVec F S256x256 .f32 :=
  wts mask h (S.k b) (S.ks b) ((qM.access (qaR b h)).read (Elt F) q)

/-- One head's step on the denominators, and on the accumulator. -/
def stepL (mask : IVec S256x256 1) (S : Src F) (q : QC F) (l : LC F) (b : Fin 2) (h : Fin 4) : LC F :=
  (lM.access (lR b h)).write (Elt F) l (newL (wtsAt mask S q b h) ((lM.access (lR b h)).read (Elt F) l)) Finset.univ
def stepA (mask : IVec S256x256 1) (S : Src F) (q : QC F) (a : AC F) (b : Fin 2) (h : Fin 4) : AC F :=
  (aM.access (qaR b h)).write (Elt F) a (newA h (S.v b) (S.vs b) (wtsAt mask S q b h) ((aM.access (qaR b h)).read (Elt F) a)) Finset.univ

/-- The whole of a source's attention on either. -/
def attL (mask : IVec S256x256 1) (S : Src F) (q : QC F) (l : LC F) : LC F :=
  stepL mask S q (stepL mask S q (stepL mask S q (stepL mask S q (stepL mask S q (stepL mask S q (stepL mask S q
    (stepL mask S q l 0 0) 0 1) 0 2) 0 3) 1 0) 1 1) 1 2) 1 3
def attA (mask : IVec S256x256 1) (S : Src F) (q : QC F) (a : AC F) : AC F :=
  stepA mask S q (stepA mask S q (stepA mask S q (stepA mask S q (stepA mask S q (stepA mask S q (stepA mask S q
    (stepA mask S q a 0 0) 0 1) 0 2) 0 3) 1 0) 1 1) 1 2) 1 3

/-! ### The run -/

/-- The three buffers held. -/
def qP (c : Dev nD) (q : QC F) : sProp 𝕄 := (qM).view.loc (c : Thread nD τ) ↦{fullShare} q
def aP (c : Dev nD) (a : AC F) : sProp 𝕄 := (aM).view.loc (c : Thread nD τ) ↦{fullShare} a
def lP (c : Dev nD) (l : LC F) : sProp 𝕄 := (lM).view.loc (c : Thread nD τ) ↦{fullShare} l

theorem headStep_wp (mask : IVec S256x256 1) (S : Src F) (b : Fin 2) (h : Fin 4) (c : Dev nD) (q : QC F) (a : AC F) (l : LC F)
    (Q : PUnit → sProp 𝕄) :
    iprop((qP c q ∗ aP c a ∗ lP c l) ∗ ((qP c q ∗ aP c (stepA mask S q a b h) ∗ lP c (stepL mask S q l b h)) -∗ Q ⟨⟩))
      ⊢ wp frame (wpE (defs₀ (F := F)) 𝒱₀ (c : Thread nD τ) none) Set.univ
          (headStep mask b h (S.k b) (S.v b) (S.ks b) (S.vs b)) Q := by
  unfold headStep qP aP lP
  simp only [Prog.lift, Prog.bind_op, Prog.bind_ret]
  iintro ⟨⟨Hq, Ha, Hl⟩, Hk⟩
  iapply (wp_load_rect 𝒱₀ (c : Thread nD τ) none Set.univ (m := qM) (r := qaR b h) (Finset.subset_univ _)) $$ Hq
  iintro Hq
  iapply (wp_load_rect 𝒱₀ (c : Thread nD τ) none Set.univ (m := lM) (r := lR b h) (Finset.subset_univ _)) $$ Hl
  iintro Hl
  iapply (wp_load_rect 𝒱₀ (c : Thread nD τ) none Set.univ (m := lM) (r := lR b h) (Finset.subset_univ _)) $$ Hl
  iintro Hl
  iapply (wp_store 𝒱₀ (c : Thread nD τ) none Set.univ (m := lM) (r := lR b h) (Finset.subset_univ _)) $$ Hl
  iintro Hl
  iapply (wp_load_rect 𝒱₀ (c : Thread nD τ) none Set.univ (m := aM) (r := qaR b h) (Finset.subset_univ _)) $$ Ha
  iintro Ha
  iapply (wp_load_rect 𝒱₀ (c : Thread nD τ) none Set.univ (m := aM) (r := qaR b h) (Finset.subset_univ _)) $$ Ha
  iintro Ha
  iapply (wp_store 𝒱₀ (c : Thread nD τ) none Set.univ (m := aM) (r := qaR b h) (Finset.subset_univ _)) $$ Ha
  iintro Ha
  rw [wp_ret]
  imodintro
  iapply Hk
  isplitl [Hq]; · iexact Hq
  isplitl [Ha]; · iexact Ha
  iexact Hl

/-- A program that reads a value `v` off what `R` holds and changes nothing. -/
def Reads {α : Type} (c : Dev nD) (R : sProp 𝕄) (p : Pg F α) (v : α) : Prop :=
  ∀ Q : α → sProp 𝕄, iprop(R ∗ (R -∗ Q v)) ⊢ wp frame (wpE (defs₀ (F := F)) 𝒱₀ (c : Thread nD τ) none) Set.univ p Q

theorem attend8_wp (mask : IVec S256x256 1) (S : Src F) (c : Dev nD) (R : sProp 𝕄)
    {k0 v0 : Pg F (IVec S256x256 8)} {ks0 vs0 : Pg F (FVec F S1x256 .f32)} {k1 v1 : Pg F (IVec S256x256 8)} {ks1 vs1 : Pg F (FVec F S1x256 .f32)}
    (hk0 : Reads c R k0 (S.k 0)) (hv0 : Reads c R v0 (S.v 0)) (hks0 : Reads c R ks0 (S.ks 0)) (hvs0 : Reads c R vs0 (S.vs 0))
    (hk1 : Reads c R k1 (S.k 1)) (hv1 : Reads c R v1 (S.v 1)) (hks1 : Reads c R ks1 (S.ks 1)) (hvs1 : Reads c R vs1 (S.vs 1))
    (q : QC F) (a : AC F) (l : LC F) (Q : PUnit → sProp 𝕄) :
    iprop(R ∗ (qP c q ∗ aP c a ∗ lP c l) ∗ ((R ∗ qP c q ∗ aP c (attA mask S q a) ∗ lP c (attL mask S q l)) -∗ Q ⟨⟩))
      ⊢ wp frame (wpE (defs₀ (F := F)) 𝒱₀ (c : Thread nD τ) none) Set.univ (attend8 mask k0 v0 ks0 vs0 k1 v1 ks1 vs1) Q := by
  unfold attend8
  simp only [wp_bind]
  iintro ⟨HR, HB, Hk⟩
  iapply hk0 _; isplitl [HR]; · iexact HR
  iintro HR
  iapply hv0 _; isplitl [HR]; · iexact HR
  iintro HR
  iapply hks0 _; isplitl [HR]; · iexact HR
  iintro HR
  iapply hvs0 _; isplitl [HR]; · iexact HR
  iintro HR
  iapply hk1 _; isplitl [HR]; · iexact HR
  iintro HR
  iapply hv1 _; isplitl [HR]; · iexact HR
  iintro HR
  iapply hks1 _; isplitl [HR]; · iexact HR
  iintro HR
  iapply hvs1 _; isplitl [HR]; · iexact HR
  iintro HR
  iapply (headStep_wp mask S 0 0 c q _ _ _); isplitl [HB]; · iexact HB
  iintro HB
  iapply (headStep_wp mask S 0 1 c q _ _ _); isplitl [HB]; · iexact HB
  iintro HB
  iapply (headStep_wp mask S 0 2 c q _ _ _); isplitl [HB]; · iexact HB
  iintro HB
  iapply (headStep_wp mask S 0 3 c q _ _ _); isplitl [HB]; · iexact HB
  iintro HB
  iapply (headStep_wp mask S 1 0 c q _ _ _); isplitl [HB]; · iexact HB
  iintro HB
  iapply (headStep_wp mask S 1 1 c q _ _ _); isplitl [HB]; · iexact HB
  iintro HB
  iapply (headStep_wp mask S 1 2 c q _ _ _); isplitl [HB]; · iexact HB
  iintro HB
  iapply (headStep_wp mask S 1 3 c q _ _ _); isplitl [HB]; · iexact HB
  iintro HB
  iapply Hk
  isplitl [HR]; · iexact HR
  iexact HB

/-! ### Reading a block of a ring buffer -/

theorem mem_slot (d : Bool) (j : Kind) (t : Fin (n d + 1)) (r : LoadRect (bshp d j))
    (h : ∀ i ∈ r.set, (i 0 : ℕ) = t.val) : (bufM d j).view.setOn r.set ⊆ (slotM d j t).view.set := by
  rw [show (slotM d j t).view.set = ((bufM d j).view.slice (Rect.unit (s := bshp d j) ![t.val, 0, 0, 0] (oshp j).size (slot_inb d j t))).set from
    View.set_reshape _ _, View.set_slice]
  refine Finset.map_subset_map.mpr fun i hi => Rect.mem_set_unit.mpr fun a => ?_
  have h0 := h i hi
  have hlt := (i a).isLt
  fin_cases a
  · exact ⟨le_of_eq h0.symm, by show (i 0 : ℕ) < t.val + 1; omega⟩
  all_goals exact ⟨Nat.zero_le _, by simpa using hlt⟩

theorem mem_code (d : Bool) (t : Fin (n d + 1)) (b : Fin 2) (i : (⟨4, ![n d + 1, 2, 256, 256]⟩ : Shape).Idx)
    (hi : i ∈ (Rect.unit (s := ⟨4, ![n d + 1, 2, 256, 256]⟩) ![t.val, b.val, 0, 0] S1x1x256x256.size (code_inb d t b)).toLoadRect.set) :
    (i 0 : ℕ) = t.val := by
  have h := (Rect.mem_set_unit.mp hi) 0
  have h1 : t.val ≤ (i 0 : ℕ) := h.1
  have h2 : (i 0 : ℕ) < t.val + 1 := h.2
  omega

theorem mem_scale (d : Bool) (t : Fin (n d + 1)) (b r : Fin 2) (i : (bshp d .s).Idx)
    (hi : i ∈ (Rect.unit (s := bshp d .s) ![t.val, b.val, r.val, 0] S1x1x1x256.size (scale_inb d t b r)).toLoadRect.set) :
    (i 0 : ℕ) = t.val := by
  have h := (Rect.mem_set_unit.mp hi) 0
  have h1 : t.val ≤ (i 0 : ℕ) := h.1
  have h2 : (i 0 : ℕ) < t.val + 1 := h.2
  omega

/-- A ring buffer's contents at block `t`. -/
theorem ringC_at (d : Bool) (j : Kind) (c : Dev nD) (t : Fin (n d + 1)) (ix : (bshp d j).Idx) (h0 : (ix 0 : ℕ) = t.val)
    (x : (shp j).Idx) (hx : ∀ a : Fin 3, (ix a.succ : ℕ) = (x a : ℕ)) : ringC A d j c ix = A (dev d c t) j x := by
  unfold ringC
  exact (congrArg (fun t' => A (dev d c t') j _) (Fin.ext h0)).trans
    (congrArg (A (dev d c t) j) (funext fun a => Fin.ext (hx a)))

theorem code_k (d : Bool) (t : Fin (n d + 1)) (b : Fin 2) (c : Dev nD) :
    shapeCast S256x256 ((bufM d .k).view.readAt (Elt F)
        (Rect.unit (s := ⟨4, ![n d + 1, 2, 256, 256]⟩) ![t.val, b.val, 0, 0] S1x1x256x256.size (code_inb d t b)).toLoadRect (bufC A d .k c))
      shapeCasts_S1x1x256x256_S256x256 = (srcAt (A (dev d c t))).k b := by
  funext p
  rw [eq_ix2 p]
  refine (congrArg _ (reshapeEquiv_ix2_11ab _ (p 0) (p 1))).trans ?_
  refine ((bufM_isWhole d .k).readAt_unread (ringC A d .k c) _ _).trans ?_
  refine ringC_at A d .k c t _ ?_ (ix3 b (p 0) (p 1)) fun a => ?_
  · show t.val + 1 * 0 = t.val; omega
  · fin_cases a
    · show b.val + 1 * 0 = b.val; omega
    all_goals exact (Nat.zero_add _).trans (Nat.one_mul _)

theorem code_v (d : Bool) (t : Fin (n d + 1)) (b : Fin 2) (c : Dev nD) :
    shapeCast S256x256 ((bufM d .v).view.readAt (Elt F)
        (Rect.unit (s := ⟨4, ![n d + 1, 2, 256, 256]⟩) ![t.val, b.val, 0, 0] S1x1x256x256.size (code_inb d t b)).toLoadRect (bufC A d .v c))
      shapeCasts_S1x1x256x256_S256x256 = (srcAt (A (dev d c t))).v b := by
  funext p
  rw [eq_ix2 p]
  refine (congrArg _ (reshapeEquiv_ix2_11ab _ (p 0) (p 1))).trans ?_
  refine ((bufM_isWhole d .v).readAt_unread (ringC A d .v c) _ _).trans ?_
  refine ringC_at A d .v c t _ ?_ (ix3 b (p 0) (p 1)) fun a => ?_
  · show t.val + 1 * 0 = t.val; omega
  · fin_cases a
    · show b.val + 1 * 0 = b.val; omega
    all_goals exact (Nat.zero_add _).trans (Nat.one_mul _)

theorem scale_at (d : Bool) (t : Fin (n d + 1)) (b r : Fin 2) (c : Dev nD) :
    shapeCast S1x256 ((bufM d .s).view.readAt (Elt F)
        (Rect.unit (s := bshp d .s) ![t.val, b.val, r.val, 0] S1x1x1x256.size (scale_inb d t b r)).toLoadRect (bufC A d .s c))
      shapeCasts_S1x1x1x256_S1x256 = fun p => A (dev d c t) .s (ix3 b r (p 1)) := by
  funext p
  have hp : ((p 0 : Fin 1) : ℕ) = 0 := by have := (p 0).isLt; simp at this; omega
  rw [eq_ix2 p]
  refine (congrArg _ (reshapeEquiv_ix2_11ab _ (p 0) (p 1))).trans ?_
  refine ((bufM_isWhole d .s).readAt_unread (ringC A d .s c) _ _).trans ?_
  refine ringC_at A d .s c t _ ?_ (ix3 b r (p 1)) fun a => ?_
  · show t.val + 1 * 0 = t.val; omega
  · fin_cases a
    · show b.val + 1 * 0 = b.val; omega
    · show r.val + 1 * ((p 0 : Fin 1) : ℕ) = r.val; omega
    · exact (Nat.zero_add _).trans (Nat.one_mul _)

/-- A block held, by the ring buffer it is in. -/
theorem slotF_buf (d : Bool) (j : Kind) (t : Fin (n d + 1)) (c : Dev nD) (q : PosShare TreeShare) :
    (slotF A d j t c q : sProp 𝕄)
      = ((bufM d j).view.loc (c : Thread nD τ) ↦[(slotM d j t).view.set]{q} (bufC A d j c : Buf (Elt F) ((bufM d j).view.loc (c : Thread nD τ)))) := rfl

theorem reads_k (d : Bool) (t : Fin (n d + 1)) (b : Fin 2) (c : Dev nD) (q : PosShare TreeShare) :
    Reads c (slots A d t c q) (ldK d t b) ((srcAt (A (dev d c t))).k b) := fun Q => by
  rw [← code_k]
  unfold ldK ldCode slots all3
  beta_reduce
  rw [slotF_buf A d .k t c q]
  simp only [Prog.lift, Prog.bind_op, Prog.bind_ret]
  iintro ⟨⟨Hk, Hv, Hs⟩, HQ⟩
  iapply (wp_load 𝒱₀ (c : Thread nD τ) none Set.univ (m := bufM d .k) (mem_slot d .k t _ (mem_code d t b))) $$ Hk
  iintro Hk
  rw [Prog.pure_eq_ret, wp_ret]
  imodintro
  iapply HQ
  isplitl [Hk]; · iexact Hk
  isplitl [Hv]; · iexact Hv
  iexact Hs

theorem reads_v (d : Bool) (t : Fin (n d + 1)) (b : Fin 2) (c : Dev nD) (q : PosShare TreeShare) :
    Reads c (slots A d t c q) (ldV d t b) ((srcAt (A (dev d c t))).v b) := fun Q => by
  rw [← code_v]
  unfold ldV ldCode slots all3
  beta_reduce
  rw [slotF_buf A d .v t c q]
  simp only [Prog.lift, Prog.bind_op, Prog.bind_ret]
  iintro ⟨⟨Hk, Hv, Hs⟩, HQ⟩
  iapply (wp_load 𝒱₀ (c : Thread nD τ) none Set.univ (m := bufM d .v) (mem_slot d .v t _ (mem_code d t b))) $$ Hv
  iintro Hv
  rw [Prog.pure_eq_ret, wp_ret]
  imodintro
  iapply HQ
  isplitl [Hk]; · iexact Hk
  isplitl [Hv]; · iexact Hv
  iexact Hs

theorem reads_s (d : Bool) (t : Fin (n d + 1)) (b r : Fin 2) (c : Dev nD) (q : PosShare TreeShare) :
    Reads c (slots A d t c q) (ldS d t b r) (fun p => A (dev d c t) .s (ix3 b r (p 1))) := fun Q => by
  rw [← scale_at]
  unfold ldS ldScale slots all3
  beta_reduce
  rw [slotF_buf A d .s t c q]
  simp only [Prog.lift, Prog.bind_op, Prog.bind_ret]
  iintro ⟨⟨Hk, Hv, Hs⟩, HQ⟩
  iapply (wp_load 𝒱₀ (c : Thread nD τ) none Set.univ (m := bufM d .s) (mem_slot d .s t _ (mem_scale d t b r))) $$ Hs
  iintro Hs
  rw [Prog.pure_eq_ret, wp_ret]
  imodintro
  iapply HQ
  isplitl [Hk]; · iexact Hk
  isplitl [Hv]; · iexact Hv
  iexact Hs

/-- The attention over block `t` is that over the source whose arrays the block holds. -/
theorem attendSlot_wp (mask : IVec S256x256 1) (d : Bool) (t : Fin (n d + 1)) (c : Dev nD) (qs : PosShare TreeShare)
    (q : QC F) (a : AC F) (l : LC F) (Q : PUnit → sProp 𝕄) :
    iprop(slots A d t c qs ∗ (qP c q ∗ aP c a ∗ lP c l) ∗ ((slots A d t c qs ∗ qP c q
        ∗ aP c (attA mask (srcAt (A (dev d c t))) q a) ∗ lP c (attL mask (srcAt (A (dev d c t))) q l)) -∗ Q ⟨⟩))
      ⊢ wp frame (wpE (defs₀ (F := F)) 𝒱₀ (c : Thread nD τ) none) Set.univ (attendSlot mask d t) Q :=
  attend8_wp mask (srcAt (A (dev d c t))) c _ (reads_k A d t 0 c qs) (reads_v A d t 0 c qs) (reads_s A d t 0 0 c qs) (reads_s A d t 0 1 c qs)
    (reads_k A d t 1 c qs) (reads_v A d t 1 c qs) (reads_s A d t 1 0 c qs) (reads_s A d t 1 1 c qs) q a l Q

/-! ### Reading the device's own arrays -/

/-- The operands' staging buffers that hold the device's own arrays. -/
def k8P (c : Dev nD) (X : (k8M).view.ty.Contents (Elt F)) : sProp 𝕄 := (k8M).view.loc (c : Thread nD τ) ↦{fullShare} X
def v8P (c : Dev nD) (X : (v8M).view.ty.Contents (Elt F)) : sProp 𝕄 := (v8M).view.loc (c : Thread nD τ) ↦{fullShare} X
def scP (c : Dev nD) (X : (scM).view.ty.Contents (Elt F)) : sProp 𝕄 := (scM).view.loc (c : Thread nD τ) ↦{fullShare} X

/-- The three of them at a device's arrays. -/
def ownP (c : Dev nD) (X : (j : Kind) → (shp j).Idx → Elt F (elt j)) : sProp 𝕄 :=
  iprop(k8P c (X .k) ∗ v8P c (X .v) ∗ scP c (X .s))

variable (X : (j : Kind) → (shp j).Idx → Elt F (elt j))

theorem own_code (Y : S2x256x256.Idx → Elt F .i8) (b : Fin 2) :
    shapeCast S256x256 (fun i : S1x256x256.Idx => Y ((bR b).emb i)) shapeCasts_S1x256x256_S256x256
      = fun p => Y (ix3 b (p 0) (p 1)) := by
  funext p
  rw [eq_ix2 p]
  refine (congrArg (fun i => Y (Rect.emb _ i)) (reshapeEquiv_ix2_1ab _ (p 0) (p 1))).trans ?_
  refine congrArg Y (funext fun a => Fin.ext ?_)
  fin_cases a
  · show b.val + 1 * 0 = b.val; omega
  all_goals exact (Nat.zero_add _).trans (Nat.one_mul _)

theorem own_scale (Y : S2x2x256.Idx → Elt F .f32) (b r : Fin 2) :
    shapeCast S1x256 (fun i : S1x1x256.Idx => Y ((scR b r).emb i)) shapeCasts_S1x1x256_S1x256
      = fun p => Y (ix3 b r (p 1)) := by
  funext p
  have hp : ((p 0 : Fin 1) : ℕ) = 0 := by have := (p 0).isLt; simp at this; omega
  rw [eq_ix2 p]
  refine (congrArg (fun i => Y (Rect.emb _ i)) (reshapeEquiv_ix2_1ab _ (p 0) (p 1))).trans ?_
  refine congrArg Y (funext fun a => Fin.ext ?_)
  fin_cases a
  · show b.val + 1 * 0 = b.val; omega
  · show r.val + 1 * ((p 0 : Fin 1) : ℕ) = r.val; omega
  · exact (Nat.zero_add _).trans (Nat.one_mul _)

theorem reads_ownK (b : Fin 2) (c : Dev nD) : Reads c (ownP c X) (ldOwn k8M b) ((srcAt X).k b) := fun Q => by
  rw [show (srcAt X).k b = shapeCast S256x256 ((k8M.access (bR b)).read (Elt F) (X .k)) _ from (own_code (X .k) b).symm]
  unfold ldOwn ownP k8P
  simp only [Prog.lift, Prog.bind_op, Prog.bind_ret]
  iintro ⟨⟨Hk, Hv, Hs⟩, HQ⟩
  iapply (wp_load_rect 𝒱₀ (c : Thread nD τ) none Set.univ (m := k8M) (r := bR b) (Finset.subset_univ _)) $$ Hk
  iintro Hk
  rw [Prog.pure_eq_ret, wp_ret]
  imodintro
  iapply HQ
  isplitl [Hk]; · iexact Hk
  isplitl [Hv]; · iexact Hv
  iexact Hs

theorem reads_ownV (b : Fin 2) (c : Dev nD) : Reads c (ownP c X) (ldOwn v8M b) ((srcAt X).v b) := fun Q => by
  rw [show (srcAt X).v b = shapeCast S256x256 ((v8M.access (bR b)).read (Elt F) (X .v)) _ from (own_code (X .v) b).symm]
  unfold ldOwn ownP v8P
  simp only [Prog.lift, Prog.bind_op, Prog.bind_ret]
  iintro ⟨⟨Hk, Hv, Hs⟩, HQ⟩
  iapply (wp_load_rect 𝒱₀ (c : Thread nD τ) none Set.univ (m := v8M) (r := bR b) (Finset.subset_univ _)) $$ Hv
  iintro Hv
  rw [Prog.pure_eq_ret, wp_ret]
  imodintro
  iapply HQ
  isplitl [Hk]; · iexact Hk
  isplitl [Hv]; · iexact Hv
  iexact Hs

theorem reads_ownS (b r : Fin 2) (c : Dev nD) : Reads c (ownP c X) (ldOwnS b r) (fun p => X .s (ix3 b r (p 1))) := fun Q => by
  rw [show (fun p : S1x256.Idx => X .s (ix3 b r (p 1))) = shapeCast S1x256 ((scM.access (scR b r)).read (Elt F) (X .s)) _ from (own_scale (X .s) b r).symm]
  unfold ldOwnS ownP scP
  simp only [Prog.lift, Prog.bind_op, Prog.bind_ret]
  iintro ⟨⟨Hk, Hv, Hs⟩, HQ⟩
  iapply (wp_load_rect 𝒱₀ (c : Thread nD τ) none Set.univ (m := scM) (r := scR b r) (Finset.subset_univ _)) $$ Hs
  iintro Hs
  rw [Prog.pure_eq_ret, wp_ret]
  imodintro
  iapply HQ
  isplitl [Hk]; · iexact Hk
  isplitl [Hv]; · iexact Hv
  iexact Hs

theorem attendOwn_wp (c : Dev nD) (q : QC F) (a : AC F) (l : LC F) (Q : PUnit → sProp 𝕄) :
    iprop(ownP c X ∗ (qP c q ∗ aP c a ∗ lP c l) ∗ ((ownP c X ∗ qP c q ∗ aP c (attA mask (srcAt X) q a) ∗ lP c (attL mask (srcAt X) q l)) -∗ Q ⟨⟩))
      ⊢ wp frame (wpE (defs₀ (F := F)) 𝒱₀ (c : Thread nD τ) none) Set.univ attendOwn Q :=
  attend8_wp mask (srcAt X) c _ (reads_ownK X 0 c) (reads_ownV X 0 c) (reads_ownS X 0 0 c) (reads_ownS X 0 1 c)
    (reads_ownK X 1 c) (reads_ownV X 1 c) (reads_ownS X 1 0 c) (reads_ownS X 1 1 c) q a l Q

end Cert.KernelIdeal.Talk
-- ==== Proof.KernelIdeal.Ends.lean ====
/-
  The kernel's two ends: the queries, the zeroed accumulators and the device's own blocks at its start;
  the divisions and the output at its end.
-/
module

public import proofs.«01_k».proof.Proof.KernelIdeal.Attend

@[expose] public section

set_option maxRecDepth 65536

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (A : Dev nD → (j : Kind) → (shp j).Idx → Elt F (elt j))

/-- The contents of the staging buffers of the input, the two projections and the output. -/
abbrev XC (F : FTy → Type) := (xM).view.ty.Contents (Elt F)
abbrev WqC (F : FTy → Type) := (wqM).view.ty.Contents (Elt F)
abbrev WoC (F : FTy → Type) := (woM).view.ty.Contents (Elt F)
abbrev OC (F : FTy → Type) := (oM).view.ty.Contents (Elt F)

def xP (c : Dev nD) (x : XC F) : sProp 𝕄 := (xM).view.loc (c : Thread nD τ) ↦{fullShare} x
def wqP (c : Dev nD) (w : WqC F) : sProp 𝕄 := (wqM).view.loc (c : Thread nD τ) ↦{fullShare} w
def woP (c : Dev nD) (w : WoC F) : sProp 𝕄 := (woM).view.loc (c : Thread nD τ) ↦{fullShare} w
def oP (c : Dev nD) (o : OC F) : sProp 𝕄 := (oM).view.loc (c : Thread nD τ) ↦{fullShare} o

/-! ### The start -/

/-- One batch entry's queries written, and its accumulator zeroed. -/
def initQ (x : XC F) (w : WqC F) (q : QC F) (b : Fin 2) : QC F :=
  (qM.access (bR b)).write (Elt F) q (k0_pay80 ((xM.access (xR b)).read (Elt F) x) ((wqM.access wqR).read (Elt F) w)) Finset.univ
def initA (a : AC F) (b : Fin 2) : AC F := (aM.access (bR b)).write (Elt F) a (k0_pay82 k0_pay81) Finset.univ

theorem initB_wp (b : Fin 2) (c : Dev nD) (x : XC F) (w : WqC F) (q : QC F) (a : AC F) (Q : PUnit → sProp 𝕄) :
    iprop((xP c x ∗ wqP c w ∗ qP c q ∗ aP c a) ∗ ((xP c x ∗ wqP c w ∗ qP c (initQ x w q b) ∗ aP c (initA a b)) -∗ Q ⟨⟩))
      ⊢ wp frame (wpE (defs₀ (F := F)) 𝒱₀ (c : Thread nD τ) none) Set.univ (initB b) Q := by
  unfold initB xP wqP qP aP
  simp only [Prog.lift, Prog.bind_op, Prog.bind_ret]
  iintro ⟨⟨Hx, Hw, Hq, Ha⟩, Hk⟩
  iapply (wp_load_rect 𝒱₀ (c : Thread nD τ) none Set.univ (m := xM) (r := xR b) (Finset.subset_univ _)) $$ Hx
  iintro Hx
  iapply (wp_load_rect 𝒱₀ (c : Thread nD τ) none Set.univ (m := wqM) (r := wqR) (Finset.subset_univ _)) $$ Hw
  iintro Hw
  iapply (wp_load_rect 𝒱₀ (c : Thread nD τ) none Set.univ (m := qM) (r := bR b) (Finset.subset_univ _)) $$ Hq
  iintro Hq
  iapply (wp_store 𝒱₀ (c : Thread nD τ) none Set.univ (m := qM) (r := bR b) (Finset.subset_univ _)) $$ Hq
  iintro Hq
  iapply (wp_load_rect 𝒱₀ (c : Thread nD τ) none Set.univ (m := aM) (r := bR b) (Finset.subset_univ _)) $$ Ha
  iintro Ha
  iapply (wp_store 𝒱₀ (c : Thread nD τ) none Set.univ (m := aM) (r := bR b) (Finset.subset_univ _)) $$ Ha
  iintro Ha
  rw [wp_ret]
  imodintro
  iapply Hk
  isplitl [Hx]; · iexact Hx
  isplitl [Hw]; · iexact Hw
  isplitl [Hq]; · iexact Hq
  iexact Ha

/-- The zeroed denominators. -/
def zeroL : LC F := k0_pay85

theorem initL_wp (c : Dev nD) (l : LC F) (Q : PUnit → sProp 𝕄) :
    iprop(lP c l ∗ (lP c zeroL -∗ Q ⟨⟩))
      ⊢ wp frame (wpE (defs₀ (F := F)) 𝒱₀ (c : Thread nD τ) none) Set.univ initL Q := by
  have hw : (lM.access laR).write (Elt F) l (k0_pay85 (F := F)) Finset.univ = zeroL :=
    Memref.write_access_unit_zero_univ (Elt F) cc0_scratch2 (by decide) _ l _
  unfold initL lP
  simp only [Prog.lift, Prog.bind_op, Prog.bind_ret]
  iintro ⟨Hl, Hk⟩
  iapply (wp_load_rect 𝒱₀ (c : Thread nD τ) none Set.univ (m := lM) (r := laR) (Finset.subset_univ _)) $$ Hl
  iintro Hl
  iapply (wp_store 𝒱₀ (c : Thread nD τ) none Set.univ (m := lM) (r := laR) (Finset.subset_univ _)) $$ Hl
  rw [hw]
  iintro Hl
  rw [wp_ret]
  imodintro
  iapply Hk
  iexact Hl

/-- A block held, by the ring buffer it is in. -/
theorem slotP_buf (d : Bool) (j : Kind) (t : Fin (n d + 1)) (c : Dev nD) (q : PosShare TreeShare) :
    iprop(∃ f, slotP d j t c q f : sProp 𝕄)
      = iprop(∃ f : Buf (Elt F) ((bufM d j).view.loc (c : Thread nD τ)), (bufM d j).view.loc (c : Thread nD τ) ↦[(slotM d j t).view.set]{q} f) := rfl

/-- The own block filled from the array staged in `m`. -/
theorem fill_wp (d : Bool) (j : Kind) (m : Memref sig .tc .vmem (shp j) (elt j)) (c : Dev nD)
    (g : Buf (Elt F) (m.view.loc (c : Thread nD τ)))
    (hg : m.view.readAt (Elt F) (Rect.unit (s := shp j) ![0, 0, 0] (shp j).size (src_inb j)).toLoadRect g = A c j)
    (Q : PUnit → sProp 𝕄) :
    iprop((m.view.loc (c : Thread nD τ) ↦{fullShare} g) ∗ (∃ f, slotP d j (Fin.last (n d)) c fullShare f)
        ∗ (((m.view.loc (c : Thread nD τ) ↦{fullShare} g) ∗ slotF A d j (Fin.last (n d)) c fullShare) -∗ Q ⟨⟩))
      ⊢ wp frame (wpE (defs₀ (F := F)) 𝒱₀ (c : Thread nD τ) none) Set.univ (fill d j m) Q := by
  have hset : ((bufM d j).access (ownR d j)).setOn Finset.univ ⊆ (slotM d j (Fin.last (n d))).view.set :=
    (View.set_reshape _ _).ge
  have hw : ∀ f : Buf (Elt F) ((bufM d j).view.loc (c : Thread nD τ)),
      (((bufM d j).access (ownR d j)).loc (c : Thread nD τ) ↦[(slotM d j (Fin.last (n d))).view.set]{fullShare}
          (((bufM d j).access (ownR d j)).write (Elt F) f
            (shapeCast (oshp j) (shapeCast (shp j) (A c j) (numel_ss j)) (numel_os j)) Finset.univ) : sProp 𝕄)
        = slotF A d j (Fin.last (n d)) c fullShare := fun f =>
    Eq.trans (b := slotP d j (Fin.last (n d)) c fullShare (((bufM d j).access (ownR d j)).write (Elt F) f
      (shapeCast (oshp j) (shapeCast (shp j) (A c j) (numel_ss j)) (numel_os j)) Finset.univ)) rfl <| slotP_congr fun x => by
    rw [slot_read, dev_last, shapeCast_self]
    refine (congrFun (Memref.read_squeeze_slice (bufM d j) _ (fun _ => rfl) (squeezes j) (casts_os j) _) x).trans ?_
    refine (congrFun (congrArg (fun Y => shapeCast (shp j) Y (casts_os j)) (View.read_write_univ _ _)) x).trans ?_
    rw [shapeCast_shapeCast]
  unfold fill
  simp only [Prog.lift, Prog.bind_op, Prog.bind_ret]
  rw [slotP_buf]
  iintro ⟨Hm, ⟨%f, Hf⟩, Hk⟩
  iapply (wp_load 𝒱₀ (c : Thread nD τ) none Set.univ (m := m) (Finset.subset_univ _)) $$ Hm
  iintro Hm
  rw [hg]
  iapply (wp_load 𝒱₀ (c : Thread nD τ) none Set.univ (m := bufM d j) (S := (slotM d j (Fin.last (n d))).view.set)
    ((View.set_slice _ _).ge.trans hset)) $$ Hf
  iintro Hf
  iapply (wp_store 𝒱₀ (c : Thread nD τ) none Set.univ (m := bufM d j) (r := ownR d j) hset) $$ Hf
  iintro Hf
  rw [wp_ret]
  imodintro
  iapply Hk
  isplitl [Hm]; · iexact Hm
  iapply (Entails.of_eq (hw f))
  iexact Hf

/-! ### The end -/

/-- One head's division; a batch entry's; its output. -/
def stepD (l : LC F) (a : AC F) (b : Fin 2) (h : Fin 4) : AC F :=
  (aM.access (qaR b h)).write (Elt F) a (k0_pay253 ((aM.access (qaR b h)).read (Elt F) a) ((lM.access (lR b h)).read (Elt F) l)) Finset.univ
def divB (l : LC F) (a : AC F) (b : Fin 2) : AC F := stepD l (stepD l (stepD l (stepD l a b 0) b 1) b 2) b 3
def outB (w : WoC F) (a : AC F) (o : OC F) (b : Fin 2) : OC F :=
  (oM.access (xR b)).write (Elt F) o (k0_pay2 ((aM.access (bR b)).read (Elt F) a) ((woM.access woR).read (Elt F) w)) Finset.univ

theorem divStep_wp (b : Fin 2) (h : Fin 4) (c : Dev nD) (a : AC F) (l : LC F) (Q : PUnit → sProp 𝕄) :
    iprop((aP c a ∗ lP c l) ∗ ((aP c (stepD l a b h) ∗ lP c l) -∗ Q ⟨⟩))
      ⊢ wp frame (wpE (defs₀ (F := F)) 𝒱₀ (c : Thread nD τ) none) Set.univ (divStep b h) Q := by
  unfold divStep aP lP
  simp only [Prog.lift, Prog.bind_op, Prog.bind_ret]
  iintro ⟨⟨Ha, Hl⟩, Hk⟩
  iapply (wp_load_rect 𝒱₀ (c : Thread nD τ) none Set.univ (m := aM) (r := qaR b h) (Finset.subset_univ _)) $$ Ha
  iintro Ha
  iapply (wp_load_rect 𝒱₀ (c : Thread nD τ) none Set.univ (m := lM) (r := lR b h) (Finset.subset_univ _)) $$ Hl
  iintro Hl
  iapply (wp_load_rect 𝒱₀ (c : Thread nD τ) none Set.univ (m := aM) (r := qaR b h) (Finset.subset_univ _)) $$ Ha
  iintro Ha
  iapply (wp_store 𝒱₀ (c : Thread nD τ) none Set.univ (m := aM) (r := qaR b h) (Finset.subset_univ _)) $$ Ha
  iintro Ha
  rw [wp_ret]
  imodintro
  iapply Hk
  isplitl [Ha]; · iexact Ha
  iexact Hl

theorem outStep_wp (b : Fin 2) (c : Dev nD) (a : AC F) (w : WoC F) (o : OC F) (Q : PUnit → sProp 𝕄) :
    iprop((aP c a ∗ woP c w ∗ oP c o) ∗ ((aP c a ∗ woP c w ∗ oP c (outB w a o b)) -∗ Q ⟨⟩))
      ⊢ wp frame (wpE (defs₀ (F := F)) 𝒱₀ (c : Thread nD τ) none) Set.univ (outStep b) Q := by
  unfold outStep aP woP oP
  simp only [Prog.lift, Prog.bind_op, Prog.bind_ret]
  iintro ⟨⟨Ha, Hw, Ho⟩, Hk⟩
  iapply (wp_load_rect 𝒱₀ (c : Thread nD τ) none Set.univ (m := aM) (r := bR b) (Finset.subset_univ _)) $$ Ha
  iintro Ha
  iapply (wp_load_rect 𝒱₀ (c : Thread nD τ) none Set.univ (m := woM) (r := woR) (Finset.subset_univ _)) $$ Hw
  iintro Hw
  iapply (wp_load_rect 𝒱₀ (c : Thread nD τ) none Set.univ (m := oM) (r := xR b) (Finset.subset_univ _)) $$ Ho
  iintro Ho
  iapply (wp_store 𝒱₀ (c : Thread nD τ) none Set.univ (m := oM) (r := xR b) (Finset.subset_univ _)) $$ Ho
  iintro Ho
  rw [wp_ret]
  imodintro
  iapply Hk
  isplitl [Ha]; · iexact Ha
  isplitl [Hw]; · iexact Hw
  iexact Ho

theorem finishB_wp (b : Fin 2) (c : Dev nD) (a : AC F) (l : LC F) (w : WoC F) (o : OC F) (Q : PUnit → sProp 𝕄) :
    iprop((aP c a ∗ lP c l ∗ woP c w ∗ oP c o) ∗ ((aP c (divB l a b) ∗ lP c l ∗ woP c w ∗ oP c (outB w (divB l a b) o b)) -∗ Q ⟨⟩))
      ⊢ wp frame (wpE (defs₀ (F := F)) 𝒱₀ (c : Thread nD τ) none) Set.univ (finishB b) Q := by
  unfold finishB
  simp only [wp_bind]
  iintro ⟨⟨Ha, Hl, Hw, Ho⟩, Hk⟩
  iapply (divStep_wp b 0 c _ _ _); isplitl [Ha Hl]; · isplitl [Ha]; · iexact Ha
                                                      iexact Hl
  iintro HB
  iapply (divStep_wp b 1 c _ _ _); isplitl [HB]; · iexact HB
  iintro HB
  iapply (divStep_wp b 2 c _ _ _); isplitl [HB]; · iexact HB
  iintro HB
  iapply (divStep_wp b 3 c _ _ _); isplitl [HB]; · iexact HB
  iintro ⟨Ha, Hl⟩
  iapply (outStep_wp b c _ _ _ _)
  isplitl [Ha Hw Ho]
  · isplitl [Ha]; · iexact Ha
    isplitl [Hw]; · iexact Hw
    iexact Ho
  iintro ⟨Ha, Hw, Ho⟩
  iapply Hk
  isplitl [Ha]; · iexact Ha
  isplitl [Hl]; · iexact Hl
  isplitl [Hw]; · iexact Hw
  iexact Ho

/-- Two writes that between them cover a buffer leave nothing of what it held. -/
theorem write_cover {Val : EltTy → Type} {s : Shape} {e : EltTy} (m : Memref sig .tc .vmem s e) (r r' : Rect s)
    (hr : ∀ i, i ∉ (m.access r').setOn Finset.univ → i ∈ (m.access r).setOn Finset.univ) (f g : m.view.ty.Contents Val)
    (v : r.shape.Idx → Val e) (v' : r'.shape.Idx → Val e) :
    (m.access r').write Val ((m.access r).write Val f v Finset.univ) v' Finset.univ
      = (m.access r').write Val ((m.access r).write Val g v Finset.univ) v' Finset.univ := by
  funext i
  by_cases h' : i ∈ (m.access r').setOn Finset.univ
  · obtain ⟨x, -, rfl⟩ := Finset.mem_map.mp h'
    rw [View.write_emb_of_mem _ _ (Finset.mem_univ _), View.write_emb_of_mem _ _ (Finset.mem_univ _)]
  · rw [View.write_of_not_mem _ _ _ h', View.write_of_not_mem _ _ _ h']
    obtain ⟨x, -, rfl⟩ := Finset.mem_map.mp (hr i h')
    rw [View.write_emb_of_mem _ _ (Finset.mem_univ _), View.write_emb_of_mem _ _ (Finset.mem_univ _)]

theorem mem_whole (b : Ref sig .tc) (r : Rect b.ty.shape) (i : b.ty.shape.Idx) :
    i ∈ ((View.whole b).slice r).set ↔ i ∈ r.toLoadRect.set := by rw [View.set_slice_whole]

/-- The two batch entries cover a buffer. -/
theorem cover_b (i : S2x256x256.Idx) (h : i ∉ (bR 1).set) : i ∈ (bR 0).set := by
  have h0 : (i 0 : ℕ) < 2 := (i 0).isLt
  have h1 : (i 1 : ℕ) < 256 := (i 1).isLt
  have h2 : (i 2 : ℕ) < 256 := (i 2).isLt
  have hv : (i 0 : ℕ) ≠ 1 := fun e => h (Rect.mem_set_unit.mpr fun a => by
    fin_cases a
    · exact ⟨e.ge, by show (i 0 : ℕ) < 1 + 1; omega⟩
    · exact ⟨Nat.zero_le _, by show (i 1 : ℕ) < 0 + 256; omega⟩
    · exact ⟨Nat.zero_le _, by show (i 2 : ℕ) < 0 + 256; omega⟩)
  refine Rect.mem_set_unit.mpr fun a => ?_
  fin_cases a
  · exact ⟨Nat.zero_le _, by show (i 0 : ℕ) < 0 + 1; omega⟩
  · exact ⟨Nat.zero_le _, by show (i 1 : ℕ) < 0 + 256; omega⟩
  · exact ⟨Nat.zero_le _, by show (i 2 : ℕ) < 0 + 256; omega⟩

theorem cover_x (i : S2x256x512.Idx) (h : i ∉ (xR 1).set) : i ∈ (xR 0).set := by
  have h0 : (i 0 : ℕ) < 2 := (i 0).isLt
  have h1 : (i 1 : ℕ) < 256 := (i 1).isLt
  have h2 : (i 2 : ℕ) < 512 := (i 2).isLt
  have hv : (i 0 : ℕ) ≠ 1 := fun e => h (Rect.mem_set_unit.mpr fun a => by
    fin_cases a
    · exact ⟨e.ge, by show (i 0 : ℕ) < 1 + 1; omega⟩
    · exact ⟨Nat.zero_le _, by show (i 1 : ℕ) < 0 + 256; omega⟩
    · exact ⟨Nat.zero_le _, by show (i 2 : ℕ) < 0 + 512; omega⟩)
  refine Rect.mem_set_unit.mpr fun a => ?_
  fin_cases a
  · exact ⟨Nat.zero_le _, by show (i 0 : ℕ) < 0 + 1; omega⟩
  · exact ⟨Nat.zero_le _, by show (i 1 : ℕ) < 0 + 256; omega⟩
  · exact ⟨Nat.zero_le _, by show (i 2 : ℕ) < 0 + 512; omega⟩

/-- The queries and the zeroed accumulator after both batch entries, whatever the buffers held. -/
def zeroF (F : FTy → Type) [FloatOps F] {s : Shape} {ft : FTy} : s.Idx → F ft := fun _ => Scalar.ofBits ft 0
def fullQ (x : XC F) (w : WqC F) : QC F := initQ x w (initQ x w (zeroF F) 0) 1
def fullA : AC F := initA (initA (zeroF F) 0) 1
def fullO (w : WoC F) (a a' : AC F) : OC F := outB w a' (outB w a (zeroF F) 0) 1

theorem initQ_all (x : XC F) (w : WqC F) (q : QC F) : initQ x w (initQ x w q 0) 1 = fullQ x w := by
  unfold fullQ initQ
  refine write_cover qM (bR 0) (bR 1) (fun i hi => ?_) _ _ _ _
  exact (mem_whole cc0_scratch0 (bR 0) i).2 (cover_b i fun h => hi ((mem_whole cc0_scratch0 (bR 1) i).2 h))
theorem initA_all (a : AC F) : initA (initA a 0) 1 = fullA := by
  unfold fullA initA
  refine write_cover aM (bR 0) (bR 1) (fun i hi => ?_) _ _ _ _
  exact (mem_whole cc0_scratch1 (bR 0) i).2 (cover_b i fun h => hi ((mem_whole cc0_scratch1 (bR 1) i).2 h))
theorem outB_all (w : WoC F) (a a' : AC F) (o : OC F) : outB w a' (outB w a o 0) 1 = fullO w a a' := by
  unfold fullO outB
  refine write_cover oM (xR 0) (xR 1) (fun i hi => ?_) _ _ _ _
  exact (mem_whole cc0_stg6_0 (xR 0) i).2 (cover_x i fun h => hi ((mem_whole cc0_stg6_0 (xR 1) i).2 h))

end Cert.KernelIdeal.Talk
-- ==== Proof.KernelIdeal.Run.lean ====
/-
  The whole run of the kernel on one device: what the device holds as the kernel starts, what it holds
  when it returns, and that the kernel takes the one to the other.
-/
module

public import proofs.«01_k».proof.Proof.KernelIdeal.Ends

@[expose] public section

set_option maxRecDepth 65536

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (A : Dev nD → (j : Kind) → (shp j).Idx → Elt F (elt j))

/-! ### The order of the sources -/

/-- The device whose array the hop before turn `k` brought, from either side. -/
def devR (c : Dev nD) (k : ℕ) : Dev nD := ⟨(c.val + 63 - k) % 32, Nat.mod_lt _ (by decide)⟩
def devL (c : Dev nD) (k : ℕ) : Dev nD := ⟨(c.val + 1 + k) % 32, Nat.mod_lt _ (by decide)⟩

theorem dev_R (c : Dev nD) (t : Fin (n true + 1)) (h : t.val ≠ 16) : dev true c t = devR c t.val :=
  Fin.ext (by show (c.val + 63 - (if t.val = 16 then 31 else t.val)) % 32 = _; rw [if_neg h]; rfl)
theorem dev_L (c : Dev nD) (t : Fin (n false + 1)) (h : t.val ≠ 15) : dev false c t = devL c t.val :=
  Fin.ext (by show (c.val + 1 + (if t.val = 15 then 31 else t.val)) % 32 = _; rw [if_neg h]; rfl)

/-- The accumulator and the denominators after the own array and `k` turns. -/
def runA (c : Dev nD) (q : QC F) : ℕ → AC F
  | 0 => attA mask (srcAt (A c)) q fullA
  | k + 1 => attA mask (srcAt (A (devL c k))) q (attA mask (srcAt (A (devR c k))) q (runA c q k))
def runL (c : Dev nD) (q : QC F) : ℕ → LC F
  | 0 => attL mask (srcAt (A c)) q zeroL
  | k + 1 => attL mask (srcAt (A (devL c k))) q (attL mask (srcAt (A (devR c k))) q (runL c q k))

/-- After every source. -/
def endA (c : Dev nD) (q : QC F) : AC F := attA mask (srcAt (A (devR c 15))) q (runA A c q 15)
def endL (c : Dev nD) (q : QC F) : LC F := attL mask (srcAt (A (devR c 15))) q (runL A c q 15)

/-- The output a device computes from its input, the projections and all the devices' arrays. -/
def outC (c : Dev nD) (x : XC F) (w : WqC F) (wo : WoC F) : OC F :=
  fullO wo (divB (endL A c (fullQ x w)) (endA A c (fullQ x w)) 0)
    (divB (endL A c (fullQ x w)) (divB (endL A c (fullQ x w)) (endA A c (fullQ x w)) 0) 1)

/-! ### What is held -/

/-- A transfer not yet started, before the barrier. -/
def preJ (d : Bool) (s : Fin (n d)) (c : Dev nD) (j : Kind) : sProp 𝕄 :=
  iprop(atPos ER (sCell d j s c) 0 ∅ 0 ∗ atPos ER (rCell d j s c) 0 ∅ 0 ∗ cred (tallyAt (rCell d j s c) () (N j))
    ∗ dutyTok ER (sCell d j s c) 0 false ∗ reached ER (sCell d j s c) 0 ∗ dutyTok ER (rCell d j s (tgt d c)) 0 false)

def pre (d : Bool) (c : Dev nD) : sProp 𝕄 := bigSep Finset.univ fun x : Kind × Fin (n d) => preJ d x.2 c x.1

/-- What a device holds of the barriers: its own cell open with the credit of both signals, and the
    rights to signal its neighbours'. -/
def barP (c : Dev nD) : sProp 𝕄 :=
  iprop(atPos ER (barCell c) 0 ∅ 0 ∗ cred (tallyAt (barCell c) () 2)
    ∗ dutyTok ER (barCell (prv c)) 0 true ∗ reached ER (barCell (prv c)) 0
    ∗ dutyTok ER (barCell (nxt c)) 0 false ∗ reached ER (barCell (nxt c)) 0)

/-- The own block of a direction's ring buffers, at whatever. -/
def lastE (d : Bool) (c : Dev nD) : sProp 𝕄 := all3 fun j => iprop(∃ f, slotP d j (Fin.last (n d)) c fullShare f)

/-- The buffers the kernel writes, at whatever. -/
def scrE (c : Dev nD) : sProp 𝕄 := iprop((∃ q, qP c q) ∗ (∃ a, aP c a) ∗ ∃ l, lP c l)

/-- The operands' staging buffers. -/
def argP (c : Dev nD) (x : XC F) (w : WqC F) (wo : WoC F) : sProp 𝕄 := iprop(xP c x ∗ wqP c w ∗ ownP c (A c) ∗ woP c wo)

/-- At the kernel's start. -/
def startP (c : Dev nD) : sProp 𝕄 :=
  iprop(barP c ∗ (barPay true (prv c) ∗ barPay false (nxt c)) ∗ (pre true c ∗ pre false c) ∗ (lastE true c ∗ lastE false c) ∗ scrE c)

/-- At its end. -/
def endP (c : Dev nD) : sProp 𝕄 :=
  iprop(semVal (barCell c) 0 ∗ ((bigSep Finset.univ fun s => done A true s c) ∗ bigSep Finset.univ fun s => done A false s c)
    ∗ (slots A true (Fin.last (n true)) c fullShare ∗ slots A false (Fin.last (n false)) c fullShare) ∗ scrE c)

/-! ### The hops done and to do -/

theorem bigSep_cons {I : Type} [DecidableEq I] {s : Finset I} {i : I} (hi : i ∉ s) {Φ : I → sProp 𝕄} :
    bigSep (insert i s) Φ = iprop(Φ i ∗ bigSep s Φ) := BI.bigSep_insert hi

def upTo (d : Bool) (t : ℕ) (c : Dev nD) : sProp 𝕄 := bigSep (Finset.univ.filter fun s : Fin (n d) => s.val < t) fun s => done A d s c
def onFrom (d : Bool) (t : ℕ) (c : Dev nD) : sProp 𝕄 := bigSep (Finset.univ.filter fun s : Fin (n d) => t ≤ s.val) fun s => todo d s c

theorem upTo_succ (d : Bool) (s : Fin (n d)) (c : Dev nD) : upTo A d (s.val + 1) c = iprop(done A d s c ∗ upTo A d s.val c) := by
  unfold upTo
  have h : s ∉ Finset.univ.filter fun s' : Fin (n d) => s'.val < s.val := by simp
  refine Eq.trans ?_ (bigSep_cons (Φ := fun s' => done A d s' c) h)
  congr 1
  ext x
  simp only [Finset.mem_filter, Finset.mem_univ, true_and, Finset.mem_insert, Fin.ext_iff]
  omega

theorem upTo_zero (d : Bool) (c : Dev nD) : upTo A d 0 c = (iprop(emp) : sProp 𝕄) := by
  unfold upTo; rw [Finset.filter_false_of_mem fun s _ => by omega]; rfl

theorem upTo_end (d : Bool) (c : Dev nD) : upTo A d (n d) c = bigSep Finset.univ fun s => done A d s c := by
  unfold upTo; rw [Finset.filter_true_of_mem fun s _ => s.isLt]

theorem onFrom_hop (d : Bool) (s : Fin (n d)) (c : Dev nD) :
    onFrom d s.val c = (iprop(todo d s c ∗ onFrom d (s.val + 1) c) : sProp 𝕄) := by
  unfold onFrom; rw [from_insert, bigSep_cons (from_notMem d s)]

theorem onFrom_zero (d : Bool) (c : Dev nD) : onFrom d 0 c = (bigSep Finset.univ fun s => todo d s c : sProp 𝕄) := by
  unfold onFrom; rw [Finset.filter_true_of_mem fun s _ => Nat.zero_le _]

theorem onFrom_end (d : Bool) (c : Dev nD) : onFrom d (n d) c = (iprop(emp) : sProp 𝕄) := by
  unfold onFrom; rw [Finset.filter_false_of_mem fun s _ => by have := s.isLt; omega]; rfl

theorem kinds {m : ℕ} (Φ : Kind × Fin m → sProp 𝕄) :
    bigSep Finset.univ Φ = bigSep Finset.univ fun s => all3 fun j => Φ (j, s) := by
  unfold all3
  rw [bigSep_sep', bigSep_sep', bigSep_univ_prod, bigSep_univ_eq_bigSepL [Kind.k, Kind.v, Kind.s] (by decide) (by decide),
    bigSepL_cons_cons, bigSepL_cons_cons, bigSepL_singleton]
  rfl

/-- With the neighbours' payments the transfers can start. -/
theorem todo_all (d : Bool) (c : Dev nD) : iprop(pre d c ∗ barPay d c) ⊢ (onFrom d 0 c : sProp 𝕄) := by
  rw [onFrom_zero]
  unfold pre barPay
  rw [← bigSep_sep']
  refine BIBase.Entails.trans ?_ (Entails.of_eq (kinds fun x : Kind × Fin (n d) => todoJ d x.2 c x.1))
  refine BI.bigSep_mono fun x _ => ?_
  unfold preJ todoJ
  refine show BIBase.Entails (PROP := sProp 𝕄) _ _ from ?_
  iintro ⟨⟨H1, H2, H3, H4, H5, H6⟩, Hf, Hr⟩
  isplitl [H1]; · iexact H1
  isplitl [H2]; · iexact H2
  isplitl [H3]; · iexact H3
  isplitl [H4]; · iexact H4
  isplitl [H5]; · iexact H5
  isplitl [H6]; · iexact H6
  isplitl [Hr]; · iexact Hr
  iexact Hf

/-- The block a hop brought, out of what is held when it is over, and back. -/
theorem done_slots (d : Bool) (t : Fin (n d + 1)) (s : Fin (n d)) (ht : t = s.castSucc) (c : Dev nD) :
    done A d s c ⊢ iprop(slots A d t c fullShare ∗ (slots A d t c fullShare -∗ done A d s c)) := by
  subst ht
  unfold done slots all3 doneJ
  iintro ⟨⟨Hk, Zk⟩, ⟨Hv, Zv⟩, Hs, Zs⟩
  isplitl [Hk Hv Hs]
  · isplitl [Hk]; · iexact Hk
    isplitl [Hv]; · iexact Hv
    iexact Hs
  iintro ⟨Hk, Hv, Hs⟩
  isplitl [Hk Zk]
  · isplitl [Hk]; · iexact Hk
    iexact Zk
  isplitl [Hv Zv]
  · isplitl [Hv]; · iexact Hv
    iexact Zv
  isplitl [Hs]; · iexact Hs
  iexact Zs

/-! ### The barrier -/

theorem signalPrv_wp (K : GSem nD τ sig → ℕ) (c : Dev nD) (Q : PUnit → sProp 𝕄) :
    iprop(invs A K ∗ dutyTok ER (barCell (prv c)) 0 true ∗ reached ER (barCell (prv c)) 0 ∗ barPay true (prv c) ∗ owesE c (O₀ c)
        ∗ (owesE c (O₁ c) -∗ Q ⟨⟩))
      ⊢ wp frame (wpE (defs₀ (F := F)) 𝒱₀ (c : Thread nD τ) none) Set.univ (semSignalWord (prv c) barrier0 1#32) Q := by
  unfold semSignalWord owesE
  iintro ⟨#HI, Ht, #Hr, Hp, ⟨%W, HO⟩, Hk⟩
  ihave #HIc := (invs_bar A K (prv c)) $$ HI
  iapply (Rounds.wp_signal 𝒱₀ ER (sched A) (c : Thread nD τ) none (dst := (prv c : Thread nD τ)) (κ := K (barCell (prv c))) (d := true)
    (by rw [duties_bar]; exact Finset.mem_univ _) ((amount_bar A (prv c) true).trans (by decide)) () (O₁ c) rfl (W := W)) $$ [HO Ht Hp]
  · isplitr; · iexact HIc
    isplitl [HO]; · iexact HO
    isplitl [Ht]; · iexact Ht
    isplitl [Hp]; · rw [payload_bar]; iexact Hp
    iexact Hr
  iintro HO
  rw [wp_ret]
  imodintro
  iapply Hk
  iexists W; iexact HO

theorem signalNxt_wp (K : GSem nD τ sig → ℕ) (c : Dev nD) (Q : PUnit → sProp 𝕄) :
    iprop(invs A K ∗ dutyTok ER (barCell (nxt c)) 0 false ∗ reached ER (barCell (nxt c)) 0 ∗ barPay false (nxt c) ∗ owesE c (O₁ c)
        ∗ (owesE c (owed 0 0 c) -∗ Q ⟨⟩))
      ⊢ wp frame (wpE (defs₀ (F := F)) 𝒱₀ (c : Thread nD τ) none) Set.univ (semSignalWord (nxt c) barrier0 1#32) Q := by
  unfold semSignalWord owesE
  iintro ⟨#HI, Ht, #Hr, Hp, ⟨%W, HO⟩, Hk⟩
  ihave #HIc := (invs_bar A K (nxt c)) $$ HI
  iapply (Rounds.wp_signal 𝒱₀ ER (sched A) (c : Thread nD τ) none (dst := (nxt c : Thread nD τ)) (κ := K (barCell (nxt c))) (d := false)
    (by rw [duties_bar]; exact Finset.mem_univ _) ((amount_bar A (nxt c) false).trans (by decide)) () (owed 0 0 c) rfl (W := W)) $$ [HO Ht Hp]
  · isplitr; · iexact HIc
    isplitl [HO]; · iexact HO
    isplitl [Ht]; · iexact Ht
    isplitl [Hp]; · rw [payload_bar]; iexact Hp
    iexact Hr
  iintro HO
  rw [wp_ret]
  imodintro
  iapply Hk
  iexists W; iexact HO

theorem waitBar_wp (K : GSem nD τ sig → ℕ) (c : Dev nD) (Q : PUnit → sProp 𝕄) :
    iprop(invs A K ∗ levAts L lv ∗ atPos ER (barCell c) 0 ∅ 0 ∗ cred (tallyAt (barCell c) () 2) ∗ owesE c (owed 0 0 c)
        ∗ ((owesE c (owed 0 0 c) ∗ semVal (barCell c) 0 ∗ barPay true c ∗ barPay false c) -∗ Q ⟨⟩))
      ⊢ wp frame (wpE (defs₀ (F := F)) 𝒱₀ (c : Thread nD τ) none) Set.univ (semWaitWord barrier0 2#32) Q := by
  have hO : Above 1 (owed 0 0 c) := (above_oweD true 0 c).add (above_oweD false 0 c)
  unfold semWaitWord owesE
  iintro ⟨#HI, #Hlev, Hat, Hc, ⟨%W, HO⟩, Hk⟩
  ihave #HIc := (invs_bar A K c) $$ HI
  iapply (Rounds.wp_wait_rest_token 𝒱₀ ER (sched A) (c : Thread nD τ) none (κ := K (barCell c))
      (wpE_semWait_eq 𝒱₀ (c : Thread nD τ) none Set.univ) (Set.mem_univ _) () (O := owed 0 0 c) (W := W) (R := 0) (m := 0) (T := ∅)
      (by rw [expect_bar]; decide)) $$ [Hc HO Hat]
  · isplitr; · iexact HIc
    isplitl [Hc]; · iexact Hc
    isplitl [HO]; · iexact HO
    isplitr; · iapply (mayWait (F := F) hO c (.reg barrier0) (lv_bar c ()).le); iexact Hlev
    iexact Hat
  iintro ⟨HO, Hat, -, Hpay⟩
  rw [wp_ret]
  imod (Rounds.cell_close ER (sched A) (Set.mem_univ (K (barCell c))) id (R := 0 + 1) (duties_later (F := F) A (barCell c))) $$ [Hat] with Hz
  · isplitr; · iexact HIc
    iexact Hat
  imodintro
  iapply Hk
  isplitl [HO]; · iexists _; iexact HO
  isplitl [Hz]; · iexact Hz
  iapply (Entails.of_eq (rest_bar A c)); iexact Hpay

/-! ### The own blocks -/

/-- The six fills: the own block of either direction takes the own arrays. -/
theorem fills_wp (d : Bool) (c : Dev nD) (Q : PUnit → sProp 𝕄) :
    iprop(ownP c (A c) ∗ lastE d c ∗ ((ownP c (A c) ∗ slots A d (Fin.last (n d)) c fullShare) -∗ Q ⟨⟩))
      ⊢ wp frame (wpE (defs₀ (F := F)) 𝒱₀ (c : Thread nD τ) none) Set.univ (fill d .k k8M) fun _ =>
        wp frame (wpE (defs₀ (F := F)) 𝒱₀ (c : Thread nD τ) none) Set.univ (fill d .v v8M) fun _ =>
        wp frame (wpE (defs₀ (F := F)) 𝒱₀ (c : Thread nD τ) none) Set.univ (fill d .s scM) Q := by
  have h0 : (![0, 0, 0] : Fin 3 → ℕ) = fun _ => 0 := by decide
  unfold ownP k8P v8P scP lastE slots all3
  iintro ⟨⟨Hk, Hv, Hs⟩, ⟨Fk, Fv, Fs⟩, HQ⟩
  iapply (fill_wp A d .k k8M c (A c .k) (Memref.readAt_unit_zero (Elt F) cc0_stg2_0 h0 _ _) _)
  isplitl [Hk]; · iexact Hk
  isplitl [Fk]; · iexact Fk
  iintro ⟨Hk, Fk⟩
  iapply (fill_wp A d .v v8M c (A c .v) (Memref.readAt_unit_zero (Elt F) cc0_stg3_0 h0 _ _) _)
  isplitl [Hv]; · iexact Hv
  isplitl [Fv]; · iexact Fv
  iintro ⟨Hv, Fv⟩
  iapply (fill_wp A d .s scM c (A c .s) (Memref.readAt_unit_zero (Elt F) cc0_stg4_0 h0 _ _) _)
  isplitl [Hs]; · iexact Hs
  isplitl [Fs]; · iexact Fs
  iintro ⟨Hs, Fs⟩
  iapply HQ
  isplitl [Hk Hv Hs]
  · isplitl [Hk]; · iexact Hk
    isplitl [Hv]; · iexact Hv
    iexact Hs
  isplitl [Fk]; · iexact Fk
  isplitl [Fv]; · iexact Fv
  iexact Fs

/-! ### The loop -/

/-- Before turn `k`: the hops up to `k` are over, and the sources before `k` are attended over. -/
def inv (K : GSem nD τ sig → ℕ) (c : Dev nD) (q : QC F) (k : ℕ) : sProp 𝕄 :=
  iprop(invs A K ∗ levAts L lv ∗ (upTo A true (k + 1) c ∗ upTo A false (k + 1) c) ∗ (onFrom true (k + 1) c ∗ onFrom false (k + 1) c)
    ∗ owesE c (owed (k + 1) (k + 1) c) ∗ qP c q ∗ aP c (runA A c q k) ∗ lP c (runL A c q k))

/-- The hop that brought the block a turn sends on. -/
abbrev kPrev (d : Bool) (k : Fin k0_t1_loop.trips) : Fin (n d) :=
  ⟨k.val, by have := trip_lt k; cases d <;> simp only [n] <;> omega⟩

theorem srcOf_kHop (d : Bool) (k : Fin k0_t1_loop.trips) : kSrc d k = srcOf d (kHop d k) := by
  unfold srcOf
  rw [if_neg (Nat.succ_ne_zero _)]
  rfl

theorem above_owed {t t' m : ℕ} (c : Dev nD) (h : m ≤ t + 1) (h' : m ≤ t' + 1) : Above m (owed t t' c) :=
  ((above_oweD true t c).mono h).add ((above_oweD false t' c).mono h')

/-- What is owed before a turn's starts, and after those of direction `true`. -/
theorem owed_true (s : Fin (n true)) (t' : ℕ) (c : Dev nD) : owed s.val t' c = owed (s.val + 1) t' c + hopT true s c := by
  unfold owed; rw [oweD_hop true s c, add_right_comm]
theorem owed_false (t : ℕ) (s : Fin (n false)) (c : Dev nD) : owed t s.val c = owed t (s.val + 1) c + hopT false s c := by
  unfold owed; rw [oweD_hop false s c, add_assoc]

theorem hop_wp (K : GSem nD τ sig → ℕ) (c : Dev nD) (q : QC F) (k : Fin k0_t1_loop.trips) :
    inv A K c q k.val ⊢ wp frame (wpE (defs₀ (F := F)) 𝒱₀ (c : Thread nD τ) none) Set.univ (hop mask c k) fun _ => inv A K c q (k.val + 1) := by
  have hk := trip_lt k
  have hR : dev true c (kSrc true k) = devR c k.val := dev_R c _ (by show k.val ≠ 16; omega)
  have hL : dev false c (kSrc false k) = devL c k.val := dev_L c _ (by show k.val ≠ 15; omega)
  unfold hop inv
  simp only [wp_bind]
  rw [show owed (k.val + 1) (k.val + 1) c = _ from owed_true (kHop true k) (k.val + 1) c,
    show owed (k.val + 1 + 1) (k.val + 1) c = _ from owed_false (k.val + 1 + 1) (kHop false k) c,
    show onFrom true (k.val + 1) c = _ from onFrom_hop true (kHop true k) c, show onFrom false (k.val + 1) c = _ from onFrom_hop false (kHop false k) c,
    show upTo A true (k.val + 1) c = _ from upTo_succ A true (kPrev true k) c, show upTo A false (k.val + 1) c = _ from upTo_succ A false (kPrev false k) c]
  iintro ⟨#HI, #Hlev, ⟨⟨DR, UR⟩, DL, UL⟩, ⟨⟨TR, FR⟩, TL, FL⟩, HO, Hq, Ha, Hl⟩
  ihave DR := (done_slots A true (kSrc true k) (kPrev true k) rfl c) $$ DR
  icases DR with ⟨SR, DR⟩
  ihave DL := (done_slots A false (kSrc false k) (kPrev false k) rfl c) $$ DL
  icases DL with ⟨SL, DL⟩
  iapply (startHop_wp A K true (kSrc true k) (kHop true k) (srcOf_kHop true k) c _ _)
  isplitr; · iexact HI
  isplitl [SR]; · iexact SR
  isplitl [TR]; · iexact TR
  isplitl [HO]; · iexact HO
  iintro ⟨SR, TR, HO⟩
  iapply (startHop_wp A K false (kSrc false k) (kHop false k) (srcOf_kHop false k) c _ _)
  isplitr; · iexact HI
  isplitl [SL]; · iexact SL
  isplitl [TL]; · iexact TL
  isplitl [HO]; · iexact HO
  iintro ⟨SL, TL, HO⟩
  iapply (attendSlot_wp A mask true (kSrc true k) c _ q _ _ _)
  isplitl [SR]; · iexact SR
  isplitl [Hq Ha Hl]
  · isplitl [Hq]; · iexact Hq
    isplitl [Ha]; · iexact Ha
    iexact Hl
  iintro ⟨SR, HB⟩
  iapply (attendSlot_wp A mask false (kSrc false k) c _ q _ _ _)
  isplitl [SL]; · iexact SL
  isplitl [HB]; · iexact HB
  iintro ⟨SL, HB⟩
  rw [hR, hL]
  iapply (waitHop_wp A K true (kSrc true k) (kHop true k) (srcOf_kHop true k) c
    (above_owed (t := k.val + 1 + 1) (t' := k.val + 1 + 1) c (by show k.val + 1 + 2 ≤ _; omega) (by show k.val + 1 + 2 ≤ _; omega)) _)
  isplitr; · iexact HI
  isplitr; · iexact Hlev
  isplitl [SR]; · iexact SR
  isplitl [TR]; · iexact TR
  isplitl [HO]; · iexact HO
  iintro ⟨SR, TR, HO⟩
  iapply (waitHop_wp A K false (kSrc false k) (kHop false k) (srcOf_kHop false k) c
    (above_owed (t := k.val + 1 + 1) (t' := k.val + 1 + 1) c (by show k.val + 1 + 2 ≤ _; omega) (by show k.val + 1 + 2 ≤ _; omega)) _)
  isplitr; · iexact HI
  isplitr; · iexact Hlev
  isplitl [SL]; · iexact SL
  isplitl [TL]; · iexact TL
  isplitl [HO]; · iexact HO
  iintro ⟨SL, TL, HO⟩
  ihave DR := DR $$ SR
  ihave DL := DL $$ SL
  isplitr; · iexact HI
  isplitr; · iexact Hlev
  isplitl [DR UR DL UL TR TL]
  · isplitl [DR UR TR]
    · iapply (Entails.of_eq (show iprop(done A true (kHop true k) c ∗ done A true (kPrev true k) c ∗ upTo A true k.val c) = upTo A true (k.val + 1 + 1) c from
        ((upTo_succ A true (kHop true k) c).trans (congrArg (fun P => iprop(_ ∗ P)) (upTo_succ A true (kPrev true k) c))).symm))
      isplitl [TR]; · iexact TR
      isplitl [DR]; · iexact DR
      iexact UR
    · iapply (Entails.of_eq (show iprop(done A false (kHop false k) c ∗ done A false (kPrev false k) c ∗ upTo A false k.val c) = upTo A false (k.val + 1 + 1) c from
        ((upTo_succ A false (kHop false k) c).trans (congrArg (fun P => iprop(_ ∗ P)) (upTo_succ A false (kPrev false k) c))).symm))
      isplitl [TL]; · iexact TL
      isplitl [DL]; · iexact DL
      iexact UL
  isplitl [FR FL]
  · isplitl [FR]; · iexact FR
    iexact FL
  isplitl [HO]; · iexact HO
  iexact HB

/-! ### The whole run -/

theorem kernel_wp (K : GSem nD τ sig → ℕ) (c : Dev nD) (x : XC F) (w : WqC F) (wo : WoC F) (Q : PUnit → sProp 𝕄) :
    iprop(invs A K ∗ levAts L lv ∗ startP c ∗ argP A c x w wo ∗ (∃ o, oP c o) ∗ owesE c (O₀ c)
        ∗ ((endP A c ∗ argP A c x w wo ∗ oP c (outC A c x w wo) ∗ owesE c 0) -∗ Q ⟨⟩))
      ⊢ wp frame (wpE (defs₀ (F := F)) 𝒱₀ (c : Thread nD τ) none) Set.univ (kernelAt c) Q := by
  unfold kernelAt startP barP scrE argP
  simp only [wp_bind]
  iintro ⟨#HI, #Hlev, ⟨⟨Hat, Hcr, HtP, #HrP, HtN, #HrN⟩, ⟨GP, GN⟩, ⟨TR, TL⟩, ⟨ER', EL'⟩, ⟨%q, Hq⟩, ⟨%a, Ha⟩, ⟨%l, Hl⟩⟩,
    ⟨Hx, Hw, Hown, Hwo⟩, ⟨%o, Ho⟩, HO, HQ⟩
  -- the barrier
  iapply (signalPrv_wp A K c _)
  isplitr; · iexact HI
  isplitl [HtP]; · iexact HtP
  isplitr; · iexact HrP
  isplitl [GP]; · iexact GP
  isplitl [HO]; · iexact HO
  iintro HO
  iapply (signalNxt_wp A K c _)
  isplitr; · iexact HI
  isplitl [HtN]; · iexact HtN
  isplitr; · iexact HrN
  isplitl [GN]; · iexact GN
  isplitl [HO]; · iexact HO
  iintro HO
  iapply (waitBar_wp A K c _)
  isplitr; · iexact HI
  isplitr; · iexact Hlev
  isplitl [Hat]; · iexact Hat
  isplitl [Hcr]; · iexact Hcr
  isplitl [HO]; · iexact HO
  iintro ⟨HO, Hz, PR, PL⟩
  ihave TR := (todo_all true c) $$ [TR PR]
  · isplitl [TR]; · iexact TR
    iexact PR
  ihave TL := (todo_all false c) $$ [TL PL]
  · isplitl [TL]; · iexact TL
    iexact PL
  -- the start
  iapply (initB_wp 0 c x w q a _)
  isplitl [Hx Hw Hq Ha]
  · isplitl [Hx]; · iexact Hx
    isplitl [Hw]; · iexact Hw
    isplitl [Hq]; · iexact Hq
    iexact Ha
  iintro HB
  iapply (initB_wp 1 c x w _ _ _)
  isplitl [HB]; · iexact HB
  rw [initQ_all, initA_all]
  iintro ⟨Hx, Hw, Hq, Ha⟩
  iapply (initL_wp c l _)
  isplitl [Hl]; · iexact Hl
  iintro Hl
  iapply (fills_wp A true c _)
  isplitl [Hown]; · iexact Hown
  isplitl [ER']; · iexact ER'
  iintro ⟨Hown, SR⟩
  iapply (fills_wp A false c _)
  isplitl [Hown]; · iexact Hown
  isplitl [EL']; · iexact EL'
  iintro ⟨Hown, SL⟩
  -- the first hop
  rw [show owed 0 0 c = _ from owed_true 0 0 c, show owed ((0 : Fin (n true)).val + 1) 0 c = _ from owed_false _ 0 c]
  ihave TR := (Entails.of_eq (show onFrom true 0 c = _ from onFrom_hop true 0 c)) $$ TR
  ihave TL := (Entails.of_eq (show onFrom false 0 c = _ from onFrom_hop false 0 c)) $$ TL
  icases TR with ⟨TR, FR⟩
  icases TL with ⟨TL, FL⟩
  iapply (startHop_wp A K true 16 0 rfl c _ _)
  isplitr; · iexact HI
  isplitl [SR]; · iexact SR
  isplitl [TR]; · iexact TR
  isplitl [HO]; · iexact HO
  iintro ⟨SR, TR, HO⟩
  iapply (startHop_wp A K false 15 0 rfl c _ _)
  isplitr; · iexact HI
  isplitl [SL]; · iexact SL
  isplitl [TL]; · iexact TL
  isplitl [HO]; · iexact HO
  iintro ⟨SL, TL, HO⟩
  iapply (attendOwn_wp (A c) c (fullQ x w) fullA zeroL _)
  isplitl [Hown]; · iexact Hown
  isplitl [Hq Ha Hl]
  · isplitl [Hq]; · iexact Hq
    isplitl [Ha]; · iexact Ha
    iexact Hl
  iintro ⟨Hown, HB⟩
  iapply (waitHop_wp A K true 16 0 rfl c (above_owed (t := 1) (t' := 1) c (by decide) (by decide)) _)
  isplitr; · iexact HI
  isplitr; · iexact Hlev
  isplitl [SR]; · iexact SR
  isplitl [TR]; · iexact TR
  isplitl [HO]; · iexact HO
  iintro ⟨SR, TR, HO⟩
  iapply (waitHop_wp A K false 15 0 rfl c (above_owed (t := 1) (t' := 1) c (by decide) (by decide)) _)
  isplitr; · iexact HI
  isplitr; · iexact Hlev
  isplitl [SL]; · iexact SL
  isplitl [TL]; · iexact TL
  isplitl [HO]; · iexact HO
  iintro ⟨SL, TL, HO⟩
  -- the loop
  iapply (Scf.wp_for _ _ _ k0_t1_loop.lb k0_t1_loop.ub k0_t1_loop.st k0_t1_ok ⟨⟩ (fun k _ => hop mask c k)
    (fun k _ => inv A K c (fullQ x w) k) (fun k _ => hop_wp A K c (fullQ x w) k))
  isplitl [TR TL FR FL HO HB]
  · unfold inv
    isplitr; · iexact HI
    isplitr; · iexact Hlev
    isplitl [TR TL]
    · isplitl [TR]
      · iapply (Entails.of_eq ((upTo_succ A true 0 c).trans (congrArg (fun P => iprop(_ ∗ P)) (upTo_zero A true c))).symm)
        isplitl [TR]; · iexact TR
        iempintro
      · iapply (Entails.of_eq ((upTo_succ A false 0 c).trans (congrArg (fun P => iprop(_ ∗ P)) (upTo_zero A false c))).symm)
        isplitl [TL]; · iexact TL
        iempintro
    isplitl [FR FL]
    · isplitl [FR]; · iexact FR
      iexact FL
    isplitl [HO]; · iexact HO
    iexact HB
  iintro %u Hinv
  rw [show Scf.trips k0_t1_loop.lb k0_t1_loop.ub k0_t1_loop.st = 14 from trips_eq]
  unfold inv
  icases Hinv with ⟨-, -, ⟨UR, UL⟩, ⟨FR, FL⟩, HO, Hq, Ha, Hl⟩
  -- the last hop
  have hE : owed 15 15 c = 0 + hopT true 15 c := by
    rw [show owed 15 15 c = _ from owed_true 15 15 c]
    unfold owed
    rw [show oweD true ((15 : Fin (n true)).val + 1) c = 0 from oweD_end true c, show oweD false 15 c = 0 from oweD_end false c, zero_add]
  rw [hE]
  ihave FR := (Entails.of_eq (show onFrom true 15 c = _ from onFrom_hop true 15 c)) $$ FR
  icases FR with ⟨TR, -⟩
  ihave UR := (Entails.of_eq (show upTo A true 15 c = _ from upTo_succ A true 14 c)) $$ UR
  icases UR with ⟨DR, UR⟩
  ihave UL := (Entails.of_eq (show upTo A false 15 c = _ from upTo_succ A false 14 c)) $$ UL
  icases UL with ⟨DL, UL⟩
  ihave DR := (done_slots A true 14 14 rfl c) $$ DR
  icases DR with ⟨SR', DR⟩
  ihave DL := (done_slots A false 14 14 rfl c) $$ DL
  icases DL with ⟨SL', DL⟩
  iapply (startHop_wp A K true 14 15 rfl c _ _)
  isplitr; · iexact HI
  isplitl [SR']; · iexact SR'
  isplitl [TR]; · iexact TR
  isplitl [HO]; · iexact HO
  iintro ⟨SR', TR, HO⟩
  iapply (attendSlot_wp A mask true 14 c _ (fullQ x w) _ _ _)
  isplitl [SR']; · iexact SR'
  isplitl [Hq Ha Hl]
  · isplitl [Hq]; · iexact Hq
    isplitl [Ha]; · iexact Ha
    iexact Hl
  iintro ⟨SR', HB⟩
  iapply (attendSlot_wp A mask false 14 c _ (fullQ x w) _ _ _)
  isplitl [SL']; · iexact SL'
  isplitl [HB]; · iexact HB
  iintro ⟨SL', HB⟩
  iapply (waitHop_wp A K true 14 15 rfl c (Above.zero _) _)
  isplitr; · iexact HI
  isplitr; · iexact Hlev
  isplitl [SR']; · iexact SR'
  isplitl [TR]; · iexact TR
  isplitl [HO]; · iexact HO
  iintro ⟨SR', TR, HO⟩
  ihave DR := DR $$ SR'
  ihave DL := DL $$ SL'
  ihave TR := (done_slots A true 15 15 rfl c) $$ TR
  icases TR with ⟨S15, TR⟩
  iapply (attendSlot_wp A mask true 15 c _ (fullQ x w) _ _ _)
  isplitl [S15]; · iexact S15
  isplitl [HB]; · iexact HB
  iintro ⟨S15, Hq, Ha, Hl⟩
  ihave TR := TR $$ S15
  rw [show dev true c 14 = devR c 14 from dev_R c 14 (by decide), show dev false c 14 = devL c 14 from dev_L c 14 (by decide),
    show dev true c 15 = devR c 15 from dev_R c 15 (by decide)]
  -- the end
  iapply (finishB_wp 0 c (endA A c (fullQ x w)) (endL A c (fullQ x w)) wo o _)
  isplitl [Ha Hl Hwo Ho]
  · isplitl [Ha]; · iexact Ha
    isplitl [Hl]; · iexact Hl
    isplitl [Hwo]; · iexact Hwo
    iexact Ho
  iintro ⟨Ha, Hl, Hwo, Ho⟩
  iapply (finishB_wp 1 c _ _ wo _ _)
  isplitl [Ha Hl Hwo Ho]
  · isplitl [Ha]; · iexact Ha
    isplitl [Hl]; · iexact Hl
    isplitl [Hwo]; · iexact Hwo
    iexact Ho
  rw [outB_all]
  iintro ⟨Ha, Hl, Hwo, Ho⟩
  iapply HQ
  isplitl [Hz UR UL DR DL TR SR SL Hq Ha Hl]
  · unfold endP scrE
    isplitl [Hz]; · iexact Hz
    isplitl [UR UL DR DL TR]
    · isplitl [UR DR TR]
      · iapply (Entails.of_eq (((upTo_end A true c).symm.trans (upTo_succ A true 15 c)).trans
          (congrArg (fun P => iprop(_ ∗ P)) (upTo_succ A true 14 c))).symm)
        isplitl [TR]; · iexact TR
        isplitl [DR]; · iexact DR
        iexact UR
      · iapply (Entails.of_eq ((upTo_end A false c).symm.trans (upTo_succ A false 14 c)).symm)
        isplitl [DL]; · iexact DL
        iexact UL
    isplitl [SR SL]
    · isplitl [SR]; · iexact SR
      iexact SL
    isplitl [Hq]; · iexists _; iexact Hq
    isplitl [Ha]; · iexists _; iexact Ha
    iexists _; iexact Hl
  isplitl [Hx Hw Hown Hwo]
  · isplitl [Hx]; · iexact Hx
    isplitl [Hw]; · iexact Hw
    isplitl [Hown]; · iexact Hown
    iexact Hwo
  isplitl [Ho]; · iexact Ho
  iexact HO

end Cert.KernelIdeal.Talk
-- ==== Proof.KernelIdeal.Slots.lean ====
/-
  The ring buffers cut into their blocks and put together again.
-/
module

public import proofs.«01_k».proof.Proof.KernelIdeal.Run
public import Idealize.ShloMosaic.Lib.Ring.FamCut
public import Idealize.ShloMosaic.Lib.ReshapeSlab

@[expose] public section

set_option maxRecDepth 65536

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → (j : Kind) → (shp j).Idx → Elt F (elt j))

/-! ### Rearranging -/

theorem sepC (P Q : sProp 𝕄) : (iprop(P ∗ Q) : sProp 𝕄) = iprop(Q ∗ P) := BI.equiv_iff.mp ⟨BI.sep_comm, BI.sep_comm⟩
theorem sepA (P Q R : sProp 𝕄) : (iprop((P ∗ Q) ∗ R) : sProp 𝕄) = iprop(P ∗ Q ∗ R) :=
  BI.equiv_iff.mp ⟨show BIBase.Entails (PROP := sProp 𝕄) _ _ from by
    iintro ⟨⟨HP, HQ⟩, HR⟩
    isplitl [HP]; · iexact HP
    isplitl [HQ]; · iexact HQ
    iexact HR, show BIBase.Entails (PROP := sProp 𝕄) _ _ from by
    iintro ⟨HP, HQ, HR⟩
    isplitr [HR]
    · isplitl [HP]; · iexact HP
      iexact HQ
    iexact HR⟩

/-! ### One ring buffer -/

/-- Different blocks of a ring buffer share no element. -/
theorem slot_disjoint (d : Bool) (j : Kind) (t t' : Fin (n d + 1)) (h : t ≠ t') :
    Disjoint (α := Finset (bufM d j).view.ty.shape.Idx) (slotM d j t).view.set (slotM d j t').view.set := by
  rw [show (slotM d j t).view.set = ((bufM d j).view.slice (Rect.unit (s := bshp d j) ![t.val, 0, 0, 0] (oshp j).size (slot_inb d j t))).set from
      View.set_reshape _ _,
    show (slotM d j t').view.set = ((bufM d j).view.slice (Rect.unit (s := bshp d j) ![t'.val, 0, 0, 0] (oshp j).size (slot_inb d j t'))).set from
      View.set_reshape _ _]
  have hv : t.val ≠ t'.val := fun e => h (Fin.ext e)
  exact View.disjoint_slice_of_sep _ _ _ (0 : Fin 4) rfl rfl (by
    show t.val + 1 ≤ t'.val ∨ t'.val + 1 ≤ t.val
    omega)

/-- A ring buffer whole, at whatever. -/
def bufE (d : Bool) (j : Kind) (c : Dev nD) : sProp 𝕄 := iprop(∃ f, (bufM d j).view.loc (c : Thread nD τ) ↦{fullShare} f)

/-- The elements of a block, as elements of the ring buffer. -/
def slotI (d : Bool) (j : Kind) (c : Dev nD) (t : Fin (n d + 1)) : Finset (Idx ((bufM d j).view.loc (c : Thread nD τ))) :=
  (slotM d j t).view.set

/-- What of a ring buffer is in no block (nothing, but that need not be known). -/
def restE (d : Bool) (j : Kind) (c : Dev nD) : sProp 𝕄 :=
  iprop(∃ f, (bufM d j).view.loc (c : Thread nD τ) ↦[Ring.restOf (slotI d j c)]{fullShare} f)

theorem slotE_buf (d : Bool) (j : Kind) (c : Dev nD) (t : Fin (n d + 1)) :
    (iprop(∃ f, (bufM d j).view.loc (c : Thread nD τ) ↦[slotI d j c t]{fullShare} f) : sProp 𝕄) = iprop(∃ f, slotP d j t c fullShare f) := rfl

theorem buf_cut (d : Bool) (j : Kind) (c : Dev nD) :
    bufE d j c ⊢ (iprop((bigSep Finset.univ fun t => iprop(∃ f, slotP d j t c fullShare f)) ∗ restE d j c) : sProp 𝕄) :=
  Ring.fam_split_ex (slotI d j c) (slot_disjoint d j)

include A in
theorem buf_join (d : Bool) (j : Kind) (c : Dev nD) :
    iprop((bigSep Finset.univ fun t => iprop(∃ f, slotP d j t c fullShare f)) ∗ restE d j c) ⊢ (bufE d j c : sProp 𝕄) :=
  Ring.fam_join (slotI d j c) (slot_disjoint d j) (f₀ := bufC A d j c)

/-! ### The three of a direction -/

/-- A sum over the blocks is that over the blocks the hops fill and the own block. -/
theorem blocks {m : ℕ} (Φ : Fin (m + 1) → sProp 𝕄) :
    bigSep Finset.univ Φ = iprop((bigSep Finset.univ fun s : Fin m => Φ s.castSucc) ∗ Φ (Fin.last m)) := by
  have h : Fin.last m ∉ Finset.univ.map Fin.castSuccEmb := by
    simp only [Finset.mem_map, not_exists, not_and]
    intro s _ e
    exact absurd (congrArg Fin.val e) (Nat.ne_of_lt s.isLt)
  have hu : (Finset.univ : Finset (Fin (m + 1))) = insert (Fin.last m) (Finset.univ.map Fin.castSuccEmb) := by
    rw [Fin.univ_castSuccEmb, Finset.cons_eq_insert]
  rw [hu, bigSep_cons h, bigSep_map]
  exact sepC _ _

/-- The blocks of one direction that the hops fill, at whatever. -/
def hopsE (d : Bool) (c : Dev nD) : sProp 𝕄 :=
  bigSep Finset.univ fun x : Kind × Fin (n d) => iprop(∃ f, slotP d x.1 x.2.castSucc c fullShare f)

def bufsE (d : Bool) (c : Dev nD) : sProp 𝕄 := all3 fun j => bufE d j c
def restsE (d : Bool) (c : Dev nD) : sProp 𝕄 := all3 fun j => restE d j c

theorem all3_mono {P Q : Kind → sProp 𝕄} (h : ∀ j, P j ⊢ Q j) : all3 P ⊢ all3 Q := by
  unfold all3
  exact BI.sep_mono (h _) (BI.sep_mono (h _) (h _))

theorem all3_sep (P Q : Kind → sProp 𝕄) : all3 (fun j => iprop(P j ∗ Q j)) = iprop(all3 P ∗ all3 Q) := by
  have e : ∀ R : Kind → sProp 𝕄, all3 R = bigSep Finset.univ R := fun R => by
    unfold all3
    rw [bigSep_univ_eq_bigSepL [Kind.k, Kind.v, Kind.s] (by decide) (by decide), bigSepL_cons_cons, bigSepL_cons_cons, bigSepL_singleton]
    rfl
  rw [e, e, e, bigSep_sep']

theorem kindsRev {m : ℕ} (Φ : Kind × Fin m → sProp 𝕄) :
    bigSep Finset.univ Φ = all3 fun j => bigSep Finset.univ fun s => Φ (j, s) := by
  unfold all3
  rw [bigSep_univ_prod, bigSep_univ_eq_bigSepL [Kind.k, Kind.v, Kind.s] (by decide) (by decide), bigSepL_cons_cons, bigSepL_cons_cons, bigSepL_singleton]
  rfl

/-- The blocks of the three ring buffers of a direction, by block or all together. -/
theorem slots_eq (d : Bool) (c : Dev nD) :
    all3 (fun j => iprop((bigSep Finset.univ fun t => iprop(∃ f, slotP d j t c fullShare f)) ∗ restE d j c))
      = (iprop(hopsE d c ∗ lastE d c ∗ restsE d c) : sProp 𝕄) := by
  rw [all3_sep, show (fun j => bigSep Finset.univ fun t => (iprop(∃ f, slotP d j t c fullShare f) : sProp 𝕄))
      = (fun j => iprop((bigSep Finset.univ fun s : Fin (n d) => iprop(∃ f, slotP d j s.castSucc c fullShare f))
          ∗ (∃ f, slotP d j (Fin.last (n d)) c fullShare f))) from funext fun j => blocks _, all3_sep]
  unfold hopsE lastE restsE
  rw [kindsRev]
  exact sepA _ _ _

theorem bufs_cut (d : Bool) (c : Dev nD) : bufsE d c ⊢ (iprop(hopsE d c ∗ lastE d c ∗ restsE d c) : sProp 𝕄) := by
  rw [← slots_eq]
  exact all3_mono fun j => buf_cut d j c

include A in
theorem bufs_join (d : Bool) (c : Dev nD) : iprop(hopsE d c ∗ lastE d c ∗ restsE d c) ⊢ (bufsE d c : sProp 𝕄) := by
  rw [← slots_eq]
  exact all3_mono fun j => buf_join A d j c

/-! ### The payments to the barriers -/

/-- What a device gives the neighbour that sends to it: its blocks, and that its receive cells are open. -/
theorem give_bar (d : Bool) (c e : Dev nD) (h : tgt d e = c) :
    iprop(hopsE d c ∗ bigSep Finset.univ fun x : Kind × Fin (n d) => reached ER (rCell d x.1 x.2 c) 0) ⊢ (barPay d e : sProp 𝕄) := by
  subst h
  unfold hopsE barPay
  rw [← bigSep_sep']

/-! ### When all hops are over -/

/-- The semaphores of a direction's hops, all at zero. -/
def zeros (d : Bool) (c : Dev nD) : sProp 𝕄 :=
  bigSep Finset.univ fun x : Kind × Fin (n d) => iprop(semVal (sCell d x.1 x.2 c) 0 ∗ semVal (rCell d x.1 x.2 c) 0)

theorem slotE_of (d : Bool) (j : Kind) (t : Fin (n d + 1)) (c : Dev nD) :
    slotF A d j t c fullShare ⊢ (iprop(∃ f, slotP d j t c fullShare f) : sProp 𝕄) := by
  unfold slotF
  iintro H
  iexists (bufC A d j c)
  iexact H

/-- After the hops the ring buffers are whole again, and the semaphores at zero. -/
theorem done_all (d : Bool) (c : Dev nD) :
    iprop((bigSep Finset.univ fun s => done A d s c) ∗ slots A d (Fin.last (n d)) c fullShare ∗ restsE d c)
      ⊢ iprop(bufsE d c ∗ zeros d c) := by
  have h1 : (bigSep Finset.univ fun s => done A d s c) ⊢ (iprop(hopsE d c ∗ zeros d c) : sProp 𝕄) := by
    unfold hopsE zeros done
    rw [← bigSep_sep', ← kinds fun x : Kind × Fin (n d) => doneJ A d x.2 c x.1]
    refine BI.bigSep_mono fun x _ => ?_
    unfold doneJ
    exact BI.sep_mono (slotE_of A d x.1 x.2.castSucc c) (BI.Entails.refl _)
  have h2 : slots A d (Fin.last (n d)) c fullShare ⊢ (lastE d c : sProp 𝕄) := by
    unfold slots lastE
    exact all3_mono fun j => slotE_of A d j (Fin.last (n d)) c
  refine show BIBase.Entails (PROP := sProp 𝕄) _ _ from ?_
  iintro ⟨H, S, R⟩
  ihave H := h1 $$ H
  icases H with ⟨H, Z⟩
  isplitr [Z]
  · iapply (bufs_join A d c)
    isplitl [H]; · iexact H
    isplitl [S]; · iapply h2; iexact S
    iexact R
  iexact Z

end Cert.KernelIdeal.Talk
-- ==== Proof.KernelIdeal.Raw.lean ====
/-
  The printed kernel as a sequence of the named pieces.
-/
module

public import proofs.«01_k».proof.Proof.KernelIdeal.Whole

@[expose] public section

set_option maxRecDepth 65536

noncomputable section

namespace Cert.KernelIdeal.Talk

open Cert.KernelIdeal.Gen
open Idealize.ShloMosaic Idealize.ShloMosaic.TcCoe Idealize.SL.Sem

variable {F : FTy → Type} [FloatOps F]

set_option maxHeartbeats 1000000 in
/-- The printed kernel as it stands: the pieces, at the printed devices, around the part that holds
    the loop. -/
theorem kernel_raw (t : Fin cfg0.N) :
    bodyAt0 (F := F) t = ((do
      let c ← Prog.lift .deviceId
      semSignalWord (⟨k0_dev1 c, k0_dev1_lt c⟩ : Dev nD) barrier0 1#32
      semSignalWord (⟨k0_dev2 c, k0_dev2_lt c⟩ : Dev nD) barrier0 1#32
      semWaitWord barrier0 2#32
      initB 0
      initB 1
      initL
      fill true .k k8M
      fill true .v v8M
      fill true .s scM
      fill false .k k8M
      fill false .v v8M
      fill false .s scM
      startRaw true .k ![16, 0, 0, 0] ![0, 0, 0, 0] (slot_inb true .k 16) (slot_inb true .k 0) ![0] (sem_inb true 0) ⟨k0_dev3 c, k0_dev3_lt c⟩ (slot_wordExact _ _ _ _) (slot_wordExact _ _ _ _)
      startRaw true .v ![16, 0, 0, 0] ![0, 0, 0, 0] (slot_inb true .v 16) (slot_inb true .v 0) ![0] (sem_inb true 0) ⟨k0_dev4 c, k0_dev4_lt c⟩ (slot_wordExact _ _ _ _) (slot_wordExact _ _ _ _)
      startRaw true .s ![16, 0, 0, 0] ![0, 0, 0, 0] (slot_inb true .s 16) (slot_inb true .s 0) ![0] (sem_inb true 0) ⟨k0_dev5 c, k0_dev5_lt c⟩ (slot_wordExact _ _ _ _) (slot_wordExact _ _ _ _)
      startRaw false .k ![15, 0, 0, 0] ![0, 0, 0, 0] (slot_inb false .k 15) (slot_inb false .k 0) ![0] (sem_inb false 0) ⟨k0_dev6 c, k0_dev6_lt c⟩ (slot_wordExact _ _ _ _) (slot_wordExact _ _ _ _)
      startRaw false .v ![15, 0, 0, 0] ![0, 0, 0, 0] (slot_inb false .v 15) (slot_inb false .v 0) ![0] (sem_inb false 0) ⟨k0_dev7 c, k0_dev7_lt c⟩ (slot_wordExact _ _ _ _) (slot_wordExact _ _ _ _)
      startRaw false .s ![15, 0, 0, 0] ![0, 0, 0, 0] (slot_inb false .s 15) (slot_inb false .s 0) ![0] (sem_inb false 0) ⟨k0_dev8 c, k0_dev8_lt c⟩ (slot_wordExact _ _ _ _) (slot_wordExact _ _ _ _)
      attendOwn
      waitRaw true .k ![16, 0, 0, 0] ![0, 0, 0, 0] (slot_inb true .k 16) (slot_inb true .k 0) ![0] (sem_inb true 0) (slot_wordExact _ _ _ _) (slot_wordExact _ _ _ _)
      waitRaw true .v ![16, 0, 0, 0] ![0, 0, 0, 0] (slot_inb true .v 16) (slot_inb true .v 0) ![0] (sem_inb true 0) (slot_wordExact _ _ _ _) (slot_wordExact _ _ _ _)
      waitRaw true .s ![16, 0, 0, 0] ![0, 0, 0, 0] (slot_inb true .s 16) (slot_inb true .s 0) ![0] (sem_inb true 0) (slot_wordExact _ _ _ _) (slot_wordExact _ _ _ _)
      waitRaw false .k ![15, 0, 0, 0] ![0, 0, 0, 0] (slot_inb false .k 15) (slot_inb false .k 0) ![0] (sem_inb false 0) (slot_wordExact _ _ _ _) (slot_wordExact _ _ _ _)
      await (semAt (sendA false .v) ![0] (sem_inb false 0)) (slotAt false .v ![0, 0, 0, 0] (slot_inb false .v 0)) (slotAt false .v ![15, 0, 0, 0] (slot_inb false .v 15)) (slot_wordExact _ _ _ _) (slot_wordExact _ _ _ _)
      k0_part38 xM (Memref.isWhole_whole _) wqM (Memref.isWhole_whole _)
        k8M (Memref.isWhole_whole _) v8M (Memref.isWhole_whole _) scM (Memref.isWhole_whole _) woM (Memref.isWhole_whole _)
        oM (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        (Memref.whole cc0_scratch6) (Memref.isWhole_whole _) (Memref.whole cc0_scratch7) (Memref.isWhole_whole _)
        (Memref.whole cc0_scratch8) (Memref.isWhole_whole _)
        cc0_scratch9 cc0_scratch10 cc0_scratch11 cc0_scratch12 cc0_scratch13 cc0_scratch14 cc0_scratch15 cc0_scratch16
        cc0_scratch17 cc0_scratch18 cc0_scratch19 cc0_scratch20 c
        (Scalar.remsi (Scalar.addi (Scalar.subi (Scalar.remsi (Scalar.divsi (Dev.word c) 1#32) 32#32) 1#32) 32#32) 32#32)
        (Scalar.remsi (Scalar.addi (Scalar.remsi (Scalar.divsi (Dev.word c) 1#32) 32#32) 1#32) 32#32) mask
      startRaw true .k ![14, 0, 0, 0] ![15, 0, 0, 0] (slot_inb true .k 14) (slot_inb true .k 15) ![15] (sem_inb true 15) ⟨k0_dev15 c, k0_dev15_lt c⟩ (slot_wordExact _ _ _ _) (slot_wordExact _ _ _ _)
      startRaw true .v ![14, 0, 0, 0] ![15, 0, 0, 0] (slot_inb true .v 14) (slot_inb true .v 15) ![15] (sem_inb true 15) ⟨k0_dev16 c, k0_dev16_lt c⟩ (slot_wordExact _ _ _ _) (slot_wordExact _ _ _ _)
      startRaw true .s ![14, 0, 0, 0] ![15, 0, 0, 0] (slot_inb true .s 14) (slot_inb true .s 15) ![15] (sem_inb true 15) ⟨k0_dev17 c, k0_dev17_lt c⟩ (slot_wordExact _ _ _ _) (slot_wordExact _ _ _ _)
      attendSlot mask true 14
      attendSlot mask false 14
      waitRaw true .k ![14, 0, 0, 0] ![15, 0, 0, 0] (slot_inb true .k 14) (slot_inb true .k 15) ![15] (sem_inb true 15) (slot_wordExact _ _ _ _) (slot_wordExact _ _ _ _)
      waitRaw true .v ![14, 0, 0, 0] ![15, 0, 0, 0] (slot_inb true .v 14) (slot_inb true .v 15) ![15] (sem_inb true 15) (slot_wordExact _ _ _ _) (slot_wordExact _ _ _ _)
      waitRaw true .s ![14, 0, 0, 0] ![15, 0, 0, 0] (slot_inb true .s 14) (slot_inb true .s 15) ![15] (sem_inb true 15) (slot_wordExact _ _ _ _) (slot_wordExact _ _ _ _)
      attendSlot mask true 15
      finishB 0
      divStep 1 0
      divStep 1 1
      divStep 1 2
      let a : Vec F S1x256x64 .f32 ← Prog.lift (.load aM (qaR 1 3).toLoadRect (View.loadsAt_vmem h_S1x256x64))
      pure (k0_pay266 a)) >>= fun a => do
        let l : Vec F S1x1x256x1 .f32 ← Prog.lift (.load lM (lR 1 3).toLoadRect (View.loadsAt_vmem h_S1x1x256x1))
        let _ : Vec F S1x256x64 .f32 ← Prog.lift (.load aM (qaR 1 3).toLoadRect (View.loadsAt_vmem h_S1x256x64))
        Prog.lift (.store aM (qaR 1 3) (k0_pay1 a l) Finset.univ (View.stores_vmem_bits_univ h_S1x256x64 rfl) (.inl rfl))
        outStep 1) := by
  obtain rfl : t = ⟨0, by decide⟩ := fin_N0 t
  show cc0_body xM _ wqM _ k8M _ v8M _ scM _ woM _ oM _ _ _ _ _ _ _ _ _ _ _ _ _ _ _ _ _ _ _ _ _ _ _ _ _ _ _ _ _ _ _ = _
  rw [cc0_body_eq_skeleton]
  unfold cc0_body_skel
  rw [k0_part67_eq_skeleton]
  unfold k0_part67_skel
  generalize k0_part38 (F := F) = X
  rfl

/-- The part that holds the loop, as it stands. -/
theorem part_raw (c : Dev nD) (v5 v7 : BitVec 32) (mk : IVec S256x256 1) :
    k0_part38 (F := F) xM (Memref.isWhole_whole _) wqM (Memref.isWhole_whole _)
        k8M (Memref.isWhole_whole _) v8M (Memref.isWhole_whole _) scM (Memref.isWhole_whole _) woM (Memref.isWhole_whole _)
        oM (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        (Memref.whole cc0_scratch6) (Memref.isWhole_whole _) (Memref.whole cc0_scratch7) (Memref.isWhole_whole _)
        (Memref.whole cc0_scratch8) (Memref.isWhole_whole _)
        cc0_scratch9 cc0_scratch10 cc0_scratch11 cc0_scratch12 cc0_scratch13 cc0_scratch14 cc0_scratch15 cc0_scratch16
        cc0_scratch17 cc0_scratch18 cc0_scratch19 cc0_scratch20 c v5 v7 mk = (do
      await (semAt (recvA false .v) ![0] (sem_inb false 0)) (slotAt false .v ![15, 0, 0, 0] (slot_inb false .v 15)) (slotAt false .v ![0, 0, 0, 0] (slot_inb false .v 0)) (slot_wordExact _ _ _ _) (slot_wordExact _ _ _ _)
      waitRaw false .s ![15, 0, 0, 0] ![0, 0, 0, 0] (slot_inb false .s 15) (slot_inb false .s 0) ![0] (sem_inb false 0) (slot_wordExact _ _ _ _) (slot_wordExact _ _ _ _)
      Scf.Loop.for k0_t1_loop k0_t1_ok ⟨⟩ (k0_t1_body xM (Memref.isWhole_whole _) wqM (Memref.isWhole_whole _)
        k8M (Memref.isWhole_whole _) v8M (Memref.isWhole_whole _) scM (Memref.isWhole_whole _) woM (Memref.isWhole_whole _)
        oM (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        (Memref.whole cc0_scratch6) (Memref.isWhole_whole _) (Memref.whole cc0_scratch7) (Memref.isWhole_whole _)
        (Memref.whole cc0_scratch8) (Memref.isWhole_whole _)
        cc0_scratch9 cc0_scratch10 cc0_scratch11 cc0_scratch12 cc0_scratch13 cc0_scratch14 cc0_scratch15 cc0_scratch16
        cc0_scratch17 cc0_scratch18 cc0_scratch19 cc0_scratch20 c v5 v7 mk)
      pure ⟨⟩) := by
  rw [k0_part38_eq_skeleton]
  rfl

/-- The same with the loop's turns named. -/
theorem part_eq (c : Dev nD) (v5 v7 : BitVec 32) (mk : IVec S256x256 1) :
    k0_part38 (F := F) xM (Memref.isWhole_whole _) wqM (Memref.isWhole_whole _)
        k8M (Memref.isWhole_whole _) v8M (Memref.isWhole_whole _) scM (Memref.isWhole_whole _) woM (Memref.isWhole_whole _)
        oM (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        (Memref.whole cc0_scratch6) (Memref.isWhole_whole _) (Memref.whole cc0_scratch7) (Memref.isWhole_whole _)
        (Memref.whole cc0_scratch8) (Memref.isWhole_whole _)
        cc0_scratch9 cc0_scratch10 cc0_scratch11 cc0_scratch12 cc0_scratch13 cc0_scratch14 cc0_scratch15 cc0_scratch16
        cc0_scratch17 cc0_scratch18 cc0_scratch19 cc0_scratch20 c v5 v7 mk = (do
      await (rSem false .v 0) (slotM false .v 15) (slotM false .v 0) (slot_wordExact _ _ _ _) (slot_wordExact _ _ _ _)
      waitM false .s 15 0
      Scf.Loop.for k0_t1_loop k0_t1_ok ⟨⟩ (fun k _ => hop mk c k)
      pure ⟨⟩) := by
  rw [part_raw]
  have h : k0_t1_body (F := F) xM (Memref.isWhole_whole _) wqM (Memref.isWhole_whole _)
        k8M (Memref.isWhole_whole _) v8M (Memref.isWhole_whole _) scM (Memref.isWhole_whole _) woM (Memref.isWhole_whole _)
        oM (Memref.isWhole_whole _) (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        (Memref.whole cc0_scratch6) (Memref.isWhole_whole _) (Memref.whole cc0_scratch7) (Memref.isWhole_whole _)
        (Memref.whole cc0_scratch8) (Memref.isWhole_whole _)
        cc0_scratch9 cc0_scratch10 cc0_scratch11 cc0_scratch12 cc0_scratch13 cc0_scratch14 cc0_scratch15 cc0_scratch16
        cc0_scratch17 cc0_scratch18 cc0_scratch19 cc0_scratch20 c v5 v7 mk = fun k _ => hop mk c k :=
    funext fun k => funext fun _ => body_eq mk c v5 v7 _ _ _ _ _ _ _ _ _ _ _ _ _ _ k
  rw [h]
  rfl

/-- The printed kernel is the sequence of named pieces. -/
theorem kernel_eq (t : Fin cfg0.N) :
    bodyAt0 (F := F) t = Prog.lift .deviceId >>= fun c => kernelAt c := by
  rw [kernel_raw, bind_assoc]
  refine congrArg (Bind.bind _) (funext fun c => ?_)
  have e1 : (⟨k0_dev1 c, k0_dev1_lt c⟩ : Dev nD) = prv c := Fin.ext (k0_dev1_eq c)
  have e2 : (⟨k0_dev2 c, k0_dev2_lt c⟩ : Dev nD) = nxt c := Fin.ext (k0_dev2_eq c)
  have e3 : (⟨k0_dev3 c, k0_dev3_lt c⟩ : Dev nD) = tgt true c := Fin.ext (k0_dev3_eq c)
  have e4 : (⟨k0_dev4 c, k0_dev4_lt c⟩ : Dev nD) = tgt true c := Fin.ext (k0_dev4_eq c)
  have e5 : (⟨k0_dev5 c, k0_dev5_lt c⟩ : Dev nD) = tgt true c := Fin.ext (k0_dev5_eq c)
  have e6 : (⟨k0_dev6 c, k0_dev6_lt c⟩ : Dev nD) = tgt false c := Fin.ext (k0_dev6_eq c)
  have e7 : (⟨k0_dev7 c, k0_dev7_lt c⟩ : Dev nD) = tgt false c := Fin.ext (k0_dev7_eq c)
  have e8 : (⟨k0_dev8 c, k0_dev8_lt c⟩ : Dev nD) = tgt false c := Fin.ext (k0_dev8_eq c)
  have e15 : (⟨k0_dev15 c, k0_dev15_lt c⟩ : Dev nD) = tgt true c := Fin.ext (k0_dev15_eq c)
  have e16 : (⟨k0_dev16 c, k0_dev16_lt c⟩ : Dev nD) = tgt true c := Fin.ext (k0_dev16_eq c)
  have e17 : (⟨k0_dev17 c, k0_dev17_lt c⟩ : Dev nD) = tgt true c := Fin.ext (k0_dev17_eq c)
  simp only [part_eq, e1, e2, e3, e4, e5, e6, e7, e8, e15, e16, e17, kernelAt, startHop, waitHop, waitM, finishB, divStep, bind_assoc, pure_bind]
  rfl

end Cert.KernelIdeal.Talk
-- ==== Proof.KernelIdeal.Dats.lean ====
/-
  The region's data: what the arrays hold as it is entered, what the kernel leaves in each staging
  buffer, and what the device holds before and after its one point.
-/
module

public import proofs.«01_k».proof.Proof.KernelIdeal.Slots
public import proofs.«01_k».proof.Proof.KernelIdeal.Raw
public import proofs.«01_k».proof.Proof.Gen.KernelIdeal.Frame

@[expose] public section

set_option maxRecDepth 65536

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### What the devices send -/

/-- The arrays a device sends: its codes of the keys and of the values, and its scales. -/
def arrA (c : Dev nD) : (j : Kind) → (shp j).Idx → Elt F (elt j)
  | .k => iblk m c 2 t0_0
  | .v => iblk m c 3 t0_0
  | .s => iblk m c 4 t0_0

/-- What a device leaves in its output. -/
def outB0 (c : Dev nD) : OC F := outC (arrA m) c (iblk m c 0 t0_0) (iblk m c 1 t0_0) (iblk m c 5 t0_0)

/-! ### What is held around the one point -/

/-- The records every device reads. -/
def recs : sProp 𝕄 := iprop((∃ K, invs (arrA m) K) ∗ levAts L lv)

def phi0 (c : Dev nD) : sProp 𝕄 :=
  iprop(recs m ∗ startP c ∗ (restsE true c ∗ restsE false c) ∗ ∃ r, prngReg c r)
def phi1 (c : Dev nD) : sProp 𝕄 :=
  iprop(endP (arrA m) c ∗ (restsE true c ∗ restsE false c) ∗ ∃ r, prngReg c r)

/-- The data of the region on device `c`. -/
def dat0 (c : Dev nD) : Dat τ (Elt F) Unit ℕ UU ℕ cfg0 c where
  A w := V m c (Pipeline.arrRef spec0 w)
  after := fun (w : Fin 7) t => match w with
    | 0 => iblk m c 0 t
    | 1 => iblk m c 1 t
    | 2 => iblk m c 2 t
    | 3 => iblk m c 3 t
    | 4 => iblk m c 4 t
    | 5 => iblk m c 5 t
    | 6 => outB0 m c
  Φ t := if t.val = 0 then phi0 m c else phi1 m c
  q _ := fullShare
  owed t := if t.val = 0 then O₀ c else 0

theorem owed_zero (c : Dev nD) : (dat0 (F := F) m c).owed 0 = O₀ c := by
  show (if ((0 : Fin (cfg0.N + 1)).val = 0) then O₀ c else 0) = O₀ c; exact if_pos rfl
theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (dat0 (F := F) m c).owed (Fin.last _) = 0 := by
  show (if (Fin.last cfg0.N).val = 0 then O₀ c else 0) = 0
  rw [Fin.val_last, if_neg (by rw [show cfg0.N = 1 from N_0]; decide)]

theorem phi_zero (c : Dev nD) : (dat0 m c).Φ 0 = phi0 m c := by
  show (if ((0 : Fin (cfg0.N + 1)).val = 0) then phi0 m c else phi1 m c) = _; exact if_pos rfl
theorem phi_last (c : Dev nD) : (dat0 m c).Φ (Fin.last _) = phi1 m c := by
  show (if (Fin.last cfg0.N).val = 0 then phi0 m c else phi1 m c) = _
  rw [Fin.val_last, if_neg (by rw [show cfg0.N = 1 from N_0]; decide)]

theorem owesAt_first (c : Dev nD) : (dat0 m c).owesAt () t0_0.castSucc ⊢ (owesE c (O₀ c) : sProp 𝕄) := by
  unfold Dat.owesAt Pipeline.owesWithin owesE; rw [owed_first]
  iintro ⟨%W, -, HO⟩; iexists W; iexact HO
theorem owesAt_last (c : Dev nD) : (owesE c 0 : sProp 𝕄) ⊢ (dat0 m c).owesAt () t0_0.succ := by
  unfold Dat.owesAt Pipeline.owesWithin Dat.bound owesE
  rw [show (dat0 m c).owed t0_0.succ = 0 from owed_last m c, show (dat0 m c).recorded t0_0.succ = Set.univ from rfl]
  iintro ⟨%W, HO⟩; iexists W; isplitr; · ipureintro; exact fun _ _ => Or.inl trivial
  iexact HO

/-- The input windows' staging buffers hold their blocks as the body starts. -/
theorem before_0 (c : Dev nD) (d) : (dat0 m c).before 0 t0_0 d = iblk m c 0 t0_0 := (dat0 m c).before_fetched 0 t0_0 (fetch0_0 t0_0) d
theorem before_1 (c : Dev nD) (d) : (dat0 m c).before 1 t0_0 d = iblk m c 1 t0_0 := (dat0 m c).before_fetched 1 t0_0 (fetch0_1 t0_0) d
theorem before_2 (c : Dev nD) (d) : (dat0 m c).before 2 t0_0 d = iblk m c 2 t0_0 := (dat0 m c).before_fetched 2 t0_0 (fetch0_2 t0_0) d
theorem before_3 (c : Dev nD) (d) : (dat0 m c).before 3 t0_0 d = iblk m c 3 t0_0 := (dat0 m c).before_fetched 3 t0_0 (fetch0_3 t0_0) d
theorem before_4 (c : Dev nD) (d) : (dat0 m c).before 4 t0_0 d = iblk m c 4 t0_0 := (dat0 m c).before_fetched 4 t0_0 (fetch0_4 t0_0) d
theorem before_5 (c : Dev nD) (d) : (dat0 m c).before 5 t0_0 d = iblk m c 5 t0_0 := (dat0 m c).before_fetched 5 t0_0 (fetch0_5 t0_0) d

/-- A staging buffer whole is that buffer. -/
theorem owns_whole (c : Dev nD) (b : Ref sig .tc) (X : b.ty.Contents (Elt F)) :
    (owns c (Memref.whole b) fullShare X : sProp 𝕄) ⊢ ((Memref.whole b).view.loc (c : Thread nD τ) ↦{fullShare} X) := by
  unfold owns
  simp only [Memref.view_whole, View.read_whole, View.set_whole]
  iintro ⟨%f, %hf, H⟩
  subst hf
  iexact H

theorem whole_owns (c : Dev nD) (b : Ref sig .tc) (X : b.ty.Contents (Elt F)) :
    ((Memref.whole b).view.loc (c : Thread nD τ) ↦{fullShare} X : sProp 𝕄) ⊢ owns c (Memref.whole b) fullShare X := by
  unfold owns
  simp only [Memref.view_whole, View.read_whole, View.set_whole]
  iintro H
  iexists X
  isplitr
  · ipureintro; rfl
  iexact H

set_option maxHeartbeats 1000000 in
/-- At its one point the kernel takes what is held before to what is held after. -/
theorem body (c : Dev nD) : BodyObligation (dat0 m c) defs₀ 𝒱₀ () Set.univ := fun t => by
  obtain rfl := fin_N0 t
  rw [bigSep_W0, bigSep_W0]
  show iprop(phi0 m c ∗ (dat0 m c).owesAt () t0_0.castSucc
      ∗ (∃ d, owns c (Memref.whole cc0_stg0_0) fullShare ((dat0 m c).before 0 t0_0 d))
      ∗ (∃ d, owns c (Memref.whole cc0_stg1_0) fullShare ((dat0 m c).before 1 t0_0 d))
      ∗ (∃ d, owns c (Memref.whole cc0_stg2_0) fullShare ((dat0 m c).before 2 t0_0 d))
      ∗ (∃ d, owns c (Memref.whole cc0_stg3_0) fullShare ((dat0 m c).before 3 t0_0 d))
      ∗ (∃ d, owns c (Memref.whole cc0_stg4_0) fullShare ((dat0 m c).before 4 t0_0 d))
      ∗ (∃ d, owns c (Memref.whole cc0_stg5_0) fullShare ((dat0 m c).before 5 t0_0 d))
      ∗ (∃ d, owns c (Memref.whole cc0_stg6_0) fullShare ((dat0 m c).before 6 t0_0 d)))
    ⊢ wp frame (wpE (defs₀ (F := F)) 𝒱₀ (c : Thread nD τ) none) Set.univ (bodyAt0 t0_0) fun _ =>
      iprop(phi1 m c ∗ (dat0 m c).owesAt () t0_0.succ
      ∗ owns c (Memref.whole cc0_stg0_0) fullShare (iblk m c 0 t0_0)
      ∗ owns c (Memref.whole cc0_stg1_0) fullShare (iblk m c 1 t0_0)
      ∗ owns c (Memref.whole cc0_stg2_0) fullShare (iblk m c 2 t0_0)
      ∗ owns c (Memref.whole cc0_stg3_0) fullShare (iblk m c 3 t0_0)
      ∗ owns c (Memref.whole cc0_stg4_0) fullShare (iblk m c 4 t0_0)
      ∗ owns c (Memref.whole cc0_stg5_0) fullShare (iblk m c 5 t0_0)
      ∗ owns c (Memref.whole cc0_stg6_0) fullShare (outB0 m c))
  rw [kernel_eq, Prog.lift, Prog.bind_op]
  iintro ⟨HΦ, HO, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4, before_5]
  ihave H0 := (owns_whole c cc0_stg0_0 _) $$ H0
  ihave H1 := (owns_whole c cc0_stg1_0 _) $$ H1
  ihave H2 := (owns_whole c cc0_stg2_0 _) $$ H2
  ihave H3 := (owns_whole c cc0_stg3_0 _) $$ H3
  ihave H4 := (owns_whole c cc0_stg4_0 _) $$ H4
  ihave H5 := (owns_whole c cc0_stg5_0 _) $$ H5
  ihave H6 := (owns_whole c cc0_stg6_0 _) $$ H6
  ihave HO := (owesAt_first m c) $$ HO
  unfold phi0 recs
  icases HΦ with ⟨⟨⟨%K, #HI⟩, #Hlev⟩, HS, HR, Hp⟩
  rw [wp_deviceId, Prog.bind_ret]
  iapply (kernel_wp (arrA m) K c (iblk m c 0 t0_0) (iblk m c 1 t0_0) (iblk m c 5 t0_0) _)
  isplitr; · iexact HI
  isplitr; · iexact Hlev
  isplitl [HS]; · iexact HS
  isplitl [H0 H1 H2 H3 H4 H5]
  · unfold argP ownP xP wqP woP k8P v8P scP
    isplitl [H0]; · iexact H0
    isplitl [H1]; · iexact H1
    isplitl [H2 H3 H4]
    · isplitl [H2]; · iexact H2
      isplitl [H3]; · iexact H3
      iexact H4
    iexact H5
  isplitl [H6]
  · unfold oP
    iexists _; iexact H6
  isplitl [HO]; · iexact HO
  unfold argP ownP xP wqP woP oP k8P v8P scP
  iintro ⟨HE, ⟨H0, H1, ⟨H2, H3, H4⟩, H5⟩, H6, HO⟩
  unfold phi1
  isplitl [HE HR Hp]
  · isplitl [HE]; · iexact HE
    isplitl [HR]; · iexact HR
    iexact Hp
  isplitl [HO]; · iapply (owesAt_last m c); iexact HO
  isplitl [H0]; · iapply (whole_owns c cc0_stg0_0 _); iexact H0
  isplitl [H1]; · iapply (whole_owns c cc0_stg1_0 _); iexact H1
  isplitl [H2]; · iapply (whole_owns c cc0_stg2_0 _); iexact H2
  isplitl [H3]; · iapply (whole_owns c cc0_stg3_0 _); iexact H3
  isplitl [H4]; · iapply (whole_owns c cc0_stg4_0 _); iexact H4
  isplitl [H5]; · iapply (whole_owns c cc0_stg5_0 _); iexact H5
  iapply (whole_owns c cc0_stg6_0 _); iexact H6

end Cert.KernelIdeal.Talk
-- ==== Proof.KernelIdeal.Region.lean ====
/-
  Entering and leaving the region: from what a device is dealt at launch its cells are opened and its
  ring buffers cut; at the end the buffers are whole again and every semaphore at zero.
-/
module

public import proofs.«01_k».proof.Proof.KernelIdeal.Dats
public import Idealize.ShloMosaic.Lib.Pipeline.Cells
public import Idealize.ShloMosaic.Lib.Pipeline.RegionTalk

@[expose] public section

set_option maxRecDepth 65536

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### Sums over the transfers -/

theorem bools (Φ : Bool → sProp 𝕄) : bigSep Finset.univ Φ = iprop(Φ true ∗ Φ false) := by
  rw [bigSep_univ_eq_bigSepL [true, false] (by decide) (by decide), bigSepL_cons_cons, bigSepL_singleton]
  rfl

/-- Over all the transfers is over those of either direction. -/
theorem hxs (Φ : Hx → sProp 𝕄) :
    bigSep Finset.univ Φ = iprop((bigSep Finset.univ fun p => Φ ⟨true, p⟩) ∗ bigSep Finset.univ fun p => Φ ⟨false, p⟩) := by
  rw [show (Finset.univ : Finset Hx) = Finset.univ.sigma fun _ => Finset.univ from rfl, Pipeline.bigSep_sigma, bools]

/-- Over all the cells is over the transfers, send and receive. -/
theorem cxs (Φ : Cx → sProp 𝕄) : bigSep Finset.univ Φ = bigSep Finset.univ fun x : Hx => iprop(Φ (x, true) ∗ Φ (x, false)) := by
  rw [bigSep_univ_prod]
  exact BI.bigSep_congr fun x _ => bools _

/-! ### What a device is dealt -/

abbrev snd (x : Hx) (c : Dev nD) : GSem nD τ sig := sCell x.1 x.2.1 x.2.2 c
abbrev rcv (x : Hx) (c : Dev nD) : GSem nD τ sig := rCell x.1 x.2.1 x.2.2 c

/-- Its place at its barrier, the rights to signal its neighbours', the rights to open its transfers'
    cells, and the rights to pay for the transfers it makes. -/
def dealt (c : Dev nD) : sProp 𝕄 :=
  iprop(atPos ER (barCell c) 0 ∅ 0 ∗ (dutyTok ER (barCell (prv c)) 0 true ∗ dutyTok ER (barCell (nxt c)) 0 false)
    ∗ (bigSep Finset.univ fun y : Cx => openTok ER (cell y c))
    ∗ bigSep Finset.univ fun x : Hx => iprop(dutyTok ER (snd x c) 0 false ∗ dutyTok ER (rcv x (tgt x.1 c)) 0 false))

/-- The credit of what its neighbours owe it. -/
def credits (c : Dev nD) : sProp 𝕄 :=
  iprop(cred (tallyAt (barCell c) () 2) ∗ bigSep Finset.univ fun x : Hx => cred (tallyAt (rcv x c) () (N x.2.1)))

/-- At launch. -/
def Tk (c : Dev nD) : sProp 𝕄 :=
  iprop(((∃ K, invs (arrA m) K) ∗ reached ER (barCell (prv c)) 0 ∗ reached ER (barCell (nxt c)) 0) ∗ dealt c ∗ credits c)

instance recs_persistent : BI.Persistent (recs m) := by unfold recs; infer_instance

/-- With its cells open. -/
def Xk (c : Dev nD) : sProp 𝕄 :=
  iprop(recs m ∗ barP c ∗ (pre true c ∗ pre false c) ∗ bigSep Finset.univ fun x : Hx => reached ER (rcv x c) 0)

/-- At the end. -/
def Yk (c : Dev nD) : sProp 𝕄 := semVal (barCell c) 0

theorem open_one (K : GSem nD τ sig → ℕ) (c : Dev nD) (y : Cx) :
    iprop(invs (arrA m) K ∗ (openTok ER (cell y c) ∗ semVal (cell y c) 0))
      ⊢ (|={Set.univ}=> (atPos ER (cell y c) 0 ∅ 0 ∗ reached ER (cell y c) 0) : sProp 𝕄) := by
  iintro ⟨#HI, Ho, Hv⟩
  ihave #HIc := (invs_cell (arrA m) K y c) $$ HI
  iapply (Rounds.cell_open ER (sched (arrA m)) (g := cell y c) (Set.mem_univ (K (cell y c))))
  isplitr; · iexact HIc
  isplitl [Ho]; · iexact Ho
  iexact Hv

/-- The transfers' positions, credits and rights, transfer by transfer. -/
theorem pre_all (c : Dev nD) :
    iprop((bigSep Finset.univ fun y : Cx => iprop(atPos ER (cell y c) 0 ∅ 0 ∗ reached ER (cell y c) 0))
        ∗ (bigSep Finset.univ fun x : Hx => cred (tallyAt (rcv x c) () (N x.2.1)))
        ∗ bigSep Finset.univ fun x : Hx => iprop(dutyTok ER (snd x c) 0 false ∗ dutyTok ER (rcv x (tgt x.1 c)) 0 false))
      ⊢ (iprop((pre true c ∗ pre false c) ∗ bigSep Finset.univ fun x : Hx => reached ER (rcv x c) 0) : sProp 𝕄) := by
  unfold pre
  rw [cxs, ← hxs fun x : Hx => preJ x.1 x.2.2 c x.2.1, ← bigSep_sep', ← bigSep_sep', ← bigSep_sep']
  refine BI.bigSep_mono fun x _ => ?_
  unfold preJ
  refine show BIBase.Entails (PROP := sProp 𝕄) _ _ from ?_
  iintro ⟨⟨⟨As, Rs⟩, Ar, Rr⟩, C, Ds, Dr⟩
  isplitr [Rr]
  · isplitl [As]; · iexact As
    isplitl [Ar]; · iexact Ar
    isplitl [C]; · iexact C
    isplitl [Ds]; · iexact Ds
    isplitl [Rs]; · iexact Rs
    iexact Dr
  iexact Rr

theorem hopen (c : Dev nD) : iprop(Tk m c ∗ Pipeline.ownSems0 osem c ∗ levAts L lv) ⊢ (|={Set.univ}=> Xk m c : sProp 𝕄) := by
  unfold Tk dealt credits Pipeline.ownSems0
  iintro ⟨⟨⟨⟨%K, #HI⟩, #Rp, #Rn⟩, ⟨Hat, ⟨Dp, Dn⟩, Hop, Hdt⟩, Cb, Cr⟩, Hv, #Hlev⟩
  imod (show iprop(invs (arrA m) K ∗ (bigSep Finset.univ fun y : Cx => openTok ER (cell y c)) ∗ bigSep Finset.univ fun y : Cx => semVal (cell y c) 0)
      ⊢ (|={Set.univ}=> (bigSep Finset.univ fun y : Cx => iprop(atPos ER (cell y c) 0 ∅ 0 ∗ reached ER (cell y c) 0)) : sProp 𝕄) from by
    rw [← bigSep_sep']
    exact (bigSep_with_persistent (R := invs (arrA m) K) (Φ := fun y : Cx => iprop(openTok ER (cell y c) ∗ semVal (cell y c) 0)) fun y _ => open_one m K c y).trans
      (BI.bigSep_fupd Finset.univ _)) $$ [Hop Hv] with Ho
  · isplitr; · iexact HI
    isplitl [Hop]; · iexact Hop
    iexact Hv
  imodintro
  ihave Hp := (pre_all c) $$ [Ho Cr Hdt]
  · isplitl [Ho]; · iexact Ho
    isplitl [Cr]; · iexact Cr
    iexact Hdt
  icases Hp with ⟨Hp, Hr⟩
  unfold Xk recs barP
  isplitr
  · isplitr
    · iexists K; iexact HI
    iexact Hlev
  isplitl [Hat Cb Dp Dn]
  · isplitl [Hat]; · iexact Hat
    isplitl [Cb]; · iexact Cb
    isplitl [Dp]; · iexact Dp
    isplitr; · iexact Rp
    isplitl [Dn]; · iexact Dn
    iexact Rn
  isplitl [Hp]; · iexact Hp
  iexact Hr

/-! ### The buffers -/

theorem bufsE_true (c : Dev nD) : (bufsE true c : sProp 𝕄)
    = iprop((∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ ∃ f : Buf (Elt F) ((c : Thread nD τ).loc cc0_scratch5), ((c : Thread nD τ).loc cc0_scratch5) ↦{fullShare} f) := rfl
theorem bufsE_false (c : Dev nD) : (bufsE false c : sProp 𝕄)
    = iprop((∃ f : Buf (Elt F) ((c : Thread nD τ).loc cc0_scratch6), ((c : Thread nD τ).loc cc0_scratch6) ↦{fullShare} f)
      ∗ (∃ f : Buf (Elt F) ((c : Thread nD τ).loc cc0_scratch7), ((c : Thread nD τ).loc cc0_scratch7) ↦{fullShare} f)
      ∗ ∃ f : Buf (Elt F) ((c : Thread nD τ).loc cc0_scratch8), ((c : Thread nD τ).loc cc0_scratch8) ↦{fullShare} f) := rfl

/-- The scratch buffers: the three the kernel computes in, and the ring buffers of either direction. -/
theorem rest_eq (c : Dev nD) :
    (Pipeline.scopedRest (Ix := Unit) (Name := ℕ) (U := UU) (Lvl := ℕ) (Val := Elt F) spec0 c : sProp 𝕄)
      ⊣⊢ iprop(scrE c ∗ bufsE true c ∗ bufsE false c) := by
  rw [scopedRest0_eq]
  rw [bufsE_true, bufsE_false]
  unfold scrE
  constructor
  · iintro ⟨H0, H1, H2, H3, H4, H5, H6, H7, H8⟩
    isplitl [H0 H1 H2]
    · isplitl [H0]; · iexact H0
      isplitl [H1]; · iexact H1
      iexact H2
    isplitl [H3 H4 H5]
    · isplitl [H3]; · iexact H3
      isplitl [H4]; · iexact H4
      iexact H5
    isplitl [H6]; · iexact H6
    isplitl [H7]; · iexact H7
    iexact H8
  · iintro ⟨⟨H0, H1, H2⟩, ⟨H3, H4, H5⟩, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem held_none (c : Dev nD) (W : Valuation τ sig (Elt F)) : (StableHlo.held (c.tc : Thread nD τ) ∅ W : sProp 𝕄) = iprop(emp) :=
  BI.bigSep_empty

theorem hin (c : Dev nD) (W : Valuation τ sig (Elt F)) :
    iprop(Pipeline.scopedRest (Ix := Unit) (Name := ℕ) (U := UU) (Lvl := ℕ) (Val := Elt F) spec0 c ∗ (∃ r, prngReg c r)
        ∗ StableHlo.held (c.tc : Thread nD τ) ∅ W ∗ Xk m c) ⊢ (phi0 m c : sProp 𝕄) := by
  unfold Xk phi0 startP
  rw [hxs]
  iintro ⟨Hs, Hp, -, #HR, Hb, Hpre, Rt, Rf⟩
  ihave Hs := (rest_eq c).1 $$ Hs
  icases Hs with ⟨Hs, Bt, Bf⟩
  ihave Bt := (bufs_cut true c) $$ Bt
  icases Bt with ⟨Ht, Lt, Gt⟩
  ihave Bf := (bufs_cut false c) $$ Bf
  icases Bf with ⟨Hf, Lf, Gf⟩
  isplitr; · iexact HR
  isplitr [Gt Gf Hp]
  · isplitl [Hb]; · iexact Hb
    isplitl [Ht Rt Hf Rf]
    · isplitl [Ht Rt]
      · iapply (give_bar true c (prv c) (nxt_prv c))
        isplitl [Ht]; · iexact Ht
        iexact Rt
      iapply (give_bar false c (nxt c) (prv_nxt c))
      isplitl [Hf]; · iexact Hf
      iexact Rf
    isplitl [Hpre]; · iexact Hpre
    isplitl [Lt Lf]
    · isplitl [Lt]; · iexact Lt
      iexact Lf
    iexact Hs
  isplitl [Gt Gf]
  · isplitl [Gt]; · iexact Gt
    iexact Gf
  iexact Hp

theorem zeros_eq (c : Dev nD) : (iprop(zeros true c ∗ zeros false c) : sProp 𝕄) = Pipeline.ownSems0 osem c := by
  unfold zeros Pipeline.ownSems0
  rw [cxs, hxs]

theorem hout (c : Dev nD) (W : Valuation τ sig (Elt F)) :
    phi1 m c ⊢ iprop(Pipeline.scopedRest (Ix := Unit) (Name := ℕ) (U := UU) (Lvl := ℕ) (Val := Elt F) spec0 c ∗ (∃ r, prngReg c r)
        ∗ StableHlo.held (c.tc : Thread nD τ) ∅ W ∗ Pipeline.ownSems0 osem c ∗ (Yk c : sProp 𝕄)) := by
  unfold phi1 endP Yk
  rw [held_none, ← zeros_eq]
  iintro ⟨⟨Hz, ⟨Dt, Df⟩, ⟨St, Sf⟩, Hs⟩, ⟨Gt, Gf⟩, Hp⟩
  ihave Ht := (done_all (arrA m) true c) $$ [Dt St Gt]
  · isplitl [Dt]; · iexact Dt
    isplitl [St]; · iexact St
    iexact Gt
  ihave Hf := (done_all (arrA m) false c) $$ [Df Sf Gf]
  · isplitl [Df]; · iexact Df
    isplitl [Sf]; · iexact Sf
    iexact Gf
  icases Ht with ⟨Bt, Zt⟩
  icases Hf with ⟨Bf, Zf⟩
  isplitl [Hs Bt Bf]
  · iapply (rest_eq c).2
    isplitl [Hs]; · iexact Hs
    isplitl [Bt]; · iexact Bt
    iexact Bf
  isplitl [Hp]; · iexact Hp
  isplitr; · iempintro
  isplitl [Zt Zf]
  · isplitl [Zt]; · iexact Zt
    iexact Zf
  iexact Hz

end Cert.KernelIdeal.Talk
-- ==== Proof.KernelIdeal.Segs.lean ====
/-
  The program's two parts, the host lines and the region, with what is held before and after each.
-/
module

public import proofs.«01_k».proof.Proof.KernelIdeal.Region

@[expose] public section

set_option maxRecDepth 65536

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The data -/

abbrev adm : (p : Fin 1) → (pcfgs (F := F) p).Adm := fun p => (cfgs p).toPCfg_adm

def pdats : (p : Fin 1) → (c : Dev nD) → Dat τ (Elt F) Unit ℕ UU ℕ (Pipeline.pin (pcfgs (F := F)) adm p) c
  | 0 => dat0 m

/-- The lines of host operations before the region. -/
abbrev opss : List (List (HloOp τ sig (Elt F))) :=
  [hostOps0, hostOps0_1, hostOps0_2, hostOps0_3, hostOps0_4, hostOps0_5, hostOps0_6, hostOps0_7, hostOps0_8]

theorem opss_sub : ∀ ops ∈ (opss : List (List (HloOp τ sig (Elt F)))), ∀ op ∈ ops, op.bufs ⊆ Pipeline.ucRefs τ sig := by
  have h : (opss : List (List (HloOp τ sig (Elt F)))).Forall fun ops => ops.Forall fun op => op.bufs ⊆ StableHlo.tcRefs τ sig := by
    simp only [List.Forall]
    exact ⟨hostOps0_sub, hostOps0_1_sub, hostOps0_2_sub, hostOps0_3_sub, hostOps0_4_sub, hostOps0_5_sub, hostOps0_6_sub, hostOps0_7_sub, hostOps0_8_sub⟩
  exact fun ops ho op hop => Pipeline.sub_ucRefs op (List.forall_iff_forall_mem.mp (List.forall_iff_forall_mem.mp h ops ho) op hop)

theorem opss_fresh : ∀ ops ∈ (opss : List (List (HloOp τ sig (Elt F)))), ∀ op ∈ ops, op.fresh = ∅ := by
  have h : (opss : List (List (HloOp τ sig (Elt F)))).Forall fun ops => ops.Forall fun op => op.fresh = ∅ := by
    simp only [List.Forall]
    exact ⟨hostOps0_fresh, hostOps0_1_fresh, hostOps0_2_fresh, hostOps0_3_fresh, hostOps0_4_fresh, hostOps0_5_fresh, hostOps0_6_fresh, hostOps0_7_fresh, hostOps0_8_fresh⟩
  exact fun ops ho op hop => List.forall_iff_forall_mem.mp (List.forall_iff_forall_mem.mp h ops ho) op hop

/-- A device's buffers at launch, as the region is entered, and after it. -/
abbrev V0 (c : Dev nD) : Valuation τ sig (Elt F) := fun b => m (c, b)
abbrev V1 (c : Dev nD) : Valuation τ sig (Elt F) := StableHlo.after (List.flatten opss) (V0 m c)
abbrev outV (c : Dev nD) : Buf (Elt F) ((c : Thread nD τ).loc main_v32) := (dat0 m c).arrAt 6 cfg0.N
abbrev V2 (c : Dev nD) : Valuation τ sig (Elt F) := Function.update (V1 m c) (Proc.devRef .tc main_v32) (outV m c)

/-! ### The host lines -/

set_option backward.isDefEq.respectTransparency.types false in
theorem host_run {β : Type} (c : Dev nD) (k : PUnit → Prog (TpuEff nD τ sig (Elt F) (Pipeline.Sig Λ₀ (Fin 1) fun p => (pcfgs (F := F) p).Adm) .tc) β)
    (K : β → sProp 𝕄) : ∀ (os : List (List (HloOp τ sig (Elt F)))) (_ : ∀ ops ∈ os, ∀ op ∈ ops, op.bufs ⊆ Pipeline.ucRefs τ sig)
      (_ : ∀ ops ∈ os, ∀ op ∈ ops, op.fresh = ∅) (W : Valuation τ sig (Elt F)),
    iprop(boundary (c.tc : Thread nD τ) ∗ (StableHlo.held (c.tc : Thread nD τ) (Pipeline.ucRefs τ sig) W : sProp 𝕄))
      ⊢ iprop(((boundary (c.tc : Thread nD τ) ∗ (StableHlo.held (c.tc : Thread nD τ) (Pipeline.ucRefs τ sig) (StableHlo.after os.flatten W) : sProp 𝕄))
                -∗ wp frame (wpE (Pipeline.defs (pcfgs (F := F)) defs₀) (Variants.lift 𝒱₀) (c.tc : Thread nD τ) none) Set.univ (k ⟨⟩) K)
        -∗ wp frame (wpE (Pipeline.defs (pcfgs (F := F)) defs₀) (Variants.lift 𝒱₀) (c.tc : Thread nD τ) none) Set.univ (Pipeline.chain (os.map StableHlo.seq) >>= k) K)
  | [], _, _, W => by
    rw [List.map_nil, List.flatten_nil, StableHlo.after_nil, Pipeline.chain_nil]
    iintro H Hk; iapply Hk; iexact H
  | ops :: os, hS, hf, W => by
    rw [List.map_cons, Pipeline.chain_cons, List.flatten_cons, StableHlo.after_append, bind_assoc]
    iintro H Hk
    iapply (StableHlo.wp_seq _ none Set.univ c (Pipeline.ucRefs τ sig) _ ops (hS ops List.mem_cons_self) (hf ops List.mem_cons_self) W) $$ H
    iintro H
    iapply (host_run c k K os (fun o ho => hS o (List.mem_cons_of_mem _ ho)) (fun o ho => hf o (List.mem_cons_of_mem _ ho)) (StableHlo.after ops W)) $$ H
    iexact Hk

/-- What rides along with the host lines. -/
def ride (c : Dev nD) : sProp 𝕄 := iprop((∃ r, prngReg c r) ∗ Tk m c ∗ ∃ W, owes (c : Thread nD τ) (O₀ c) W)

def hostSeg : Pipeline.HostSeg (Name := ℕ) (U := UU) (pcfgs (F := F)) defs₀ 𝒱₀ L lv where
  prog := Pipeline.chain (opss.map StableHlo.seq)
  pre c := iprop(StableHlo.held (c : Thread nD τ) (Pipeline.ucRefs τ sig) (V0 m c) ∗ ride m c)
  post c := iprop(StableHlo.held (c : Thread nD τ) (Pipeline.ucRefs τ sig) (V1 m c) ∗ ride m c)
  run c β k K := by
    iintro ⟨Hk, Hb, ⟨Hh, HR⟩, -⟩
    iapply (host_run c k K opss opss_sub opss_fresh (V0 m c)) $$ [Hb Hh]
    · isplitl [Hb]; · iexact Hb
      iexact Hh
    iintro ⟨Hb, Hh⟩
    iapply Hk
    isplitl [Hb]; · iexact Hb
    isplitl [Hh]; · iexact Hh
    iexact HR

/-! ### The region -/

theorem window_sem : ∀ (w : Fin 7) (s : Fin (spec0 w).nbuf), ((spec0 w).sem s).val < 7 := by decide +kernel

/-- The transfers' semaphores are the kernel's own: scoped, distinct, and no window's. -/
theorem osem_facts : Pipeline.OwnSemFacts spec0 osem where
  isScoped y := by
    obtain ⟨⟨d, j, s⟩, b⟩ := y
    cases d <;> cases j <;> cases b <;> revert s <;> decide +kernel
  inj := osem_inj
  disj y w s h := by
    obtain ⟨q, e, v⟩ := osem_eq y
    have e' : q = (spec0 w).sem s := by
      have := e.symm.trans h
      injection this
    have hq : q.val < 7 := by rw [e']; exact window_sem w s
    have := semNo_ge y
    omega

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut_owed (c : Dev nD) (t : Fin (cfg0.N + 1)) : Above 0 ((dat0 m c).owed t) := by
  show Above 0 (if t.val = 0 then O₀ c else 0)
  split
  · exact ((above_owed c (Nat.zero_le _) (Nat.zero_le _)).add (Above.tally (nxt c) _ (by rw [lv_bar]; decide))).add
      (Above.tally (prv c) _ (by rw [lv_bar]; decide))
  · exact Above.zero 0

theorem lv_window (c : Dev nD) (w : Fin 7) (s : Fin (spec0 w).nbuf) (u : Unit) : lv ((c : Thread nD τ), .dma ((spec0 w).sem s)) u = 0 := by
  have hd : dec (.dma ((spec0 w).sem s)) = none := by
    unfold dec
    exact dif_neg fun ⟨y, h⟩ => osem_facts.disj y w s h
  unfold lv
  rw [if_neg (fun h => by cases h), hd]

theorem share_full (c : Dev nD) (w : Fin cfg0.W) : (dat0 m c).share w = fullShare := by
  unfold Dat.share
  split <;> rfl

/-- The region changes no other buffer than its output. -/
theorem V2_ne (c : Dev nD) (b : Ref sig .tc) (h : b ≠ main_v32) : V2 m c (Proc.devRef .tc b) = V1 m c (Proc.devRef .tc b) :=
  Function.update_of_ne (StableHlo.devRef_ne_of_ne h) ..

theorem V2_out (c : Dev nD) : V2 m c (Proc.devRef .tc main_v32) = outV m c := Function.update_self ..

/-- What a window's array holds at the end is what `V2` has it hold. -/
theorem arr_end (c : Dev nD) (w : Fin 7) : (dat0 m c).arrAt w cfg0.N = V2 m c (Proc.devRef .tc (Pipeline.arrRef spec0 w)) := by
  by_cases h : w = 6
  · subst h
    exact (V2_out m c).symm
  · have hw : (cfg0.win w).isOut = false := by revert w; decide
    have ha : Pipeline.arrRef spec0 w ≠ main_v32 := by revert w; decide
    exact ((dat0 m c).arrAt_in w hw cfg0.N).trans (V2_ne m c _ ha).symm

theorem rest_end (c : Dev nD) (b : DevRef τ sig) (hb : b ∈ (Pipeline.ucRefs τ sig \ Pipeline.arrRefs (τ := τ) spec0) \ ∅) : V2 m c b = V1 m c b :=
  Function.update_of_ne (fun h => by
    subst h
    refine (Finset.mem_sdiff.mp (Finset.mem_sdiff.mp hb).1).2 ?_
    exact Finset.mem_map_of_mem _ (Finset.mem_image_of_mem (Pipeline.arrRef spec0) (Finset.mem_univ (6 : Fin 7)))) _ _

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ (Pipeline.ucRefs τ sig \ Pipeline.arrRefs (τ := τ) spec0) (Finset.empty_subset _) kitP rfl (fun c => (body m c).loose)
    (fun _ => 0) O₀ (fun c => (owed_zero m c).trans (zero_add _).symm) (owed_last m) (fun _ => rfl) (share_full m)
    (V1 m) (V2 m) (rest_end m)
    (Tk m) Yk (Xk m) Yk (hopen m) (fun c => (hin m c (V1 m c)).trans (Entails.of_eq (phi_zero m c).symm))
    (fun c => (Entails.of_eq (phi_last m c)).trans (hout m c (V2 m c)))
    (fun c => by iintro H; imodintro; iexact H)
    (fun _ => 0)
    ⟨fun c w s => by rw [L_tc]; exact Finset.mem_singleton_self _, fun c w s => (lv_window c w s ()).le, fun c t g i h => cut_owed m c t g i h⟩
    (fun _ => iprop(emp))
    (fun _ _ => rfl) (arr_end m)

/-! ### The two together -/

theorem region_pre (c : Dev nD) : (hostSeg m).post c ⊢ (region m).pre c := by
  show iprop(StableHlo.held (c : Thread nD τ) (Pipeline.ucRefs τ sig) (V1 m c) ∗ ride m c)
    ⊢ iprop(StableHlo.held (c.tc : Thread nD τ) (Pipeline.arrRefs (τ := τ) spec0) (V1 m c) ∗ (∃ r, prngReg c r)
    ∗ (StableHlo.held (c.tc : Thread nD τ) (Pipeline.ucRefs τ sig \ Pipeline.arrRefs (τ := τ) spec0) (V1 m c) ∗ emp) ∗ Tk m c
    ∗ ∃ Wd, owes (c : Thread nD τ) (0 + O₀ c) Wd)
  rw [zero_add, StableHlo.held_sub_split (c : Thread nD τ) (Pipeline.arrRefs_sub_ucRefs spec0 winFacts0.arr_unscoped) (V1 m c)]
  unfold ride
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

/-- What a device ends with: its buffers, and its barrier's semaphore at zero. -/
abbrev Tn (c : Dev nD) : sProp 𝕄 := iprop(StableHlo.held (c : Thread nD τ) (Pipeline.ucRefs τ sig) (V2 m c) ∗ semVal (barCell c) 0)

theorem region_post (c : Dev nD) : (region m).post c
    ⊢ iprop(Tn m c ∗ ∃ W, owes (c : Thread nD τ) (0 : CellTallies nD τ sig Unit) W) := by
  show iprop(StableHlo.held (c.tc : Thread nD τ) (Pipeline.arrRefs (τ := τ) spec0) (V2 m c) ∗ (∃ r, prngReg c r)
    ∗ (StableHlo.held (c.tc : Thread nD τ) (Pipeline.ucRefs τ sig \ Pipeline.arrRefs (τ := τ) spec0) (V2 m c) ∗ emp) ∗ Yk c
    ∗ ∃ Wd, owes (c : Thread nD τ) (0 : CellTallies nD τ sig Unit) Wd) ⊢ _
  dsimp only [Tn]
  rw [StableHlo.held_sub_split (c : Thread nD τ) (Pipeline.arrRefs_sub_ucRefs spec0 winFacts0.arr_unscoped) (V2 m c)]
  unfold Yk
  iintro ⟨Ha, -, ⟨Hr, -⟩, Hb, HO⟩
  isplitr [HO]
  · isplitr [Hb]
    · isplitl [Ha]; · iexact Ha
      iexact Hr
    iexact Hb
  iexact HO

def segs : List (Pipeline.Seg (pcfgs (F := F)) adm (pdats m) () defs₀ 𝒱₀ L lv) := [.host (hostSeg m), .region (region m)]

theorem main_eq (c : Dev nD) : main (F := F) c = Pipeline.Seg.run (segs m) := by
  rw [main_chain]
  simp only [segs, Pipeline.Seg.run, hostSeg, List.map_cons, List.map_nil, Pipeline.chain_cons, Pipeline.chain_nil, bind_assoc, pure_bind]
  rfl

end Cert.KernelIdeal.Talk
-- ==== Proof.KernelIdeal.Fund.lean ====
/-
  What the launch deals out: the cells of all the devices, the rights to pay, each with the device
  that pays, and the credit of what each cell is owed in all.
-/
module

public import proofs.«01_k».proof.Proof.KernelIdeal.Segs

@[expose] public section

set_option maxRecDepth 65536

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### The cells and the rights to pay -/

def barEmb : Dev nD ↪ GSem nD τ sig := ⟨fun c => barCell c, fun _ _ h => congrArg (fun g : GSem nD τ sig => g.1.1) h⟩
def cellEmb : Dev nD × Cx ↪ GSem nD τ sig := ⟨fun p => cell p.2 p.1, fun _ _ h =>
  Prod.ext (congrArg (fun g : GSem nD τ sig => g.1.1) h) (osem_inj (congrArg Prod.snd h))⟩

def barTok : Dev nD × Bool ↪ GSem nD τ sig × ℕ × Bool := ⟨fun p => (barCell p.1, 0, p.2), fun _ _ h =>
  Prod.ext (congrArg (fun t : GSem nD τ sig × ℕ × Bool => t.1.1.1) h) (congrArg (fun t : GSem nD τ sig × ℕ × Bool => t.2.2) h)⟩
def cellTok : Dev nD × Cx ↪ GSem nD τ sig × ℕ × Bool := ⟨fun p => (cell p.2 p.1, 0, false), fun _ _ h =>
  cellEmb.injective (congrArg Prod.fst h)⟩

abbrev barCells : Finset (GSem nD τ sig) := Finset.univ.map barEmb
abbrev xferCells : Finset (GSem nD τ sig) := Finset.univ.map cellEmb
def allToks : Finset (GSem nD τ sig × ℕ × Bool) := Finset.univ.map barTok ∪ Finset.univ.map cellTok

theorem cells_disjoint : Disjoint (barCells : Finset (GSem nD τ sig)) xferCells := by
  rw [Finset.disjoint_left]
  intro g h h'
  obtain ⟨c, -, rfl⟩ := Finset.mem_map.mp h
  obtain ⟨p, -, e⟩ := Finset.mem_map.mp h'
  exact osem_ne_bar p.2 (congrArg Prod.snd e)

theorem toks_disjoint : Disjoint (Finset.univ.map barTok) (Finset.univ.map cellTok) := by
  rw [Finset.disjoint_left]
  intro g h h'
  obtain ⟨c, -, rfl⟩ := Finset.mem_map.mp h
  obtain ⟨p, -, e⟩ := Finset.mem_map.mp h'
  exact osem_ne_bar p.2 (congrArg (fun t : GSem nD τ sig × ℕ × Bool => t.1.2) e)

/-- One step round the ring. -/
def turn (d : Bool) : Dev nD ≃ Dev nD := ⟨tgt d, tgt (!d), fun c => by cases d <;> revert c <;> decide, tgt_not d⟩

/-- One step round the ring, for each transfer in its own direction. -/
def turns : Dev nD × Hx ≃ Dev nD × Hx where
  toFun p := (tgt p.2.1 p.1, p.2)
  invFun p := (tgt (!p.2.1) p.1, p.2)
  left_inv p := Prod.ext ((turn p.2.1).left_inv p.1) rfl
  right_inv p := Prod.ext ((turn p.2.1).right_inv p.1) rfl

/-- The rights to pay, each with the device that pays. -/
theorem toks_dealt : bigSep allToks (fun x => (dutyTok ER x.1 x.2.1 x.2.2 : sProp 𝕄))
    ⊢ bigSep Finset.univ fun c : Dev nD => iprop((dutyTok ER (barCell (prv c)) 0 true ∗ dutyTok ER (barCell (nxt c)) 0 false)
      ∗ bigSep Finset.univ fun x : Hx => iprop(dutyTok ER (snd x c) 0 false ∗ dutyTok ER (rcv x (tgt x.1 c)) 0 false)) := by
  unfold allToks
  rw [BI.bigSep_union toks_disjoint, bigSep_sep']
  refine BI.sep_mono (show BIBase.Entails (PROP := sProp 𝕄) _ _ from Entails.of_eq ?_) (show BIBase.Entails (PROP := sProp 𝕄) _ _ from Entails.of_eq ?_)
  · rw [bigSep_map, bigSep_univ_prod, BI.bigSep_congr (s := Finset.univ) fun c _ => bools _, bigSep_sep', bigSep_sep']
    exact congrArg₂ (fun a b : sProp 𝕄 => iprop(a ∗ b)) (bigSep_univ_equiv (turn false) fun c : Dev nD => (dutyTok ER (barCell c) 0 true : sProp 𝕄))
      (bigSep_univ_equiv (turn true) fun c : Dev nD => (dutyTok ER (barCell c) 0 false : sProp 𝕄))
  · rw [bigSep_map, bigSep_univ_prod, BI.bigSep_congr (s := Finset.univ) fun c _ => cxs _]
    refine (bigSep_univ_prod fun p : Dev nD × Hx => iprop(dutyTok ER (snd p.2 p.1) 0 false ∗ dutyTok ER (rcv p.2 p.1) 0 false)).symm.trans ?_
    refine Eq.trans ?_ (bigSep_univ_prod fun p : Dev nD × Hx => iprop(dutyTok ER (snd p.2 p.1) 0 false ∗ dutyTok ER (rcv p.2 (tgt p.2.1 p.1)) 0 false))
    rw [bigSep_sep', bigSep_sep', bigSep_univ_equiv turns fun p : Dev nD × Hx => (dutyTok ER (rcv p.2 p.1) 0 false : sProp 𝕄)]
    rfl

/-! ### What each cell is owed -/

/-- A direction's hops owe their transfers' receives. -/
theorem oweD_all (d : Bool) (c : Dev nD) : oweD d 0 c = ∑ p : Kind × Fin (n d), (tallyAt (rCell d p.1 p.2 (tgt d c)) () (N p.1) : CellTallies nD τ sig Unit) := by
  unfold oweD
  rw [Finset.filter_true_of_mem fun _ _ => Nat.zero_le _, Fintype.sum_prod_type_right]
  refine Finset.sum_congr rfl fun s _ => ?_
  rw [show (Finset.univ : Finset Kind) = {.s, .v, .k} from by decide, Finset.sum_insert (by decide), Finset.sum_insert (by decide), Finset.sum_singleton]
  unfold hopT
  rw [add_assoc]

theorem owed_all (c : Dev nD) : owed 0 0 c = ∑ x : Hx, (tallyAt (rcv x (tgt x.1 c)) () (N x.2.1) : CellTallies nD τ sig Unit) := by
  unfold owed
  rw [oweD_all, oweD_all, Fintype.sum_sigma, Fintype.sum_bool]

theorem owed_at (c : Dev nD) (g : GSem nD τ sig) :
    owed 0 0 c g () = ∑ x : Hx, if g = rcv x (tgt x.1 c) then N x.2.1 else 0 := by
  rw [owed_all, Finset.sum_apply, Finsupp.finset_sum_apply]
  refine Finset.sum_congr rfl fun x _ => ?_
  rw [tallyAt_apply]
  exact if_congr (and_iff_left rfl) rfl rfl

theorem rcv_inj {x y : Hx} {c e : Dev nD} (h : rcv x c = rcv y e) : x = y ∧ c = e :=
  ⟨congrArg Prod.fst (osem_inj (a₁ := (x, false)) (a₂ := (y, false)) (congrArg Prod.snd h)), congrArg (fun g : GSem nD τ sig => g.1.1) h⟩

theorem bar_eq (c e : Dev nD) : barCell c = barCell e ↔ c = e := ⟨fun h => congrArg (fun g : GSem nD τ sig => g.1.1) h, fun h => h ▸ rfl⟩

theorem at_bar (d c : Dev nD) : O₀ d (barCell c) () = (if d = prv c then 1 else 0) + if d = nxt c then 1 else 0 := by
  have h0 : owed 0 0 d (barCell c) () = 0 := by
    rw [owed_at]
    exact Finset.sum_eq_zero fun x _ => if_neg fun h => osem_ne_bar (x, false) (congrArg Prod.snd h).symm
  have hn : (tallyAt (barCell (nxt d)) () 1 : CellTallies nD τ sig Unit) (barCell c) () = if d = prv c then 1 else 0 := by
    rw [tallyAt_apply]
    refine if_congr ((and_iff_left rfl).trans ((bar_eq _ _).trans ?_)) rfl rfl
    exact ⟨fun h => by rw [h, prv_nxt], fun h => by rw [h, nxt_prv]⟩
  have hp : (tallyAt (barCell (prv d)) () 1 : CellTallies nD τ sig Unit) (barCell c) () = if d = nxt c then 1 else 0 := by
    rw [tallyAt_apply]
    refine if_congr ((and_iff_left rfl).trans ((bar_eq _ _).trans ?_)) rfl rfl
    exact ⟨fun h => by rw [h, nxt_prv], fun h => by rw [h, prv_nxt]⟩
  unfold O₀ O₁
  rw [Pi.add_apply, Pi.add_apply, Finsupp.add_apply, Finsupp.add_apply, h0, hn, hp, Nat.zero_add]

theorem at_rcv (d c : Dev nD) (x : Hx) : O₀ d (rcv x c) () = if d = tgt (!x.1) c then N x.2.1 else 0 := by
  have hne (e : Dev nD) : (tallyAt (barCell e) () 1 : CellTallies nD τ sig Unit) (rcv x c) () = 0 := by
    rw [tallyAt_apply]
    exact if_neg fun h => osem_ne_bar (x, false) (congrArg Prod.snd h.1)
  unfold O₀ O₁
  rw [Pi.add_apply, Pi.add_apply, Finsupp.add_apply, Finsupp.add_apply, hne, hne, Nat.add_zero, owed_at]
  by_cases h : d = tgt (!x.1) c
  · rw [if_pos h]
    refine (Fintype.sum_eq_single x fun y hy => if_neg fun e => hy ?_).trans (if_pos ?_)
    · exact (rcv_inj e).1.symm
    · rw [h, tgt_not]
  · rw [if_neg h]
    refine Finset.sum_eq_zero fun y _ => if_neg fun e => h ?_
    obtain ⟨rfl, hc⟩ := rcv_inj e
    rw [hc]
    exact ((turn x.1).left_inv d).symm

theorem credit_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => at_bar d c, Finset.sum_add_distrib,
    Finset.sum_ite_eq' Finset.univ (prv c) fun _ => 1, Finset.sum_ite_eq' Finset.univ (nxt c) fun _ => 1,
    if_pos (Finset.mem_univ _), if_pos (Finset.mem_univ _)]

theorem credit_rcv (c : Dev nD) (x : Hx) :
    tallyOn (rcv x c) (launchCredit (Pipeline.owing O₀) 0 (rcv x c)) = (tallyAt (rcv x c) () (N x.2.1) : CellTallies nD τ sig Unit) := by
  unfold tallyAt
  refine congrArg _ (Finsupp.ext fun u => ?_)
  cases u
  rw [Pipeline.launchCredit_owing, Finsupp.single_eq_same, Finset.sum_congr rfl fun d _ => at_rcv d c x,
    Finset.sum_ite_eq' Finset.univ (tgt (!x.1) c) fun _ => N x.2.1, if_pos (Finset.mem_univ _)]

def rcvEmb : Hx ↪ SemLoc sig := ⟨fun x => osem (x, false), fun _ _ h => congrArg Prod.fst (osem_inj h)⟩

/-- A device's share of the launch credit, as it uses it. -/
theorem credits_of (c : Dev nD) : (Pipeline.launchCred O₀ c : sProp 𝕄) ⊢ credits c := by
  unfold Pipeline.launchCred credits
  rw [bigSep_univ_at _ (SemLoc.reg barrier0), credit_bar]
  refine sep_mono_right ?_
  have hs : Finset.univ.map rcvEmb ⊆ Finset.univ.erase (SemLoc.reg barrier0 : SemLoc sig) := fun q hq => by
    obtain ⟨x, -, rfl⟩ := Finset.mem_map.mp hq
    exact Finset.mem_erase.mpr ⟨osem_ne_bar (x, false), Finset.mem_univ _⟩
  refine (BI.bigSep_subset hs).trans (show BIBase.Entails (PROP := sProp 𝕄) _ _ from Entails.of_eq ?_)
  rw [bigSep_map]
  exact BI.bigSep_congr fun x _ => congrArg cred (credit_rcv c x)

end Cert.KernelIdeal.Talk
-- ==== Proof.KernelIdeal.Launch.lean ====
/-
  The run: every execution of the program ends, with the arguments as they were, the output what the
  devices' arrays make it, and every semaphore at zero.
-/
module

public import proofs.«01_k».proof.Proof.KernelIdeal.Fund

@[expose] public section

set_option maxRecDepth 65536

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The launch's resources -/

/-- What the launch allocates of all the devices' cells and rights. -/
def talkU : UB := launchOf barCells xferCells allToks

def u₀ : UU :=
  (initOf (Pipeline.cells (Pipeline.pin (pcfgs (F := F)) adm) cellOf_inj) (Pipeline.launchToks (Pipeline.pin (pcfgs (F := F)) adm) cellOf_inj), talkU)

/-- All of it is given to device 0, to be dealt out before the program starts. -/
def G (c : Dev nD) : sProp 𝕄 := if c = 0 then BI.own (ER talkU) else iprop(emp)

theorem G_all : bigSep Finset.univ (G (F := F)) = BI.own (ER talkU) := by
  have h0 : (G 0 : sProp 𝕄) = BI.own (ER talkU) := if_pos rfl
  rw [bigSep_univ_at _ (0 : Dev nD), h0, BI.bigSep_congr (Φ := G) (s := Finset.univ.erase (0 : Dev nD)) (Ψ := fun _ => (BI.emp : sProp 𝕄))
    fun c hc => (if_neg (Finset.ne_of_mem_erase hc) : G c = _), BI.bigSep_emp_const]
  exact BI.equiv_iff.mp sep_emp

/-- What every device may know: the cells' invariants, and that the barriers' payments may start. -/
def shared (K : GSem nD τ sig → ℕ) : sProp 𝕄 :=
  iprop(invs (arrA m) K ∗ bigSep Finset.univ fun c : Dev nD => reached ER (barCell c) 0)

instance shared_persistent (K : GSem nD τ sig → ℕ) : BI.Persistent (shared m K) := by unfold shared; infer_instance

theorem reached_bar (c : Dev nD) : (bigSep Finset.univ fun c : Dev nD => (reached ER (barCell c) 0 : sProp 𝕄)) ⊢ reached ER (barCell c) 0 :=
  bigSep_elim (Finset.mem_univ c)

/-- What a device has of its own besides what it is dealt. -/
def own0 (c : Dev nD) : sProp 𝕄 :=
  iprop(StableHlo.held (c : Thread nD τ) (Pipeline.ucRefs τ sig) (V0 m c) ∗ credits c ∗ (∃ r, prngReg c r) ∗ ∃ W, owes (c : Thread nD τ) (O₀ c) W)

theorem start_one (K : GSem nD τ sig → ℕ) (c : Dev nD) : iprop(shared m K ∗ (dealt c ∗ own0 m c)) ⊢ (hostSeg m).pre c := by
  show _ ⊢ iprop(StableHlo.held (c : Thread nD τ) (Pipeline.ucRefs τ sig) (V0 m c) ∗ ride m c)
  unfold shared own0 ride Tk
  iintro ⟨⟨#HI, #HR⟩, Hd, Hh, Hc, Hp, HO⟩
  isplitl [Hh]; · iexact Hh
  isplitl [Hp]; · iexact Hp
  isplitr [HO]
  · isplitr
    · isplitr
      · iexists K; iexact HI
      isplitr
      · iapply (reached_bar (F := F) (prv c)); iexact HR
      iapply (reached_bar (F := F) (nxt c)); iexact HR
    isplitl [Hd]; · iexact Hd
    iexact Hc
  iexact HO

theorem dma_scoped : ∀ q : DmaSem sig, (SemLoc.dma q : SemLoc sig).isScoped .tc = true := by decide +kernel
theorem reg_bar : ∀ q, (SemLoc.reg q : SemLoc sig) = .reg barrier0 := by decide +kernel
theorem bar_unscoped : (SemLoc.reg barrier0 : SemLoc sig).isScoped .tc = false := by decide +kernel

/-- The barrier's is the one semaphore that is not the kernel's own. -/
theorem unscoped_bar : ∀ sm : SemLoc sig, sm.isScoped .tc = false → sm = .reg barrier0
  | .reg q, _ => reg_bar q
  | .dma q, h => by rw [dma_scoped q] at h; cases h

theorem unscoped_sems (c : Dev nD) : (unscopedSems0 c : sProp 𝕄) = semVal (barCell c) 0 := by
  unfold unscopedSems0
  have h : (Finset.univ.filter fun sm : SemLoc sig => ¬ sm.isScoped .tc) = {SemLoc.reg barrier0} := Finset.ext fun sm => by
    rw [Finset.mem_filter, Finset.mem_singleton]
    refine ⟨fun h => unscoped_bar sm (by simpa using h.2), fun h => ⟨Finset.mem_univ _, ?_⟩⟩
    rw [h, bar_unscoped]; decide
  rw [h, BI.bigSep_singleton]

/-- One device's resources at launch. -/
theorem device_start (c : Dev nD) :
    iprop(unscopedBufs c (fun b => m ((c : Thread nD τ).loc b)) ∗ unscopedSems0 c ∗ owes (c : Thread nD τ) (O₀ c) ∅
        ∗ Pipeline.launchCred O₀ c ∗ prngReg c (ρ c) ∗ G c)
      ⊢ (iprop(own0 m c ∗ (semVal (barCell c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscoped_sems]
  unfold own0
  iintro ⟨Hh, Hs, HO, Hc, Hp, HG⟩
  ihave Hc := (credits_of (F := F) c) $$ Hc
  isplitr [Hs HG]
  · isplitl [Hh]; · iexact Hh
    isplitl [Hc]; · iexact Hc
    isplitl [Hp]; · iexists (ρ c); iexact Hp
    iexists ∅; iexact HO
  isplitl [Hs]; · iexact Hs
  iexact HG

/-- The cells' invariants, by device. -/
theorem invs_of (K : GSem nD τ sig → ℕ) :
    (bigSep (barCells ∪ xferCells) fun g => (cellInv ER (sched (arrA m)) (K g) g : sProp 𝕄)) ⊢ invs (arrA m) K := by
  unfold invs
  rw [BI.bigSep_union cells_disjoint, bigSep_map, bigSep_map]
  exact BI.Entails.refl _

theorem deal {Φ Ψ : Dev nD → sProp 𝕄} :
    iprop(bigSep Finset.univ Φ ∗ bigSep Finset.univ Ψ) ⊢ bigSep Finset.univ fun c => iprop(Φ c ∗ Ψ c) := Entails.of_eq (bigSep_sep' ..).symm
theorem gather {Φ Ψ : Dev nD → sProp 𝕄} :
    (bigSep Finset.univ fun c => iprop(Φ c ∗ Ψ c)) ⊢ iprop(bigSep Finset.univ Φ ∗ bigSep Finset.univ Ψ) := Entails.of_eq (bigSep_sep' ..)

/-- The rights are dealt out. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (hostSeg m).pre : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hr : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep xferCells (fun g => (openTok ER g : sProp 𝕄))
      ⊢ bigSep Finset.univ (fun c : Dev nD => bigSep Finset.univ fun y : Cx => (openTok ER (cell y c) : sProp 𝕄)) :=
    Entails.of_eq (by rw [bigSep_map, bigSep_univ_prod]; rfl)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(own0 m c ∗ (semVal (barCell c) 0 ∗ G c)) : sProp 𝕄) from
    bigSep_mono fun c _ => device_start m ρ c) $$ H
  ihave H := gather $$ H
  icases H with ⟨HB, H⟩
  ihave H := gather $$ H
  icases H with ⟨Hv, HG⟩
  ihave Hu := (show bigSep Finset.univ (G (F := F)) ⊢ BI.own (ER (launchOf barCells xferCells allToks)) from Entails.of_eq G_all) $$ HG
  imod (Rounds.fund_launch ER (sched (arrA m)) cells_disjoint (fun g _ h => h) allToks) $$ [Hv Hu] with ⟨%K, -, #HI, #HR, Hat, Hop, Htk⟩
  · isplitl [Hv]
    · iapply hv $$ Hv
    iexact Hu
  imodintro
  iapply (bigSep_with_persistent (R := shared m K) (Φ := fun c => iprop(dealt c ∗ own0 m c)) fun c _ => start_one m K c)
  isplitr
  · unfold shared
    isplitr
    · iapply (invs_of m K); iexact HI
    iapply hr; iexact HR
  iapply deal
  isplitr [HB]
  · ihave Htk := (toks_dealt (F := F)) $$ Htk
    ihave Htk := gather $$ Htk
    icases Htk with ⟨Hb, Ht⟩
    unfold dealt
    iapply deal; isplitl [Hat]; · iapply hat $$ Hat
    iapply deal; isplitl [Hb]; · iexact Hb
    iapply deal; isplitl [Hop]; · iapply hop $$ Hop
    iexact Ht
  iexact HB

/-! ### The run -/

/-- The buffers a caller sees: the arguments and the output. -/
def seen : Fin 6 → Ref sig .tc
  | 0 => main_arg0 | 1 => main_arg1 | 2 => main_arg2 | 3 => main_arg3 | 4 => main_arg4 | 5 => main_v32

theorem seen_inj : Function.Injective seen := by decide

def seenEmb : Fin 6 ↪ DevRef τ sig := ⟨fun i => Proc.devRef .tc (seen i), fun i j h => seen_inj (by
  by_contra e
  exact StableHlo.devRef_ne_of_ne e h)⟩

theorem seen_unscoped : ∀ i, ¬ (Proc.devRef (τ := τ) .tc (seen i)).isScoped := by decide

theorem seen_sub : Finset.univ.map seenEmb ⊆ Pipeline.ucRefs τ sig := fun b hb => by
  obtain ⟨i, -, rfl⟩ := Finset.mem_map.mp hb
  exact Finset.mem_filter.mpr ⟨Finset.mem_map_of_mem _ (Finset.mem_univ (seen i)), seen_unscoped i⟩

def seenP (c : Dev nD) (V : Valuation τ sig (Elt F)) (i : Fin 6) : sProp 𝕄 :=
  ((c : Thread nD τ).loc (seen i)) ↦{fullShare} (V (Proc.devRef .tc (seen i)))

/-- Those buffers, out of all that is held. -/
theorem see (c : Dev nD) (V : Valuation τ sig (Elt F)) : (StableHlo.held (c : Thread nD τ) (Pipeline.ucRefs τ sig) V : sProp 𝕄)
    ⊢ iprop(seenP c V 0 ∗ seenP c V 1 ∗ seenP c V 2 ∗ seenP c V 3 ∗ seenP c V 4 ∗ seenP c V 5) := by
  have h : (bigSep (Finset.univ.map seenEmb) fun b => ((c : Thread nD τ).1, b) ↦{fullShare} V b : sProp 𝕄)
      = iprop(seenP c V 0 ∗ seenP c V 1 ∗ seenP c V 2 ∗ seenP c V 3 ∗ seenP c V 4 ∗ seenP c V 5) := by
    rw [bigSep_map, bigSep_univ_eq_bigSepL [(0 : Fin 6), 1, 2, 3, 4, 5] (by decide) (by decide), bigSepL_cons_cons, bigSepL_cons_cons,
      bigSepL_cons_cons, bigSepL_cons_cons, bigSepL_cons_cons, bigSepL_singleton]
    rfl
  rw [← h]
  exact BI.bigSep_subset seen_sub

/-- A buffer held reads what it holds. -/
theorem seen_read (c : Dev nD) (V : Valuation τ sig (Elt F)) (i : Fin 6) (s' : Phys nD τ sig (Elt F)) :
    iprop(SI s' ∗ seenP c V i) ⊢ (iprop(⌜s'.mem.mem ((c : Thread nD τ).loc (seen i)) = V (Proc.devRef .tc (seen i))⌝ ∗ SI s') : sProp 𝕄) := by
  unfold seenP
  iintro ⟨HSI, H⟩
  icombine HSI H gives %h
  isplitr
  · ipureintro; exact Buf.eq_of_forall_mem_univ h
  iexact HSI

theorem V2_arg (c : Dev nD) : V2 m c (Proc.devRef .tc main_arg0) = m ((c : Thread nD τ).loc main_arg0)
    ∧ V2 m c (Proc.devRef .tc main_arg1) = m ((c : Thread nD τ).loc main_arg1)
    ∧ V2 m c (Proc.devRef .tc main_arg2) = m ((c : Thread nD τ).loc main_arg2)
    ∧ V2 m c (Proc.devRef .tc main_arg3) = m ((c : Thread nD τ).loc main_arg3)
    ∧ V2 m c (Proc.devRef .tc main_arg4) = m ((c : Thread nD τ).loc main_arg4) :=
  ⟨(V2_ne m c _ (by decide)).trans (V_main_arg0 m c), (V2_ne m c _ (by decide)).trans (V_main_arg1 m c), (V2_ne m c _ (by decide)).trans (V_main_arg2 m c),
    (V2_ne m c _ (by decide)).trans (V_main_arg3 m c), (V2_ne m c _ (by decide)).trans (V_main_arg4 m c)⟩

set_option backward.isDefEq.respectTransparency.types false in
/-- Every execution ends; then on every device the output is `outV`, the arguments are as they were, and
    all semaphores are at zero. -/
theorem run_main : θ_run defs (onTc (τ := τ) (main (F := F))) ⟨m, fun _ => 0, ρ⟩
    (fun r => (∀ c : Dev nD, r.2.mem ((c : Thread nD τ).loc main_v32) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := (hostSeg m).pre) (Tₙ := Tn m)
    (hch := ⟨fun c => .rfl, fun c => region_pre m c, fun c => region_post m c⟩)
    (hinit := init m ρ)
    (QY := fun c s => (∀ i, s.mem ((c : Thread nD τ).loc (seen i)) = V2 m c (Proc.devRef .tc (seen i))) ∧ s.sem (barCell c) = 0)
    (hfin := fun c s' => by
      dsimp only [Tn]
      iintro ⟨⟨Hh, Hb⟩, HSI⟩
      ihave Hh := (see c (V2 m c)) $$ Hh
      icases Hh with ⟨H0, H1, H2, H3, H4, H5⟩
      ihave HS := (seen_read c (V2 m c) 0 s') $$ [HSI H0]
      · isplitl [HSI]; · iexact HSI
        iexact H0
      icases HS with ⟨%h0, HSI⟩
      ihave HS := (seen_read c (V2 m c) 1 s') $$ [HSI H1]
      · isplitl [HSI]; · iexact HSI
        iexact H1
      icases HS with ⟨%h1, HSI⟩
      ihave HS := (seen_read c (V2 m c) 2 s') $$ [HSI H2]
      · isplitl [HSI]; · iexact HSI
        iexact H2
      icases HS with ⟨%h2, HSI⟩
      ihave HS := (seen_read c (V2 m c) 3 s') $$ [HSI H3]
      · isplitl [HSI]; · iexact HSI
        iexact H3
      icases HS with ⟨%h3, HSI⟩
      ihave HS := (seen_read c (V2 m c) 4 s') $$ [HSI H4]
      · isplitl [HSI]; · iexact HSI
        iexact H4
      icases HS with ⟨%h4, HSI⟩
      ihave HS := (seen_read c (V2 m c) 5 s') $$ [HSI H5]
      · isplitl [HSI]; · iexact HSI
        iexact H5
      icases HS with ⟨%h5, HSI⟩
      icombine HSI Hb gives %hb
      imodintro
      isplitr
      · ipureintro
        refine ⟨fun i => ?_, by simpa using hb⟩
        fin_cases i
        · exact h0
        · exact h1
        · exact h2
        · exact h3
        · exact h4
        · exact h5
      iexact HSI)
    (hQ := fun s h hs => ⟨fun c => by
        obtain ⟨a0, a1, a2, a3, a4⟩ := V2_arg m c
        exact ⟨((h c).1 5).trans (V2_out m c), ((h c).1 0).trans a0, ((h c).1 1).trans a1, ((h c).1 2).trans a2, ((h c).1 3).trans a3, ((h c).1 4).trans a4⟩,
      sem_eq_zero hs fun c sm hsm => by
        obtain rfl := unscoped_bar sm hsm
        exact (h c).2⟩)

end Cert.KernelIdeal.Talk
-- ==== Proof.Value.Model.lean ====
/-
  The mathematics of the two programs over the extended reals: a row's quantisation, and the softmax of
  one query's scores over all the keys with and without the largest score taken off.
-/
module

public import Idealize.ShloMosaic.PureOps.Ideal.Laws
public import Idealize.ShloMosaic.Lib.IdealHost

@[expose] public section

noncomputable section

namespace Cert.Model

open Idealize.ShloMosaic
open scoped BigOperators

/-! ### Sums of reals -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe_coe (x : ℝ) {y : ℝ} (h : y ≠ 0) : Ideal.div (x : EReal) (y : EReal) = ((x / y : ℝ) : EReal) := by
  rw [Ideal.div_coe h, ← EReal.coe_mul, mul_one_div]

/-! ### A row's quantisation -/

/-- The largest magnitude of a row over 127, plus a small positive number. -/
def scaleOf (g : Fin 256 → EReal) : EReal :=
  Ideal.div (Finset.univ.fold max (Ideal.ofBits .f32 4286578688#32) fun x => FloatOps.absf (F := Ideal) (φ := .f32) (g x))
    (Ideal.ofBits .f32 1123942400#32) + Ideal.ofBits .f32 730643660#32

/-- An entry over the row's scale, rounded to the nearest integer between −127 and 127. -/
def codeOf (g : Fin 256 → EReal) (k : Fin 256) : BitVec 8 :=
  BitVec.setWidth 8 (FloatOps.fptosi (F := Ideal) (φ := .f32) 32
    (min (FloatOps.sitofp (F := Ideal) .f32 127#32) (max (FloatOps.sitofp (F := Ideal) .f32 4294967169#32)
      (Ideal.liftRound Ideal.roundHalfEven (Ideal.div (g k) (scaleOf g))))))

/-- The code as a real. -/
def lev (g : Fin 256 → EReal) (k : Fin 256) : ℝ := ((codeOf g k).toInt : ℝ)

theorem ofBits_127 : Ideal.ofBits .f32 1123942400#32 = ((127 : ℝ) : EReal) := by
  simp [Ideal.ofBits, Ideal.ieee, -EReal.coe_mul]; norm_num

theorem ofBits_eps : ∃ e : ℝ, 0 < e ∧ Ideal.ofBits .f32 730643660#32 = (e : EReal) := by
  refine ⟨_, ?_, by simp [Ideal.ofBits, Ideal.ieee, -EReal.coe_mul]; rfl⟩
  positivity

theorem ofBits_eighth : Ideal.ofBits .f32 1040187392#32 = ((0.125 : ℝ) : EReal) := by
  simp [Ideal.ofBits, Ideal.ieee, -EReal.coe_mul]; norm_num

theorem ofBits_bot : Ideal.ofBits .f32 4286578688#32 = ⊥ := by
  simp [Ideal.ofBits, Ideal.ieee]

theorem scaleOf_ne_bot (g : Fin 256 → EReal) : scaleOf g ≠ ⊥ := by
  obtain ⟨e, he, h⟩ := ofBits_eps
  unfold scaleOf
  rw [h, ofBits_127, Ideal.div_coe (by norm_num)]
  have h0 : (0 : EReal) ≤ Finset.univ.fold max (Ideal.ofBits .f32 4286578688#32) fun x => FloatOps.absf (F := Ideal) (φ := .f32) (g x) := by
    refine (Finset.le_fold_max 0).2 (Or.inr ⟨0, Finset.mem_univ _, ?_⟩)
    show (0 : EReal) ≤ max (g 0) (-g 0)
    rcases le_total 0 (g 0) with h | h
    · exact le_max_of_le_left h
    · exact le_max_of_le_right (EReal.neg_nonneg.2 h)
  have h1 : (0 : EReal) ≤ (Finset.univ.fold max (Ideal.ofBits .f32 4286578688#32) fun x => FloatOps.absf (F := Ideal) (φ := .f32) (g x)) * ((1 / 127 : ℝ) : EReal) :=
    mul_nonneg h0 (by exact_mod_cast (by norm_num : (0 : ℝ) ≤ 1 / 127))
  exact (lt_of_lt_of_le (EReal.bot_lt_coe 0) (add_nonneg h1 (by exact_mod_cast he.le))).ne'

theorem lev_top (g : Fin 256 → EReal) (k : Fin 256) (h : scaleOf g = ⊤) : lev g k = 0 := by
  have h0 : codeOf g k = 0#8 := by
    unfold codeOf
    rw [h, show Ideal.div (g k) ⊤ = ((0 : ℝ) : EReal) by simp [Ideal.div], Ideal.liftRound_coe,
      show FloatOps.sitofp (F := Ideal) .f32 127#32 = ((127 : ℝ) : EReal) by
        exact congrArg (fun z : ℤ => (((z : ℝ)) : EReal)) (by decide : (127#32).toInt = 127),
      show FloatOps.sitofp (F := Ideal) .f32 4294967169#32 = ((-127 : ℝ) : EReal) by
        exact (congrArg (fun z : ℤ => (((z : ℝ)) : EReal)) (by decide : (4294967169#32).toInt = -127)).trans (by norm_num)]
    rw [show Ideal.roundHalfEven 0 = 0 by simp [Ideal.roundHalfEven]]
    rw [max_eq_right (by exact_mod_cast (by norm_num : (-127 : ℝ) ≤ ((0 : ℤ) : ℝ))),
      min_eq_right (by exact_mod_cast (by norm_num : ((0 : ℤ) : ℝ) ≤ (127 : ℝ)))]
    show BitVec.setWidth 8 (Ideal.fptosi 32 _) = _
    rw [Ideal.fptosi, Ideal.toIntClamped_coe]
    simp
  unfold lev
  rw [h0]
  simp

/-- A code times its scale is a real: where the scale is not one, the code is zero. -/
theorem lev_mul_scale (g : Fin 256 → EReal) (k : Fin 256) :
    ((lev g k : ℝ) : EReal) * scaleOf g = ((lev g k * (scaleOf g).toReal : ℝ) : EReal) := by
  by_cases h : scaleOf g = ⊤
  · rw [lev_top g k h, h]; simp
  · rw [EReal.coe_mul, EReal.coe_toReal h (scaleOf_ne_bot g)]

/-! ### Scores -/

/-- The kernel's score, -/
theorem score_kernel (Q : Fin 64 → ℝ) (g : Fin 256 → EReal) (c : Fin 64 → Fin 256) :
    (∑ d, ((Q d : ℝ) : EReal) * ((0.125 : ℝ) : EReal) * ((lev g (c d) : ℝ) : EReal)) * scaleOf g
      = ((∑ d, Q d * (lev g (c d) * (scaleOf g).toReal) : ℝ) * 0.125 : ℝ) := by
  by_cases h : scaleOf g = ⊤
  · simp [lev_top g _ h]
  · rw [← EReal.coe_toReal h (scaleOf_ne_bot g), EReal.toReal_coe]
    simp only [← EReal.coe_mul, coe_sum]
    congr 1
    rw [Finset.sum_mul, Finset.sum_mul]
    exact Finset.sum_congr rfl fun d _ => by ring

/-- and the reference's. -/
theorem score_reference (Q : Fin 64 → ℝ) (g : Fin 256 → EReal) (c : Fin 64 → Fin 256) :
    (∑ d, ((Q d : ℝ) : EReal) * (((lev g (c d) : ℝ) : EReal) * scaleOf g)) * ((0.125 : ℝ) : EReal)
      = ((∑ d, Q d * (lev g (c d) * (scaleOf g).toReal) : ℝ) * 0.125 : ℝ) := by
  simp only [lev_mul_scale, ← EReal.coe_mul, coe_sum]

/-! ### The softmax -/

section Softmax
variable {ι : Type} [Fintype ι] (p : ι → Prop) [DecidablePred p] (s v : ι → ℝ)

/-- Taking the largest score off changes nothing. -/
theorem softmax (i₀ : ι) (h₀ : p i₀) :
    Ideal.div (∑ k, (if p k then Ideal.exp (s k : EReal) else 0) * (v k : EReal)) (∑ k, if p k then Ideal.exp (s k : EReal) else 0)
      = ∑ k, (v k : EReal) * Ideal.div
          (Ideal.exp ((if p k then (s k : EReal) else ⊥) - Finset.univ.fold max ⊥ fun j => if p j then (s j : EReal) else ⊥))
          (∑ k', Ideal.exp ((if p k' then (s k' : EReal) else ⊥) - Finset.univ.fold max ⊥ fun j => if p j then (s j : EReal) else ⊥)) := by
  obtain ⟨M, hM⟩ : ∃ M : ℝ, (Finset.univ.fold max ⊥ fun j => if p j then (s j : EReal) else ⊥) = (M : EReal) := by
    have hb : (Finset.univ.fold max ⊥ fun j => if p j then (s j : EReal) else ⊥) ≠ ⊥ := by
      refine (lt_of_lt_of_le (EReal.bot_lt_coe (s i₀)) ((Finset.le_fold_max _).2 (Or.inr ⟨i₀, Finset.mem_univ _, ?_⟩))).ne'
      rw [if_pos h₀]
    have ht : (Finset.univ.fold max ⊥ fun j => if p j then (s j : EReal) else ⊥) ≠ ⊤ := by
      refine ((Finset.fold_max_lt _).2 ⟨bot_lt_top, fun j _ => ?_⟩).ne
      split
      · exact EReal.coe_lt_top _
      · exact bot_lt_top
    exact ⟨_, (EReal.coe_toReal ht hb).symm⟩
  rw [hM]
  set w : ι → ℝ := fun k => if p k then Real.exp (s k) else 0 with hw
  have e1 : ∀ k, (if p k then Ideal.exp (s k : EReal) else 0) = (w k : EReal) := fun k => by
    rw [hw]; dsimp only; split <;> simp
  have e2 : ∀ k, Ideal.exp ((if p k then (s k : EReal) else ⊥) - (M : EReal)) = ((w k * Real.exp (-M) : ℝ) : EReal) := fun k => by
    rw [hw]; dsimp only; split
    · rw [← EReal.coe_sub, Ideal.exp_coe, ← Real.exp_add, sub_eq_add_neg]
    · rw [EReal.bot_sub, Ideal.exp_bot, zero_mul, EReal.coe_zero]
  simp only [e1, e2, ← EReal.coe_mul, coe_sum]
  have hpos : 0 < ∑ k, w k := by
    refine Finset.sum_pos' (fun k _ => ?_) ⟨i₀, Finset.mem_univ _, ?_⟩
    · rw [hw]; dsimp only; split
      · exact (Real.exp_pos _).le
      · exact le_rfl
    · rw [hw]; dsimp only; rw [if_pos h₀]; exact Real.exp_pos _
  rw [← Finset.sum_mul, div_coe_coe _ hpos.ne']
  have hE := Real.exp_pos (-M)
  simp only [div_coe_coe _ (mul_pos hpos hE).ne', ← EReal.coe_mul, coe_sum]
  congr 1
  rw [Finset.sum_div]
  refine Finset.sum_congr rfl fun k _ => ?_
  field_simp

end Softmax

end Cert.Model
-- ==== Proof.Value.RefRow.lean ====
/-
  The reference at an index: the scales and the codes of its keys and values.
-/
module

public import proofs.«01_k».proof.Proof.Gen.ReferenceIdeal.Run
public import proofs.«01_k».proof.Proof.Value.Model
public import Idealize.ShloMosaic.Lib.Tactic.CleanTypes
public import Idealize.ShloMosaic.Lib.Pointwise

@[expose] public section

set_option maxRecDepth 65536

noncomputable section

namespace Cert.ReferenceIdeal.Value

open Cert.ReferenceIdeal.Gen
open Idealize.ShloMosaic Idealize.ShloMosaic.TcCoe
open Cert.Model

variable (X : Valuation τ sig (Elt Ideal))

/-- A row of the keys, and of the values. -/
def kRow (b : Fin 2) (j : Fin 8192) (f : Fin 256) : EReal := X (Proc.devRef .tc main_arg2) (ix4 b j ⟨f.val / 64, by omega⟩ ⟨f.val % 64, by omega⟩ : S2x8192x4x64.Idx)
def vRow (b : Fin 2) (j : Fin 8192) (f : Fin 256) : EReal := X (Proc.devRef .tc main_arg3) (ix4 b j ⟨f.val / 64, by omega⟩ ⟨f.val % 64, by omega⟩ : S2x8192x4x64.Idx)

/-- The quantisation of a key's entry, and of a value's, and their scales. -/
def kScale (b : Fin 2) (j : Fin 8192) : EReal := res_main_v7 X (ix3 b j 0 : S2x8192x1.Idx)
def vScale (b : Fin 2) (j : Fin 8192) : EReal := res_main_v26 X (ix3 b j 0 : S2x8192x1.Idx)

theorem kFlat (b : Fin 2) (j : Fin 8192) (f : Fin 256) : res_main_v0 X (ix3 b j f : S2x8192x256.Idx) = kRow X b j f := by
  unfold res_main_v0
  clean_types
  pointwise
  rfl

theorem vFlat (b : Fin 2) (j : Fin 8192) (f : Fin 256) : res_main_v19 X (ix3 b j f : S2x8192x256.Idx) = vRow X b j f := by
  unfold res_main_v19
  clean_types
  pointwise
  rfl

theorem kScale_eq (b : Fin 2) (j : Fin 8192) : kScale X b j = scaleOf (kRow X b j) := by
  unfold kScale res_main_v7 res_main_v0
  clean_types
  pointwise
  unfold scaleOf kRow
  rfl

theorem vScale_eq (b : Fin 2) (j : Fin 8192) : vScale X b j = scaleOf (vRow X b j) := by
  unfold vScale res_main_v26 res_main_v19
  clean_types
  pointwise
  unfold scaleOf vRow
  rfl

/-- A code read back as a float is the code. -/
theorem sitofp_code (b : BitVec 8) : FloatOps.sitofp (F := Ideal) .f32 (BitVec.signExtend 32 b) = ((b.toInt : ℝ) : EReal) := by
  show (((BitVec.signExtend 32 b).toInt : ℝ) : EReal) = _
  rw [BitVec.toInt_signExtend_of_le (by decide)]

/-- The quantisation of an entry, as the reference writes it. -/
theorem quantised (g : Fin 256 → EReal) (f : Fin 256) (x s : EReal) (hx : x = g f) (hs : s = scaleOf g) :
    FloatOps.sitofp (F := Ideal) .f32 (BitVec.signExtend 32 (BitVec.setWidth 8 (FloatOps.fptosi (F := Ideal) (φ := .f32) 32
      (min (FloatOps.sitofp (F := Ideal) .f32 127#32) (max (FloatOps.sitofp (F := Ideal) .f32 4294967169#32)
        (Ideal.liftRound Ideal.roundHalfEven (Ideal.div x s))))))) = ((lev g f : ℝ) : EReal) := by
  subst hx hs
  exact sitofp_code _

end Cert.ReferenceIdeal.Value
-- ==== Proof.Value.RefMask.lean ====
/-
  The reference's mask at an index: a query sees a key when their blocks of 64 agree modulo 4.
-/
module

public import proofs.«01_k».proof.Proof.Gen.ReferenceIdeal.Run
public import Idealize.ShloMosaic.Lib.Tactic.CleanTypes
public import Idealize.ShloMosaic.Lib.Pointwise
public import Idealize.ShloMosaic.Lib.Routing.OpsOrder

@[expose] public section

set_option maxRecDepth 65536

noncomputable section

namespace Cert.ReferenceIdeal.Value

open Cert.ReferenceIdeal.Gen
open Idealize.ShloMosaic Idealize.ShloMosaic.TcCoe

variable (X : Valuation τ sig (Elt Ideal))

/-- A word over 64, rounded down, as the reference writes it. -/
def over64 (i : Fin 8192) : BitVec 32 :=
  Scalar.select (IntOp.andi (IntOp.cmpi .ne (if BitVec.ofNat 32 i.val = 0 then (0 : BitVec 32) else if (BitVec.ofNat 32 i.val).msb = true then -1 else 1)
      (if 64#32 = 0 then (0 : BitVec 32) else if (64#32).msb = true then -1 else 1)) (IntOp.cmpi .ne (IntOp.remsi .host (BitVec.ofNat 32 i.val) 64#32) 0#32))
    (IntOp.subi (IntOp.divsi .host (BitVec.ofNat 32 i.val) 64#32) 1#32) (IntOp.divsi .host (BitVec.ofNat 32 i.val) 64#32)

theorem over64_eq : ∀ i : Fin 8192, over64 i = BitVec.ofNat 32 (i.val / 64) := by decide +kernel

theorem block_q (i : Fin 8192) : res_main_v42 X (ix2 i 0 : S8192x1.Idx) = BitVec.ofNat 32 (i.val / 64) := by
  refine Eq.trans ?_ (over64_eq i)
  unfold res_main_v42 res_main_call4_v2 res_main_call4_v0 res_main_v40
  clean_types
  pointwise
  rfl

theorem block_k (j : Fin 8192) : res_main_v45 X (ix2 0 j : S1x8192.Idx) = BitVec.ofNat 32 (j.val / 64) := by
  refine Eq.trans ?_ (over64_eq j)
  unfold res_main_v45 res_main_call5_v2 res_main_call5_v0 res_main_v43
  clean_types
  pointwise
  rfl

theorem four : res_main_call6_v2 X ix0 = 4#32 := by
  unfold res_main_call6_v2 res_main_call6_v0
  clean_types
  pointwise
  rfl
theorem four' : res_main_call7_v2 X ix0 = 4#32 := by
  unfold res_main_call7_v2 res_main_call7_v0
  clean_types
  pointwise
  rfl

/-- A word's remainder by 4, as the reference writes it. -/
def mod4 (q : BitVec 32) : BitVec 32 :=
  Scalar.select (IntOp.andi (IntOp.cmpi .ne (IntOp.cmpi .slt (IntOp.remsi .host q 4#32) 0#32) (IntOp.cmpi .slt 4#32 0#32))
    (IntOp.cmpi .ne (IntOp.remsi .host q 4#32) 0#32)) (IntOp.addi (IntOp.remsi .host q 4#32) 4#32) (IntOp.remsi .host q 4#32)

theorem mod4_eq : ∀ q : Fin 128, mod4 (BitVec.ofNat 32 q.val) = BitVec.ofNat 32 (q.val % 4) := by decide +kernel

theorem sees_eq : ∀ q k : Fin 128, IntOp.ori (IntOp.cmpi .eq (BitVec.ofNat 32 q.val) (BitVec.ofNat 32 k.val))
    (IntOp.cmpi .eq (BitVec.ofNat 32 (k.val % 4)) (BitVec.ofNat 32 (q.val % 4))) = if q.val % 4 = k.val % 4 then 1#1 else 0#1 := by decide +kernel

theorem mod4_k (j : Fin 8192) : res_main_call6_v4 X (ix2 0 j : S1x8192.Idx) = IntOp.remsi .host (BitVec.ofNat 32 (j.val / 64)) 4#32 := by
  unfold res_main_call6_v4
  clean_types
  pointwise
  rw [block_k, four]
theorem mod4_q (i : Fin 8192) : res_main_call7_v4 X (ix2 i 0 : S8192x1.Idx) = IntOp.remsi .host (BitVec.ofNat 32 (i.val / 64)) 4#32 := by
  unfold res_main_call7_v4
  clean_types
  pointwise
  rw [block_q, four']

theorem sees_at (i j : Fin 8192) : res_main_v54 X (ix2 i j : S8192x8192.Idx) = if i.val / 64 % 4 = j.val / 64 % 4 then 1#1 else 0#1 := by
  have hq := mod4_eq ⟨i.val / 64, by omega⟩
  have hk := mod4_eq ⟨j.val / 64, by omega⟩
  refine Eq.trans ?_ (sees_eq ⟨i.val / 64, by omega⟩ ⟨j.val / 64, by omega⟩)
  rw [← hq, ← hk]
  unfold res_main_v54
  clean_types
  pointwise
  rw [block_q, block_k, mod4_k, mod4_q, four, four']
  rfl

/-- Every query sees the key of its own position. -/
theorem keeps_at (i : Fin 8192) : res_main_v65 X (ix1 i : S8192.Idx) = 1#1 := by
  unfold res_main_v65
  clean_types
  pointwise
  refine (Idealize.ShloMosaic.Routing.fold_ori _ _).2 ⟨i, Finset.mem_univ _, ?_⟩
  rw [sees_at, if_pos rfl]

end Cert.ReferenceIdeal.Value
-- ==== Proof.Value.RefOut.lean ====
/-
  The reference's result at an index: the scores, their softmax, and the two products after it.
-/
module

public import proofs.«01_k».proof.Proof.Value.RefRow
public import proofs.«01_k».proof.Proof.Value.RefMask

@[expose] public section

set_option maxRecDepth 65536

noncomputable section

namespace Cert.ReferenceIdeal.Value

open Cert.ReferenceIdeal.Gen
open Idealize.ShloMosaic Idealize.ShloMosaic.TcCoe
open Cert.Model

variable (X : Valuation τ sig (Elt Ideal))

/-- The column of head `h` in the projections. -/
def hcol (h : Fin 4) (d : Fin 64) : Fin 256 := ⟨h.val * 64 + d.val, by omega⟩

/-- The input's, the first projection's and the second's entries. -/
def xR (b : Fin 2) (i : Fin 8192) (e : Fin 512) : EReal := X (Proc.devRef .tc main_arg0) (ix3 b i e : S2x8192x512.Idx)
def wqR (e : Fin 512) (f : Fin 256) : EReal := X (Proc.devRef .tc main_arg1) (ix2 e f : S512x256.Idx)
def woR (f : Fin 256) (e : Fin 512) : EReal := X (Proc.devRef .tc main_arg4) (ix2 f e : S256x512.Idx)

/-- The score of key `j` for query `i`, −∞ where the query does not see the key. -/
def score (b : Fin 2) (h : Fin 4) (i j : Fin 8192) : EReal :=
  if i.val / 64 % 4 = j.val / 64 % 4 then
    (∑ d : Fin 64, (∑ e : Fin 512, xR X b i e * wqR X e (hcol h d)) * (((lev (kRow X b j) (hcol h d) : ℝ) : EReal) * scaleOf (kRow X b j)))
      * Ideal.ofBits .f32 1040187392#32
  else Ideal.ofBits .f32 4286578688#32

theorem score_at (b : Fin 2) (h : Fin 4) (i j : Fin 8192) : res_main_v59 X (ix4 b h i j : S2x4x8192x8192.Idx) = score X b h i j := by
  unfold res_main_v59
  clean_types
  pointwise
  rw [sees_at]
  unfold score
  by_cases hs : i.val / 64 % 4 = j.val / 64 % 4
  · rw [if_pos hs, if_pos hs]
    refine congrArg (fun z : EReal => z * Ideal.ofBits .f32 1040187392#32) (Finset.sum_congr rfl fun d _ => ?_)
    refine congrArg (fun z : EReal => _ * z) ?_
    exact congrArg₂ (fun y z : EReal => y * z) (quantised (kRow X b j) (hcol h d) _ _ (kFlat X b j (hcol h d)) (kScale_eq X b j)) (kScale_eq X b j)
  · rw [if_neg hs, if_neg hs]
    rfl

/-- The exponential of a score less the largest of the query's. -/
def expo (b : Fin 2) (h : Fin 4) (i j : Fin 8192) : EReal :=
  Ideal.exp (score X b h i j - Finset.univ.fold max (Ideal.ofBits .f32 4286578688#32) fun k => score X b h i k)

theorem expo_at (b : Fin 2) (h : Fin 4) (i j : Fin 8192) : res_main_v64 X (ix4 b h i j : S2x4x8192x8192.Idx) = expo X b h i j := by
  unfold res_main_v64
  clean_types
  pointwise
  simp only [score_at]
  rfl

/-! ### The rest, over any weights and values -/

theorem probs (w : FVec Ideal S2x4x8192x8192 .f32) (k : IVec S8192 1) (b : Fin 2) (h : Fin 4) (i j : Fin 8192) (hk : k (ix1 i) = 1#1) :
    (select (broadcastInDim S2x4x8192x8192 ![0, 1, 2, 3] bcast_S1x1x8192x1_S2x4x8192x8192_0_1_2_3 (broadcastInDim S1x1x8192x1 ![2] bcast_S8192_S1x1x8192x1_2 k)) (Host.divf w (broadcastInDim S2x4x8192x8192 ![0, 1, 2, 3] bcast_S2x4x8192x1_S2x4x8192x8192_0_1_2_3 (select (broadcastInDim S2x4x8192x1 ![0, 1, 2, 3] bcast_S1x1x8192x1_S2x4x8192x1_0_1_2_3 (broadcastInDim S1x1x8192x1 ![2] bcast_S8192_S1x1x8192x1_2 k)) (broadcastInDim S2x4x8192x1 ![0, 1, 2] bcast_S2x4x8192_S2x4x8192x1_0_1_2 (Host.reduceAdd w (constant S_ .f32 0x00000000#32) reducesTo_S2x4x8192x8192_S2x4x8192_d3 h_S_)) (broadcastInDim S2x4x8192x1 ![] bcast_S_S2x4x8192x1 (id (constant S_ .f32 0x3F800000#32)))))) (broadcastInDim S2x4x8192x8192 ![] bcast_S_S2x4x8192x8192 (id (constant S_ .f32 0x00000000#32))) : FVec Ideal S2x4x8192x8192 .f32) (ix4 b h i j)
      = Ideal.div (w (ix4 b h i j)) (∑ x : Fin 8192, w (ix4 b h i x)) := by
  pointwise
  rw [hk]
  rfl

/-- The values, dequantised. -/
theorem values (v : FVec Ideal S2x8192x256 .f32) (s : FVec Ideal S2x8192x1 .f32) (g : Fin 256 → EReal) (b : Fin 2) (j : Fin 8192) (f : Fin 256)
    (hv : v (ix3 b j f) = g f) (hs : s (ix3 b j 0) = scaleOf g) :
    (shapeCast S2x8192x4x64 (mulf (sitofp FTy.f32 (extsi 32 (trunci 8 (fptosi 32 (minimumf
        (broadcastInDim S2x8192x256 ![] bcast_S_S2x8192x256 (sitofp FTy.f32 (constantI S_ 32 127#32)))
        (maximumf (broadcastInDim S2x8192x256 ![] bcast_S_S2x8192x256 (sitofp FTy.f32 (constantI S_ 32 4294967169#32)))
          (Host.roundeven (Host.divf v (broadcastInDim S2x8192x256 ![0, 1, 2] bcast_S2x8192x1_S2x8192x256_0_1_2 s)))))) natLt_8_32) natLt_8_32))
      (broadcastInDim S2x8192x256 ![0, 1, 2] bcast_S2x8192x1_S2x8192x256_0_1_2 s)) shapeCasts_S2x8192x256_S2x8192x4x64 : FVec Ideal S2x8192x4x64 .f32)
      (ix4 b j ⟨f.val / 64, by omega⟩ ⟨f.val % 64, by omega⟩) = ((lev g f : ℝ) : EReal) * scaleOf g := by
  pointwise
  exact congrArg₂ (fun y z : EReal => y * z) (quantised g f _ _ hv hs) hs

theorem products (v : FVec Ideal S2x8192x4x64 .f32) (p : FVec Ideal S2x4x8192x8192 .f32) (wo : FVec Ideal S256x512 .f32) (b : Fin 2) (i : Fin 8192) (e : Fin 512) :
    (Host.dotGeneral dot_S2x8192x256_S256x512_S2x8192x512_2_0_01_1_n_n none (shapeCast S2x8192x256 (transpose S2x8192x4x64 [0, 3, 1, 2] (Host.dotGeneral dot_S2x8192x4x64_S2x4x8192x8192_S2x4x64x8192_1_3_3_2_02_01 none v p) transposes_S2x4x64x8192_S2x8192x4x64_0_3_1_2) shapeCasts_S2x8192x4x64_S2x8192x256) wo) (ix3 b i e)
      = ∑ f : Fin 256, (∑ j : Fin 8192, v (ix4 b j ⟨f.val / 64, by omega⟩ ⟨f.val % 64, by omega⟩) * p (ix4 b ⟨f.val / 64, by omega⟩ i j)) * wo (ix2 f e) := by
  pointwise

/-- The result. -/
def outR (b : Fin 2) (i : Fin 8192) (e : Fin 512) : EReal := val2 X (Proc.devRef .tc main_v77) (ix3 b i e : S2x8192x512.Idx)

theorem outR_sum (b : Fin 2) (i : Fin 8192) (e : Fin 512) :
    outR X b i e = ∑ f : Fin 256, (∑ j : Fin 8192, ((lev (vRow X b j) f : ℝ) : EReal) * scaleOf (vRow X b j)
      * Ideal.div (expo X b ⟨f.val / 64, by omega⟩ i j) (∑ k : Fin 8192, expo X b ⟨f.val / 64, by omega⟩ i k)) * woR X f e := by
  unfold outR
  rw [val2_main_v77]
  clean_types
  refine (products _ _ _ b i e).trans (Finset.sum_congr rfl fun f _ => ?_)
  refine congrArg (fun z : EReal => z * _) (Finset.sum_congr rfl fun j _ => ?_)
  refine congrArg₂ (fun y z : EReal => y * z) (values _ _ (vRow X b j) b j f (vFlat X b j f) (vScale_eq X b j)) ?_
  refine (probs _ _ b _ i j (keeps_at X i)).trans ?_
  simp only [expo_at]

end Cert.ReferenceIdeal.Value
-- ==== Proof.Value.Step.lean ====
/-
  One source's attention at an index: what one head's step leaves in the denominators and in the
  accumulator, read over the extended reals.
-/
module

public import proofs.«01_k».proof.Proof.KernelIdeal.Run
public import Idealize.ShloMosaic.Lib.Pointwise
public import Idealize.ShloMosaic.Lib.Pointwise.IndexBridge

@[expose] public section

set_option maxRecDepth 65536

noncomputable section

namespace Cert.KernelIdeal.Talk

open Cert.KernelIdeal.Gen
open Idealize.ShloMosaic Idealize.ShloMosaic.TcCoe

/-! ### A write of a rectangle of a buffer, at an index -/

/-- Inside the rectangle the value written is read. -/
theorem write_in {Val : EltTy → Type} (b : Ref sig .tc) (r : Rect b.ty.shape) (f : (View.whole b).ty.Contents Val)
    (w : r.shape.Idx → Val b.ty.elt) (x : r.shape.Idx) (i : b.ty.shape.Idx) (h : r.emb x = i) :
    ((View.whole b).slice r).write Val f w Finset.univ i = w x := by
  subst h
  exact View.write_emb_of_mem (v := (View.whole b).slice r) f w (Finset.mem_univ x)

/-- Outside it what was there is read. -/
theorem write_out {Val : EltTy → Type} (b : Ref sig .tc) (r : Rect b.ty.shape) (f : (View.whole b).ty.Contents Val)
    (w : r.shape.Idx → Val b.ty.elt) (i : b.ty.shape.Idx) (h : i ∉ r.set) :
    ((View.whole b).slice r).write Val f w Finset.univ i = f i :=
  View.write_of_not_mem (v := (View.whole b).slice r) f w _ fun hi => h ((mem_whole b r i).1 hi)

/-- A column of the queries' and the accumulator's buffers, by head and by position within the head. -/
def col (h : Fin 4) (d : Fin 64) : Fin 256 := ⟨64 * h.val + d.val, by omega⟩
def headOf (f : Fin 256) : Fin 4 := ⟨f.val / 64, by omega⟩
def posOf (f : Fin 256) : Fin 64 := ⟨f.val % 64, by omega⟩

theorem col_eq (f : Fin 256) : col (headOf f) (posOf f) = f := Fin.ext (by show 64 * (f.val / 64) + f.val % 64 = _; omega)

theorem emb_qa (b : Fin 2) (h : Fin 4) (i : Fin 256) (d : Fin 64) : (qaR b h).emb (ix3 0 i d : S1x256x64.Idx) = (ix3 b i (col h d) : S2x256x256.Idx) := by
  funext a
  refine Fin.ext ?_
  fin_cases a
  · show b.val + 1 * 0 = b.val; omega
  · show 0 + 1 * i.val = i.val; omega
  · show 64 * h.val + 1 * d.val = 64 * h.val + d.val; omega

theorem emb_l (b : Fin 2) (h : Fin 4) (i : Fin 256) : (lR b h).emb (ix4 0 0 i 0 : S1x1x256x1.Idx) = (ix4 b h i 0 : S2x4x256x1.Idx) := by
  funext a
  refine Fin.ext ?_
  fin_cases a
  · show b.val + 1 * 0 = b.val; omega
  · show h.val + 1 * 0 = h.val; omega
  · show 0 + 1 * i.val = i.val; omega
  · rfl

theorem read_q (q : (qM).view.ty.Contents (Elt Ideal)) (b : Fin 2) (h : Fin 4) (i : Fin 256) (d : Fin 64) :
    (qM.access (qaR b h)).read (Elt Ideal) q (ix3 0 i d : S1x256x64.Idx) = q (ix3 b i (col h d) : S2x256x256.Idx) := congrArg q (emb_qa b h i d)
theorem read_a (a : (aM).view.ty.Contents (Elt Ideal)) (b : Fin 2) (h : Fin 4) (i : Fin 256) (d : Fin 64) :
    (aM.access (qaR b h)).read (Elt Ideal) a (ix3 0 i d : S1x256x64.Idx) = a (ix3 b i (col h d) : S2x256x256.Idx) := congrArg a (emb_qa b h i d)
theorem read_l (l : (lM).view.ty.Contents (Elt Ideal)) (b : Fin 2) (h : Fin 4) (i : Fin 256) :
    (lM.access (lR b h)).read (Elt Ideal) l (ix4 0 0 i 0 : S1x1x256x1.Idx) = l (ix4 b h i 0 : S2x4x256x1.Idx) := congrArg l (emb_l b h i)

/-! ### One head's step -/

/-- The buffers' entries. -/
def qAt (q : QC Ideal) (b : Fin 2) (i f : Fin 256) : EReal := q (ix3 b i f : S2x256x256.Idx)
def aAt (a : AC Ideal) (b : Fin 2) (i f : Fin 256) : EReal := a (ix3 b i f : S2x256x256.Idx)
def lAt (l : LC Ideal) (b : Fin 2) (h : Fin 4) (i : Fin 256) : EReal := l (ix4 b h i 0 : S2x4x256x1.Idx)

variable (mask : IVec S256x256 1) (S : Src Ideal) (q : QC Ideal)

/-- A key's weight for a query. -/
def wt (b : Fin 2) (h : Fin 4) (i k : Fin 256) : EReal :=
  Scalar.select (mask (ix2 i k)) (Ideal.exp ((∑ d : Fin 64, qAt q b i (col h d) * FloatOps.sitofp (F := Ideal) .bf16 (S.k b (ix2 k (col h d)))) * S.ks b (ix2 0 k))) 0

theorem wtsAt_at (b : Fin 2) (h : Fin 4) (i k : Fin 256) : wtsAt mask S q b h (ix2 i k) = wt mask S q b h i k := by
  unfold wtsAt wts wt
  pointwise
  simp only [read_q]
  rfl

theorem stepL_at (l : LC Ideal) (b b' : Fin 2) (h h' : Fin 4) (i : Fin 256) :
    lAt (stepL mask S q l b h) b' h' i = if b' = b ∧ h' = h then lAt l b' h' i + ∑ k : Fin 256, wt mask S q b' h' i k else lAt l b' h' i := by
  unfold lAt stepL
  split
  · rename_i e
    obtain ⟨rfl, rfl⟩ := e
    refine (write_in cc0_scratch2 (lR b' h') l _ (ix4 0 0 i 0 : S1x1x256x1.Idx) _ (emb_l b' h' i)).trans ?_
    unfold newL
    pointwise
    rw [read_l]
    exact congrArg _ (Finset.sum_congr rfl fun k _ => wtsAt_at mask S q b' h' i k)
  · rename_i e
    refine write_out cc0_scratch2 (lR b h) l _ _ fun hi => e ?_
    have h0 := (Rect.mem_set_unit.mp hi) 0
    have h1 := (Rect.mem_set_unit.mp hi) 1
    have h0a : b.val ≤ b'.val := h0.1
    have h0b : b'.val < b.val + 1 := h0.2
    have h1a : h.val ≤ h'.val := h1.1
    have h1b : h'.val < h.val + 1 := h1.2
    exact ⟨Fin.ext (by omega), Fin.ext (by omega)⟩

theorem stepA_at (a : AC Ideal) (b b' : Fin 2) (h : Fin 4) (i f : Fin 256) :
    aAt (stepA mask S q a b h) b' i f = if b' = b ∧ headOf f = h
      then aAt a b' i f + ∑ k : Fin 256, wt mask S q b' (headOf f) i k * S.vs b' (ix2 0 k) * FloatOps.sitofp (F := Ideal) .f32 (S.v b' (ix2 k f)) else aAt a b' i f := by
  unfold aAt stepA
  split
  · rename_i e
    obtain ⟨rfl, rfl⟩ := e
    refine (write_in cc0_scratch1 (qaR b' (headOf f)) a _ (ix3 0 i (posOf f) : S1x256x64.Idx) _ ((emb_qa b' _ i _).trans (by rw [col_eq]))).trans ?_
    unfold newA
    pointwise
    rw [read_a, col_eq]
    refine congrArg _ (Finset.sum_congr rfl fun k _ => ?_)
    rw [wtsAt_at]
    exact congrArg (fun f' => wt mask S q b' (headOf f) i k * S.vs b' (ix2 0 k) * FloatOps.sitofp (F := Ideal) .f32 (S.v b' (ix2 k f'))) (col_eq f)
  · rename_i e
    refine write_out cc0_scratch1 (qaR b h) a _ _ fun hi => e ?_
    have h0 := (Rect.mem_set_unit.mp hi) 0
    have h1 := (Rect.mem_set_unit.mp hi) 2
    have h0a : b.val ≤ b'.val := h0.1
    have h0b : b'.val < b.val + 1 := h0.2
    have h1a : 64 * h.val ≤ f.val := h1.1
    have h1b : f.val < 64 * h.val + 64 := h1.2
    exact ⟨Fin.ext (by omega), Fin.ext (by show f.val / 64 = _; omega)⟩

/-- One head's division. -/
theorem stepD_at (l : LC Ideal) (a : AC Ideal) (b b' : Fin 2) (h : Fin 4) (i f : Fin 256) :
    aAt (stepD l a b h) b' i f = if b' = b ∧ headOf f = h
      then Ideal.div (aAt a b' i f) (lAt l b' (headOf f) i) else aAt a b' i f := by
  unfold aAt stepD
  split
  · rename_i e
    obtain ⟨rfl, rfl⟩ := e
    refine (write_in cc0_scratch1 (qaR b' (headOf f)) a _ (ix3 0 i (posOf f) : S1x256x64.Idx) _ ((emb_qa b' _ i _).trans (by rw [col_eq]))).trans ?_
    unfold k0_pay253
    pointwise
    rw [read_a, read_l, col_eq]
    rfl
  · rename_i e
    refine write_out cc0_scratch1 (qaR b h) a _ _ fun hi => e ?_
    have h0 := (Rect.mem_set_unit.mp hi) 0
    have h1 := (Rect.mem_set_unit.mp hi) 2
    have h0a : b.val ≤ b'.val := h0.1
    have h0b : b'.val < b.val + 1 := h0.2
    have h1a : 64 * h.val ≤ f.val := h1.1
    have h1b : f.val < 64 * h.val + 64 := h1.2
    exact ⟨Fin.ext (by omega), Fin.ext (by show f.val / 64 = _; omega)⟩

/-! ### A source's attention, and the division of a batch entry -/

theorem attL_at (l : LC Ideal) (b : Fin 2) (h : Fin 4) (i : Fin 256) :
    lAt (attL mask S q l) b h i = lAt l b h i + ∑ k : Fin 256, wt mask S q b h i k := by
  unfold attL
  simp only [stepL_at]
  fin_cases b <;> fin_cases h <;> simp

theorem attA_at (a : AC Ideal) (b : Fin 2) (i f : Fin 256) :
    aAt (attA mask S q a) b i f = aAt a b i f
      + ∑ k : Fin 256, wt mask S q b (headOf f) i k * S.vs b (ix2 0 k) * FloatOps.sitofp (F := Ideal) .f32 (S.v b (ix2 k f)) := by
  unfold attA
  simp only [stepA_at]
  generalize headOf f = h
  fin_cases b <;> fin_cases h <;> simp

theorem divB_at (l : LC Ideal) (a : AC Ideal) (b b' : Fin 2) (i f : Fin 256) :
    aAt (divB l a b) b' i f = if b' = b then Ideal.div (aAt a b' i f) (lAt l b' (headOf f) i) else aAt a b' i f := by
  unfold divB
  simp only [stepD_at]
  generalize headOf f = h
  by_cases e : b' = b
  · subst e
    fin_cases h <;> simp
  · simp [e]

end Cert.KernelIdeal.Talk
-- ==== Proof.Value.Device.lean ====
/-
  A device's output at an index: the sums over all the sources, the division, and the last product.
-/
module

public import proofs.«01_k».proof.Proof.Value.Step

@[expose] public section

set_option maxRecDepth 65536

noncomputable section

namespace Cert.KernelIdeal.Talk

open Cert.KernelIdeal.Gen
open Idealize.ShloMosaic Idealize.ShloMosaic.TcCoe

/-! ### The order of the sources -/

/-- The source a device takes at its `i`-th turn: its own, then one from either side by turns. -/
def ord (c : Dev nD) (i : ℕ) : Dev nD := if i = 0 then c else if i % 2 = 1 then devR c (i / 2) else devL c (i / 2 - 1)

theorem ord_inj : ∀ c : Dev nD, ∀ i j : Fin 32, ord c i = ord c j → i = j := by decide +kernel

/-- Every device's is taken once. -/
theorem sum_ord (c : Dev nD) (g : Dev nD → EReal) : ∑ i ∈ Finset.range 32, g (ord c i) = ∑ s : Dev nD, g s := by
  rw [Finset.sum_range]
  exact (Function.Injective.bijective_of_finite (f := fun i : Fin 32 => ord c i) fun i j h => ord_inj c i j h).sum_comp g

variable (A : Dev nD → (j : Kind) → (shp j).Idx → Elt Ideal (elt j)) (c : Dev nD) (q : QC Ideal)

/-- One source's share of a denominator, and of the accumulator. -/
def shareL (b : Fin 2) (h : Fin 4) (i : Fin 256) (s : Dev nD) : EReal := ∑ k : Fin 256, wt mask (srcAt (A s)) q b h i k
def shareA (b : Fin 2) (i f : Fin 256) (s : Dev nD) : EReal :=
  ∑ k : Fin 256, wt mask (srcAt (A s)) q b (headOf f) i k * (srcAt (A s)).vs b (ix2 0 k) * FloatOps.sitofp (F := Ideal) .f32 ((srcAt (A s)).v b (ix2 k f))

theorem zeroL_at (b : Fin 2) (h : Fin 4) (i : Fin 256) : lAt zeroL b h i = 0 := by
  unfold lAt zeroL k0_pay85
  pointwise

theorem emb_b (b : Fin 2) (i f : Fin 256) : (bR b).emb (ix3 0 i f : S1x256x256.Idx) = (ix3 b i f : S2x256x256.Idx) := by
  funext a
  refine Fin.ext ?_
  fin_cases a
  · show b.val + 1 * 0 = b.val; omega
  · show 0 + 1 * i.val = i.val; omega
  · show 0 + 1 * f.val = f.val; omega

theorem emb_x (b : Fin 2) (i : Fin 256) (e : Fin 512) : (xR b).emb (ix3 0 i e : S1x256x512.Idx) = (ix3 b i e : S2x256x512.Idx) := by
  funext a
  refine Fin.ext ?_
  fin_cases a
  · show b.val + 1 * 0 = b.val; omega
  · show 0 + 1 * i.val = i.val; omega
  · show 0 + 1 * e.val = e.val; omega

theorem emb_wq (e : Fin 512) (f : Fin 256) : wqR.emb (ix2 e f : S512x256.Idx) = (ix2 e f : S512x256.Idx) := by
  funext a
  refine Fin.ext ?_
  fin_cases a
  · show 0 + 1 * e.val = e.val; omega
  · show 0 + 1 * f.val = f.val; omega

theorem emb_wo (f : Fin 256) (e : Fin 512) : woR.emb (ix2 f e : S256x512.Idx) = (ix2 f e : S256x512.Idx) := by
  funext a
  refine Fin.ext ?_
  fin_cases a
  · show 0 + 1 * f.val = f.val; omega
  · show 0 + 1 * e.val = e.val; omega

/-- A batch entry's block does not meet the other's. -/
theorem not_mem_b {b b' : Fin 2} (h : b' ≠ b) (i f : Fin 256) : (ix3 b' i f : S2x256x256.Idx) ∉ (bR b).set := fun hi => h (by
  have h0 := (Rect.mem_set_unit.mp hi) 0
  have h0a : b.val ≤ b'.val := h0.1
  have h0b : b'.val < b.val + 1 := h0.2
  exact Fin.ext (by omega))
theorem not_mem_x {b b' : Fin 2} (h : b' ≠ b) (i : Fin 256) (e : Fin 512) : (ix3 b' i e : S2x256x512.Idx) ∉ (xR b).set := fun hi => h (by
  have h0 := (Rect.mem_set_unit.mp hi) 0
  have h0a : b.val ≤ b'.val := h0.1
  have h0b : b'.val < b.val + 1 := h0.2
  exact Fin.ext (by omega))

theorem initA_at (a : AC Ideal) (b b' : Fin 2) (i f : Fin 256) : aAt (initA a b) b' i f = if b' = b then 0 else aAt a b' i f := by
  unfold aAt initA
  split
  · rename_i e
    subst e
    refine (write_in cc0_scratch1 (bR b') a _ (ix3 0 i f : S1x256x256.Idx) _ (emb_b b' i f)).trans ?_
    unfold k0_pay82 k0_pay81
    pointwise
  · rename_i e
    exact write_out cc0_scratch1 (bR b) a _ _ (not_mem_b e i f)

theorem fullA_at (b : Fin 2) (i f : Fin 256) : aAt fullA b i f = 0 := by
  unfold fullA
  rw [initA_at, initA_at]
  fin_cases b <;> simp

theorem runL_at (b : Fin 2) (h : Fin 4) (i : Fin 256) (k : ℕ) :
    lAt (runL A c q k) b h i = ∑ j ∈ Finset.range (2 * k + 1), shareL A q b h i (ord c j) := by
  induction k with
  | zero => rw [runL, attL_at, zeroL_at, zero_add]; simp [shareL, ord]
  | succ k ih =>
    rw [runL, attL_at, attL_at, ih, show 2 * (k + 1) + 1 = (2 * k + 1) + 1 + 1 by omega, Finset.sum_range_succ _ (2 * k + 1 + 1), Finset.sum_range_succ _ (2 * k + 1)]
    have e1 : ord c (2 * k + 1) = devR c k := by
      unfold ord; rw [if_neg (by omega), if_pos (by omega), show (2 * k + 1) / 2 = k by omega]
    have e2 : ord c (2 * k + 1 + 1) = devL c k := by
      unfold ord; rw [if_neg (by omega), if_neg (by omega), show (2 * k + 1 + 1) / 2 - 1 = k by omega]
    rw [e1, e2]
    rfl

theorem runA_at (b : Fin 2) (i f : Fin 256) (k : ℕ) :
    aAt (runA A c q k) b i f = ∑ j ∈ Finset.range (2 * k + 1), shareA A q b i f (ord c j) := by
  induction k with
  | zero => rw [runA, attA_at, fullA_at, zero_add]; simp [shareA, ord]
  | succ k ih =>
    rw [runA, attA_at, attA_at, ih, show 2 * (k + 1) + 1 = (2 * k + 1) + 1 + 1 by omega, Finset.sum_range_succ _ (2 * k + 1 + 1), Finset.sum_range_succ _ (2 * k + 1)]
    have e1 : ord c (2 * k + 1) = devR c k := by
      unfold ord; rw [if_neg (by omega), if_pos (by omega), show (2 * k + 1) / 2 = k by omega]
    have e2 : ord c (2 * k + 1 + 1) = devL c k := by
      unfold ord; rw [if_neg (by omega), if_neg (by omega), show (2 * k + 1 + 1) / 2 - 1 = k by omega]
    rw [e1, e2]
    rfl

theorem endL_at (b : Fin 2) (h : Fin 4) (i : Fin 256) : lAt (endL A c q) b h i = ∑ s : Dev nD, shareL A q b h i s := by
  rw [endL, attL_at, runL_at, ← sum_ord c, Finset.sum_range_succ _ 31]
  rfl
theorem endA_at (b : Fin 2) (i f : Fin 256) : aAt (endA A c q) b i f = ∑ s : Dev nD, shareA A q b i f s := by
  rw [endA, attA_at, runA_at, ← sum_ord c, Finset.sum_range_succ _ 31]
  rfl

/-! ### The queries and the output -/

variable (x : XC Ideal) (w : WqC Ideal) (wo : WoC Ideal)

/-- The operands' entries. -/
def xAt (x : XC Ideal) (b : Fin 2) (i : Fin 256) (e : Fin 512) : EReal := x (ix3 b i e : S2x256x512.Idx)
def wqAt (w : WqC Ideal) (e : Fin 512) (f : Fin 256) : EReal := w (ix2 e f : S512x256.Idx)
def woAt (w : WoC Ideal) (f : Fin 256) (e : Fin 512) : EReal := w (ix2 f e : S256x512.Idx)
def oAt (o : OC Ideal) (b : Fin 2) (i : Fin 256) (e : Fin 512) : EReal := o (ix3 b i e : S2x256x512.Idx)

theorem read_x (b : Fin 2) (i : Fin 256) (e : Fin 512) :
    (xM.access (xR b)).read (Elt Ideal) x (ix3 0 i e : S1x256x512.Idx) = xAt x b i e := congrArg x (emb_x b i e)
theorem read_wq (e : Fin 512) (f : Fin 256) : (wqM.access wqR).read (Elt Ideal) w (ix2 e f : S512x256.Idx) = wqAt w e f := congrArg w (emb_wq e f)
theorem read_wo (f : Fin 256) (e : Fin 512) : (woM.access woR).read (Elt Ideal) wo (ix2 f e : S256x512.Idx) = woAt wo f e := congrArg wo (emb_wo f e)
theorem read_b (a : AC Ideal) (b : Fin 2) (i f : Fin 256) :
    (aM.access (bR b)).read (Elt Ideal) a (ix3 0 i f : S1x256x256.Idx) = aAt a b i f := congrArg a (emb_b b i f)

/-- A query: a row of the input times a column of the projection, over eight. -/
def query (b : Fin 2) (i f : Fin 256) : EReal := (∑ e : Fin 512, xAt x b i e * wqAt w e f) * Ideal.ofBits .f32 1040187392#32

theorem initQ_at (b b' : Fin 2) (i f : Fin 256) : qAt (initQ x w q b) b' i f = if b' = b then query x w b' i f else qAt q b' i f := by
  unfold qAt initQ
  split
  · rename_i e
    subst e
    refine (write_in cc0_scratch0 (bR b') q _ (ix3 0 i f : S1x256x256.Idx) _ (emb_b b' i f)).trans ?_
    unfold k0_pay80 query
    pointwise
    simp only [read_x, read_wq]
  · rename_i e
    exact write_out cc0_scratch0 (bR b) q _ _ (not_mem_b e i f)

theorem fullQ_at (b : Fin 2) (i f : Fin 256) : qAt (fullQ x w) b i f = query x w b i f := by
  unfold fullQ
  rw [initQ_at, initQ_at]
  fin_cases b <;> simp

theorem outB_at (a : AC Ideal) (o : OC Ideal) (b b' : Fin 2) (i : Fin 256) (e : Fin 512) :
    oAt (outB wo a o b) b' i e = if b' = b then ∑ f : Fin 256, aAt a b' i f * woAt wo f e else oAt o b' i e := by
  unfold oAt outB
  split
  · rename_i h
    subst h
    refine (write_in cc0_stg6_0 (xR b') o _ (ix3 0 i e : S1x256x512.Idx) _ (emb_x b' i e)).trans ?_
    unfold k0_pay2
    pointwise
    simp only [read_b, read_wo]
  · rename_i h
    exact write_out cc0_stg6_0 (xR b) o _ _ (not_mem_x h i e)

theorem outC_at (b : Fin 2) (i : Fin 256) (e : Fin 512) :
    oAt (outC A c x w wo) b i e
      = ∑ f : Fin 256, Ideal.div (∑ s : Dev nD, shareA A (fullQ x w) b i f s) (∑ s : Dev nD, shareL A (fullQ x w) b (headOf f) i s)
          * woAt wo f e := by
  unfold outC fullO
  rw [outB_at, outB_at]
  simp only [divB_at, endA_at, endL_at]
  fin_cases b <;> simp

/-! ### The mask -/

/-- The kernel's mask: the two rows lie in the same block of 64. -/
theorem mask_at (i k : Fin 256) : mask (ix2 i k) = if i.val / 64 = k.val / 64 then 1#1 else 0#1 := by
  have hb : ∀ i : Fin 256, Scalar.select
        (IntOp.andi
          (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 i.val) 64#32) 0#32))
        (IntOp.subi (IntOp.divsi ArithUnit.vector (BitVec.ofNat 32 i.val) 64#32) 1#32)
        (IntOp.divsi ArithUnit.vector (BitVec.ofNat 32 i.val) 64#32) = BitVec.ofNat 32 (i.val / 64) := by decide +kernel
  have he : ∀ a b : Fin 4, IntOp.cmpi CmpIPredicate.eq (BitVec.ofNat 32 a.val) (BitVec.ofNat 32 b.val) = if a.val = b.val then 1#1 else 0#1 := by
    decide
  unfold mask k0_pay88 k0_pay86 k0_pay87
  pointwise
  rw [hb i, hb k]
  exact he ⟨i.val / 64, by omega⟩ ⟨k.val / 64, by omega⟩

end Cert.KernelIdeal.Talk
-- ==== Proof.Value.Host.lean ====
/-
  What the kernel's function passes to the kernel, at an index: a device's input and projections as they
  are, and its codes and scales as the quantisation of its keys and values.
-/
module

public import proofs.«01_k».proof.Proof.Value.Device
public import proofs.«01_k».proof.Proof.Value.Model
public import proofs.«01_k».proof.Proof.KernelIdeal.Launch
public import Idealize.ShloMosaic.Lib.StableHlo.ReadAt
public import Idealize.ShloMosaic.Lib.Pipeline.ValueKit

@[expose] public section

set_option maxRecDepth 65536

noncomputable section

namespace Cert.KernelIdeal.Talk

open Cert.KernelIdeal.Gen
open Idealize.ShloMosaic Idealize.ShloMosaic.TcCoe
open Cert.Model

variable (m : (ℓ : Loc nD τ sig) → Buf (Elt Ideal) ℓ) (c : Dev nD)

/-- A row of a device's keys, and of its values. -/
def keyRow (b : Fin 2) (k f : Fin 256) : EReal := m ((c : Thread nD τ).loc main_arg2) (ix4 b k ⟨f.val / 64, by omega⟩ ⟨f.val % 64, by omega⟩ : S2x256x4x64.Idx)
def valRow (b : Fin 2) (k f : Fin 256) : EReal := m ((c : Thread nD τ).loc main_arg3) (ix4 b k ⟨f.val / 64, by omega⟩ ⟨f.val % 64, by omega⟩ : S2x256x4x64.Idx)

theorem codes_k (b : Fin 2) (k f : Fin 256) : V m c main_v15 (ix3 b k f : S2x256x256.Idx) = codeOf (keyRow m c b k) f := by
  unfold V
  after_reads_at
  unfold codeOf scaleOf keyRow
  rfl

theorem codes_v (b : Fin 2) (k f : Fin 256) : V m c main_v28 (ix3 b k f : S2x256x256.Idx) = codeOf (valRow m c b k) f := by
  unfold V
  after_reads_at
  unfold codeOf scaleOf valRow
  rfl

theorem scales (b : Fin 2) (r : Fin 2) (k : Fin 256) : V m c main_v31 (ix3 b r k : S2x2x256.Idx)
    = if r.val < 1 then scaleOf (keyRow m c b k) else scaleOf (valRow m c b k) := by
  unfold V
  after_reads_at
  unfold scaleOf keyRow valRow
  rfl

theorem outV_at (b : Fin 2) (i : Fin 256) (e : Fin 512) : outV m c (ix3 b i e : S2x256x512.Idx) = oAt (outB0 m c) b i e := by
  unfold outV
  have h := (dat0 m c).arrAt_eq_of_after_last 6 t0_0 (by decide +kernel) (G := outB0 m c) fun j => by
    blk_simp
    rfl
  exact congrFun h _

/-! ### The blocks the kernel reads are the whole arrays -/

theorem idx_0 (a : Fin 3) : win0_0.index t0_0 a = 0 := by revert a; decide +kernel
theorem idx_1 (a : Fin 2) : win0_1.index t0_0 a = 0 := by revert a; decide +kernel
theorem idx_2 (a : Fin 3) : win0_2.index t0_0 a = 0 := by revert a; decide +kernel
theorem idx_3 (a : Fin 3) : win0_3.index t0_0 a = 0 := by revert a; decide +kernel
theorem idx_4 (a : Fin 3) : win0_4.index t0_0 a = 0 := by revert a; decide +kernel
theorem idx_5 (a : Fin 2) : win0_5.index t0_0 a = 0 := by revert a; decide +kernel

theorem blk_0 (b : Fin 2) (i : Fin 256) (e : Fin 512) : iblk m c 0 t0_0 (ix3 b i e : S2x256x512.Idx) = m ((c : Thread nD τ).loc main_arg0) (ix3 b i e : S2x256x512.Idx) := by
  blk_ext [iblk, V, idx_0]
theorem blk_1 (e : Fin 512) (f : Fin 256) : iblk m c 1 t0_0 (ix2 e f : S512x256.Idx) = m ((c : Thread nD τ).loc main_arg1) (ix2 e f : S512x256.Idx) := by
  blk_ext [iblk, V, idx_1]
theorem blk_2 (b : Fin 2) (i f : Fin 256) : iblk m c 2 t0_0 (ix3 b i f : S2x256x256.Idx) = V m c main_v15 (ix3 b i f : S2x256x256.Idx) := by
  blk_ext [iblk, idx_2]
theorem blk_3 (b : Fin 2) (i f : Fin 256) : iblk m c 3 t0_0 (ix3 b i f : S2x256x256.Idx) = V m c main_v28 (ix3 b i f : S2x256x256.Idx) := by
  blk_ext [iblk, idx_3]
theorem blk_4 (b r : Fin 2) (k : Fin 256) : iblk m c 4 t0_0 (ix3 b r k : S2x2x256.Idx) = V m c main_v31 (ix3 b r k : S2x2x256.Idx) := by
  blk_ext [iblk, idx_4]
theorem blk_5 (f : Fin 256) (e : Fin 512) : iblk m c 5 t0_0 (ix2 f e : S256x512.Idx) = m ((c : Thread nD τ).loc main_arg4) (ix2 f e : S256x512.Idx) := by
  blk_ext [iblk, V, idx_5]

/-! ### A source's data -/

theorem src_k (b : Fin 2) (k f : Fin 256) : (srcAt (arrA m c)).k b (ix2 k f) = codeOf (keyRow m c b k) f := by
  refine Eq.trans ?_ ((blk_2 m c b k f).trans (codes_k m c b k f))
  rw [ix3_eq_valueIdx]; rfl
theorem src_v (b : Fin 2) (k f : Fin 256) : (srcAt (arrA m c)).v b (ix2 k f) = codeOf (valRow m c b k) f := by
  refine Eq.trans ?_ ((blk_3 m c b k f).trans (codes_v m c b k f))
  rw [ix3_eq_valueIdx]; rfl
theorem src_ks (b : Fin 2) (k : Fin 256) : (srcAt (arrA m c)).ks b (ix2 0 k) = scaleOf (keyRow m c b k) := by
  refine Eq.trans ?_ ((blk_4 m c b 0 k).trans (scales m c b 0 k))
  rw [ix3_eq_valueIdx]; rfl
theorem src_vs (b : Fin 2) (k : Fin 256) : (srcAt (arrA m c)).vs b (ix2 0 k) = scaleOf (valRow m c b k) := by
  refine Eq.trans ?_ ((blk_4 m c b 1 k).trans (scales m c b 1 k))
  rw [ix3_eq_valueIdx]; rfl

/-! ### The output -/

/-- The input's, the first projection's and the second's entries. -/
def xIn (b : Fin 2) (i : Fin 256) (e : Fin 512) : EReal := m ((c : Thread nD τ).loc main_arg0) (ix3 b i e : S2x256x512.Idx)
def wqIn (e : Fin 512) (f : Fin 256) : EReal := m ((c : Thread nD τ).loc main_arg1) (ix2 e f : S512x256.Idx)
def woIn (f : Fin 256) (e : Fin 512) : EReal := m ((c : Thread nD τ).loc main_arg4) (ix2 f e : S256x512.Idx)

/-- The weight of source `s`'s key `k` for a device's query `i`. -/
def weight (b : Fin 2) (h : Fin 4) (i : Fin 256) (s : Dev nD) (k : Fin 256) : EReal :=
  if i.val / 64 = k.val / 64 then
    Ideal.exp ((∑ d : Fin 64, (∑ e : Fin 512, xIn m c b i e * wqIn m c e (col h d)) * Ideal.ofBits .f32 1040187392#32
      * ((lev (keyRow m s b k) (col h d) : ℝ) : EReal)) * scaleOf (keyRow m s b k))
  else 0

theorem wt_at (b : Fin 2) (h : Fin 4) (i : Fin 256) (s : Dev nD) (k : Fin 256) :
    wt mask (srcAt (arrA m s)) (fullQ (iblk m c 0 t0_0) (iblk m c 1 t0_0)) b h i k = weight m c b h i s k := by
  unfold wt weight
  rw [mask_at, src_ks]
  simp only [src_k, fullQ_at]
  by_cases e : i.val / 64 = k.val / 64
  · rw [if_pos e, if_pos e]
    refine congrArg (fun z => Ideal.exp (z * scaleOf (keyRow m s b k))) (Finset.sum_congr rfl fun d _ => ?_)
    refine congrArg (fun z => z * Ideal.ofBits .f32 1040187392#32 * _) (Finset.sum_congr rfl fun e _ => ?_)
    unfold xAt wqAt
    rw [blk_0, blk_1]
    rfl
  · rw [if_neg e, if_neg e]
    rfl

def outAt (b : Fin 2) (i : Fin 256) (e : Fin 512) : EReal := outV m c (ix3 b i e : S2x256x512.Idx)

theorem outV_sum (b : Fin 2) (i : Fin 256) (e : Fin 512) :
    outAt m c b i e = ∑ f : Fin 256, Ideal.div
      (∑ s : Dev nD, ∑ k : Fin 256, weight m c b (headOf f) i s k * scaleOf (valRow m s b k) * ((lev (valRow m s b k) f : ℝ) : EReal))
      (∑ s : Dev nD, ∑ k : Fin 256, weight m c b (headOf f) i s k) * woIn m c f e := by
  unfold outAt
  rw [outV_at, outB0, outC_at]
  unfold shareA shareL
  simp only [wt_at, src_v, src_vs]
  refine Finset.sum_congr rfl fun f _ => ?_
  unfold woAt
  rw [blk_5]
  rfl

end Cert.KernelIdeal.Talk
-- ==== Proof.Value.Tie.lean ====
/-
  The kernel's result and the reference's are the same numbers: device `c`'s row `i` is the whole input's
  row `256 c + i`, and the 32 devices' 256 keys are the reference's 8192.
-/
module

public import proofs.«01_k».proof.Proof.Value.RefOut
public import proofs.«01_k».proof.Proof.Value.Host

@[expose] public section

noncomputable section

namespace Cert.Tie

open Idealize.ShloMosaic
open Cert.Model Cert.KernelIdeal.Talk Cert.ReferenceIdeal.Value

/-- Row `i` of device `c` among all the rows. -/
def pos (c : Fin 32) (i : Fin 256) : Fin 8192 := ⟨256 * c.val + i.val, by omega⟩

/-- A sum over the devices and their rows is one over all the rows. -/
theorem sum_pos (F : Fin 8192 → EReal) : (∑ s : Fin 32, ∑ k : Fin 256, F (pos s k)) = ∑ j : Fin 8192, F j := by
  rw [← Fintype.sum_prod_type' fun s k => F (pos s k)]
  exact Fintype.sum_equiv (finProdFinEquiv (m := 32) (n := 256)) _ F fun x => congrArg F (Fin.ext (Nat.add_comm _ _))

/-- Two rows' blocks of 64 agree modulo 4 exactly when they are the same block of their devices. -/
theorem sees_iff (c s : Fin 32) (i k : Fin 256) : i.val / 64 = k.val / 64 ↔ (pos c i).val / 64 % 4 = (pos s k).val / 64 % 4 := by
  unfold pos
  dsimp only
  omega

variable (m : (ℓ : Loc Cert.KernelIdeal.nD Cert.KernelIdeal.τ Cert.KernelIdeal.sig) → Buf (Elt Ideal) ℓ)
  (X : Valuation Cert.ReferenceIdeal.τ Cert.ReferenceIdeal.sig (Elt Ideal))

/-- The devices hold the blocks of the reference's arrays. -/
structure Holds : Prop where
  x : ∀ c b i e, xIn m c b i e = xR X b (pos c i) e
  wq : ∀ c e f, wqIn m c e f = wqR X e f
  k : ∀ c b i, keyRow m c b i = kRow X b (pos c i)
  v : ∀ c b i, valRow m c b i = vRow X b (pos c i)
  wo : ∀ c f e, woIn m c f e = woR X f e

/-- The input and the first projection are reals. -/
structure Finite : Prop where
  x : ∀ b i e, ∃ r : ℝ, xR X b i e = (r : EReal)
  wq : ∀ e f, ∃ r : ℝ, wqR X e f = (r : EReal)

variable {m X}

theorem query_real (hf : Finite X) (b : Fin 2) (i : Fin 8192) : ∃ Q : Fin 256 → ℝ, ∀ f, ∑ e : Fin 512, xR X b i e * wqR X e f = ((Q f : ℝ) : EReal) := by
  choose x hx using hf.x
  choose w hw using hf.wq
  refine ⟨fun f => ∑ e : Fin 512, x b i e * w e f, fun f => ?_⟩
  simp only [hx, hw, ← EReal.coe_mul, coe_sum]

theorem hcol_eq (h : Fin 4) (d : Fin 64) : hcol h d = col h d := Fin.ext (by unfold hcol col; dsimp only; omega)

/-- A score before the mask. -/
def dot (X : Valuation Cert.ReferenceIdeal.τ Cert.ReferenceIdeal.sig (Elt Ideal)) (Q : Fin 256 → ℝ) (b : Fin 2) (h : Fin 4) (j : Fin 8192) : ℝ :=
  (∑ d : Fin 64, Q (col h d) * (lev (kRow X b j) (col h d) * (scaleOf (kRow X b j)).toReal)) * 0.125

theorem weight_eq (hh : Holds m X) (c : Fin 32) (b : Fin 2) (h : Fin 4) (i : Fin 256) (Q : Fin 256 → ℝ)
    (hQ : ∀ f, ∑ e : Fin 512, xR X b (pos c i) e * wqR X e f = ((Q f : ℝ) : EReal)) (s : Fin 32) (k : Fin 256) :
    weight m c b h i s k = if (pos c i).val / 64 % 4 = (pos s k).val / 64 % 4 then Ideal.exp (dot X Q b h (pos s k) : EReal) else 0 := by
  unfold weight
  simp only [hh.x, hh.wq, hh.k, hQ, ofBits_eighth]
  rw [score_kernel (fun d => Q (col h d)) (kRow X b (pos s k)) (col h)]
  exact if_congr (sees_iff c s i k) rfl rfl

theorem score_eq (b : Fin 2) (h : Fin 4) (i j : Fin 8192) (Q : Fin 256 → ℝ)
    (hQ : ∀ f, ∑ e : Fin 512, xR X b i e * wqR X e f = ((Q f : ℝ) : EReal)) :
    score X b h i j = if i.val / 64 % 4 = j.val / 64 % 4 then (dot X Q b h j : EReal) else ⊥ := by
  unfold score
  simp only [hcol_eq, hQ, ofBits_eighth, ofBits_bot]
  rw [score_reference (fun d => Q (col h d)) (kRow X b j) (col h)]
  rfl

theorem out_eq (hh : Holds m X) (hf : Finite X) (c : Fin 32) (b : Fin 2) (i : Fin 256) (e : Fin 512) :
    outAt m c b i e = outR X b (pos c i) e := by
  rw [outV_sum, outR_sum]
  obtain ⟨Q, hQ⟩ := query_real hf b (pos c i)
  refine Finset.sum_congr rfl fun f _ => ?_
  rw [hh.wo]
  refine congrArg (fun z : EReal => z * _) ?_
  have hv : ∀ j : Fin 8192, ((lev (vRow X b j) f * (scaleOf (vRow X b j)).toReal : ℝ) : EReal) = ((lev (vRow X b j) f : ℝ) : EReal) * scaleOf (vRow X b j) :=
    fun j => (lev_mul_scale _ _).symm
  have key := softmax (fun j : Fin 8192 => (pos c i).val / 64 % 4 = j.val / 64 % 4) (dot X Q b (headOf f))
    (fun j => lev (vRow X b j) f * (scaleOf (vRow X b j)).toReal) (pos c i) rfl
  simp only [hv] at key
  have hk : ∀ j, expo X b ⟨f.val / 64, by omega⟩ (pos c i) j = _ := fun j => by
    unfold expo
    simp only [score_eq b _ (pos c i) _ Q hQ, ofBits_bot]
    rfl
  simp only [hk]
  refine Eq.trans ?_ key
  rw [← sum_pos, ← sum_pos]
  refine congrArg₂ Ideal.div ?_ ?_
  · refine Finset.sum_congr rfl fun s _ => Finset.sum_congr rfl fun k _ => ?_
    rw [weight_eq hh c b (headOf f) i Q hQ s k, hh.v, mul_assoc, mul_comm (scaleOf _)]
  · exact Finset.sum_congr rfl fun s _ => Finset.sum_congr rfl fun k _ => weight_eq hh c b (headOf f) i Q hQ s k

end Cert.Tie
-- ==== Proof.Value.Blocks.lean ====
/-
  The claim's hypotheses at an index: the devices' arrays are blocks of the reference's, and what the
  precondition finds below +∞ in magnitude is a real. With them, the devices' results are the blocks of
  the reference's result.
-/
module

public import proofs.«01_k».proof.Defs
public import proofs.«01_k».proof.Proof.Value.Tie
public import Idealize.ShloMosaic.Lib.LayoutAt

@[expose] public section

set_option maxRecDepth 65536

noncomputable section

namespace Cert.Tie

open Idealize.ShloMosaic
open Cert.KernelIdeal.Talk Cert.ReferenceIdeal.Value

/-! ### The precondition -/

theorem pre_facts : Cert.Pre_finite_KernelIdeal.Facts := ⟨by decide, by decide⟩
theorem pre_facts' : Cert.Pre_finite_ReferenceIdeal.Facts := ⟨by decide, by decide⟩

/-- A magnitude below +∞ is a real's. -/
theorem real_of_olt {x : EReal} (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => exact absurd h (by simp [Ideal.cmp])
  | top => exact absurd h (by simp [Ideal.cmp])
  | coe r => exact ⟨r, rfl⟩

section
variable (m : (ℓ : Loc Cert.KernelIdeal.nD Cert.KernelIdeal.τ Cert.KernelIdeal.sig) → Buf (Elt Ideal) ℓ)
  (hp : Cert.Pre_KernelIdeal_finite_KernelIdeal (hPre_finite_KernelIdeal := pre_facts) m)
include hp

theorem xIn_real (c : Fin 32) (b : Fin 2) (i : Fin 256) (e : Fin 512) : ∃ r : ℝ, xIn m c b i e = (r : EReal) :=
  real_of_olt (congrFun (hp c).1 (ix3 b i e : Cert.Pre_finite_KernelIdeal.S2x256x512.Idx))

theorem wqIn_real (c : Fin 32) (e : Fin 512) (f : Fin 256) : ∃ r : ℝ, wqIn m c e f = (r : EReal) :=
  real_of_olt (congrFun (hp c).2 (ix2 e f : Cert.Pre_finite_KernelIdeal.S512x256.Idx))

end

/-! ### The blocks -/

variable {α : Type}

theorem block3 (c : Fin 32) (b : Fin 2) (i : Fin 256) (e : Fin 512) (X : (⟨3, ![2, 8192, 512]⟩ : Shape).Idx → α) :
    Layout.block ⟨3, ![2, 256, 512]⟩ ⟨3, ![2, 8192, 512]⟩ 1 32 c X (by decide) (ix3 b i e : (⟨3, ![2, 256, 512]⟩ : Shape).Idx)
      = X (ix3 b (pos c i) e : (⟨3, ![2, 8192, 512]⟩ : Shape).Idx) := by
  unfold pos
  shard_ext

theorem block4 (c : Fin 32) (b : Fin 2) (i : Fin 256) (h : Fin 4) (d : Fin 64) (X : (⟨4, ![2, 8192, 4, 64]⟩ : Shape).Idx → α) :
    Layout.block ⟨4, ![2, 256, 4, 64]⟩ ⟨4, ![2, 8192, 4, 64]⟩ 1 32 c X (by decide) (ix4 b i h d : (⟨4, ![2, 256, 4, 64]⟩ : Shape).Idx)
      = X (ix4 b (pos c i) h d : (⟨4, ![2, 8192, 4, 64]⟩ : Shape).Idx) := by
  unfold pos
  shard_ext

/-! ### The claim -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Every device's arguments are its blocks of the reference's. -/
def Cut : Prop := ∀ c : Dev Cert.KernelIdeal.nD,
  m ((c.tc : Thread Cert.KernelIdeal.nD Cert.KernelIdeal.τ).loc Cert.KernelIdeal.main_arg0) = Layout.block ⟨3, ![2, 256, 512]⟩ ⟨3, ![2, 8192, 512]⟩ 1 32 c (m' (((0 : Dev Cert.ReferenceIdeal.nD).tc : Thread Cert.ReferenceIdeal.nD Cert.ReferenceIdeal.τ).loc Cert.ReferenceIdeal.main_arg0))
  ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
  ∧ m ((c.tc : Thread Cert.KernelIdeal.nD Cert.KernelIdeal.τ).loc Cert.KernelIdeal.main_arg2) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg2))
  ∧ m ((c.tc : Thread Cert.KernelIdeal.nD Cert.KernelIdeal.τ).loc Cert.KernelIdeal.main_arg3) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg3))
  ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)

/-- The reference's arrays. -/
abbrev whole : Valuation Cert.ReferenceIdeal.τ Cert.ReferenceIdeal.sig (Elt Ideal) := StableHlo.launchContents m' 0

variable {m m'}

theorem holds_of_cut (h : Cut m m') : Holds m (whole m') where
  x c b i e := (congrFun (h c).1 _).trans (block3 c b i e _)
  wq c e f := congrFun (h c).2.1 _
  k c b i := funext fun _ => (congrFun (h c).2.2.1 _).trans (block4 c b i _ _ _)
  v c b i := funext fun _ => (congrFun (h c).2.2.2.1 _).trans (block4 c b i _ _ _)
  wo c f e := congrFun (h c).2.2.2.2 _

theorem finite_of_pre (h : Cut m m') (hp : Cert.Pre_KernelIdeal_finite_KernelIdeal (hPre_finite_KernelIdeal := pre_facts) m) : Finite (whole m') where
  x b i e := by
    have e0 : i = pos ⟨i.val / 256, by omega⟩ ⟨i.val % 256, by omega⟩ := Fin.ext (by unfold pos; dsimp only; omega)
    rw [e0, ← (holds_of_cut h).x]
    exact xIn_real m hp _ b _ e
  wq e f := by
    rw [← (holds_of_cut h).wq 0]
    exact wqIn_real m hp 0 e f

/-- A device's result is its block of the reference's. -/
theorem out_block (h : Cut m m') (hp : Cert.Pre_KernelIdeal_finite_KernelIdeal (hPre_finite_KernelIdeal := pre_facts) m) (c : Dev Cert.KernelIdeal.nD) :
    outV m c = Layout.block ⟨3, ![2, 256, 512]⟩ ⟨3, ![2, 8192, 512]⟩ 1 32 c
      (val2 (whole m') (Proc.devRef .tc Cert.ReferenceIdeal.main_v77)) := by
  funext j
  have ej : j = (ix3 (j 0) (j 1) (j 2) : (⟨3, ![2, 256, 512]⟩ : Shape).Idx) := by
    funext a
    fin_cases a <;> rfl
  rw [ej]
  exact (out_eq (holds_of_cut h) (finite_of_pre h hp) c (j 0) (j 1) (j 2)).trans (block3 c (j 0) (j 1) (j 2) _).symm

end

end Cert.Tie
-- ==== Proof.lean ====
/-
  The certificate: the programs run and end quiescent, and the kernel's values are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Blocks

@[expose] public section

noncomputable section

namespace Cert.Proof

open Idealize.ShloMosaic Idealize.SL.Sem

/-- The kernel runs on every device, leaves its arguments, and ends with every semaphore at zero. -/
theorem kernel_runs : quiescent_Kernel (hKernel := Cert.Kernel.Gen.facts) := fun m g _ =>
  (θ_run _ _ _).mono (fun _ h => ⟨fun c => (h.1 c).2, h.2⟩) (Cert.Kernel.Talk.run_main (F := Bits) m g)

/-- So does the kernel read over the reals. -/
theorem ideal_runs : quiescent_KernelIdeal (hKernelIdeal := Cert.KernelIdeal.Gen.facts) := fun m g _ =>
  (θ_run _ _ _).mono (fun _ h => ⟨fun c => (h.1 c).2, h.2⟩) (Cert.KernelIdeal.Talk.run_main (F := Ideal) m g)

/-- The reference runs and leaves its arguments; it has no semaphore. -/
theorem reference_runs : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The kernel's results are the blocks of the reference's, over the reals. -/
theorem values_agree : algebraic_KernelIdeal_ReferenceIdeal_pre_finite_KernelIdeal (hKernelIdeal := Cert.KernelIdeal.Gen.facts)
    (hReferenceIdeal := Cert.ReferenceIdeal.Gen.facts) (hPre_finite_KernelIdeal := Cert.Tie.pre_facts) := fun m g m' g' hp hc =>
  ⟨Cert.ReferenceIdeal.Value.val2 (Cert.Tie.whole m') (Proc.devRef .tc Cert.ReferenceIdeal.main_v77),
    (θ_run _ _ _).mono (fun _ h c => ⟨(h.1 c).1.trans (Cert.Tie.out_block hc hp c), (h.1 c).2⟩) (Cert.KernelIdeal.Talk.run_main (F := Ideal) m g),
    (θ_run _ _ _).mono (fun _ h => ⟨(h 0).1.trans (Cert.ReferenceIdeal.Value.val2_main_v77 _).symm, (h 0).2⟩)
      (Cert.ReferenceIdeal.Value.run (F := Ideal) m' g')⟩

theorem claim : Cert.Claim := ⟨Cert.Kernel.Gen.facts, Cert.KernelIdeal.Gen.facts, Cert.ReferenceIdeal.Gen.facts, Cert.Tie.pre_facts, Cert.Tie.pre_facts',
  kernel_runs, ideal_runs, fun m g _ => ideal_runs m g trivial, reference_runs, fun m g _ => reference_runs m g trivial, trivial, values_agree⟩

end Cert.Proof

end
